-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_FoxNew (m : (ℓ : Loc Cert.FoxNew.nD Cert.FoxNew.τ Cert.FoxNew.sig) → Buf (Elt Bits) ℓ) : Prop :=
  True

def Pre_FoxNewIdeal (m : (ℓ : Loc Cert.FoxNewIdeal.nD Cert.FoxNewIdeal.τ Cert.FoxNewIdeal.sig) → Buf (Elt Ideal) ℓ) : Prop :=
  True

def Pre_FoxNewRefIdeal (m : (ℓ : Loc Cert.FoxNewRefIdeal.nD Cert.FoxNewRefIdeal.τ Cert.FoxNewRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3)
      ∧ r.2.mem ((c.tc : Thread Cert.AbIn.nD Cert.AbIn.τ).loc Cert.AbIn.main_arg4) = m ((c.tc : Thread Cert.AbIn.nD Cert.AbIn.τ).loc Cert.AbIn.main_arg4)
      ∧ r.2.mem ((c.tc : Thread Cert.AbIn.nD Cert.AbIn.τ).loc Cert.AbIn.main_arg5) = m ((c.tc : Thread Cert.AbIn.nD Cert.AbIn.τ).loc Cert.AbIn.main_arg5)
      ∧ r.2.mem ((c.tc : Thread Cert.AbIn.nD Cert.AbIn.τ).loc Cert.AbIn.main_arg6) = m ((c.tc : Thread Cert.AbIn.nD Cert.AbIn.τ).loc Cert.AbIn.main_arg6))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
      ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
      ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
      ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3)
      ∧ r.2.mem ((c.tc : Thread Cert.AbInRefIdeal.nD Cert.AbInRefIdeal.τ).loc Cert.AbInRefIdeal.main_arg4) = m ((c.tc : Thread Cert.AbInRefIdeal.nD Cert.AbInRefIdeal.τ).loc Cert.AbInRefIdeal.main_arg4)
      ∧ r.2.mem ((c.tc : Thread Cert.AbInRefIdeal.nD Cert.AbInRefIdeal.τ).loc Cert.AbInRefIdeal.main_arg5) = m ((c.tc : Thread Cert.AbInRefIdeal.nD Cert.AbInRefIdeal.τ).loc Cert.AbInRefIdeal.main_arg5)
      ∧ r.2.mem ((c.tc : Thread Cert.AbInRefIdeal.nD Cert.AbInRefIdeal.τ).loc Cert.AbInRefIdeal.main_arg6) = m ((c.tc : Thread Cert.AbInRefIdeal.nD Cert.AbInRefIdeal.τ).loc Cert.AbInRefIdeal.main_arg6))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1)
      ∧ r.2.mem ((c.tc : Thread Cert.FoxIn.nD Cert.FoxIn.τ).loc Cert.FoxIn.main_arg2) = m ((c.tc : Thread Cert.FoxIn.nD Cert.FoxIn.τ).loc Cert.FoxIn.main_arg2)
      ∧ r.2.mem ((c.tc : Thread Cert.FoxIn.nD Cert.FoxIn.τ).loc Cert.FoxIn.main_arg3) = m ((c.tc : Thread Cert.FoxIn.nD Cert.FoxIn.τ).loc Cert.FoxIn.main_arg3)
      ∧ r.2.mem ((c.tc : Thread Cert.FoxIn.nD Cert.FoxIn.τ).loc Cert.FoxIn.main_arg4) = m ((c.tc : Thread Cert.FoxIn.nD Cert.FoxIn.τ).loc Cert.FoxIn.main_arg4)
      ∧ r.2.mem ((c.tc : Thread Cert.FoxIn.nD Cert.FoxIn.τ).loc Cert.FoxIn.main_arg5) = m ((c.tc : Thread Cert.FoxIn.nD Cert.FoxIn.τ).loc Cert.FoxIn.main_arg5))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
      ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2)
      ∧ r.2.mem ((c.tc : Thread Cert.FoxInIdeal.nD Cert.FoxInIdeal.τ).loc Cert.FoxInIdeal.main_arg3) = m ((c.tc : Thread Cert.FoxInIdeal.nD Cert.FoxInIdeal.τ).loc Cert.FoxInIdeal.main_arg3)
      ∧ r.2.mem ((c.tc : Thread Cert.FoxInIdeal.nD Cert.FoxInIdeal.τ).loc Cert.FoxInIdeal.main_arg4) = m ((c.tc : Thread Cert.FoxInIdeal.nD Cert.FoxInIdeal.τ).loc Cert.FoxInIdeal.main_arg4)
      ∧ r.2.mem ((c.tc : Thread Cert.FoxInIdeal.nD Cert.FoxInIdeal.τ).loc Cert.FoxInIdeal.main_arg5) = m ((c.tc : Thread Cert.FoxInIdeal.nD Cert.FoxInIdeal.τ).loc Cert.FoxInIdeal.main_arg5))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1)
      ∧ r.2.mem ((c.tc : Thread Cert.FoxInRefIdeal.nD Cert.FoxInRefIdeal.τ).loc Cert.FoxInRefIdeal.main_arg2) = m ((c.tc : Thread Cert.FoxInRefIdeal.nD Cert.FoxInRefIdeal.τ).loc Cert.FoxInRefIdeal.main_arg2)
      ∧ r.2.mem ((c.tc : Thread Cert.FoxInRefIdeal.nD Cert.FoxInRefIdeal.τ).loc Cert.FoxInRefIdeal.main_arg3) = m ((c.tc : Thread Cert.FoxInRefIdeal.nD Cert.FoxInRefIdeal.τ).loc Cert.FoxInRefIdeal.main_arg3)
      ∧ r.2.mem ((c.tc : Thread Cert.FoxInRefIdeal.nD Cert.FoxInRefIdeal.τ).loc Cert.FoxInRefIdeal.main_arg4) = m ((c.tc : Thread Cert.FoxInRefIdeal.nD Cert.FoxInRefIdeal.τ).loc Cert.FoxInRefIdeal.main_arg4)
      ∧ r.2.mem ((c.tc : Thread Cert.FoxInRefIdeal.nD Cert.FoxInRefIdeal.τ).loc Cert.FoxInRefIdeal.main_arg5) = m ((c.tc : Thread Cert.FoxInRefIdeal.nD Cert.FoxInRefIdeal.τ).loc Cert.FoxInRefIdeal.main_arg5))
      ∧ r.2.sem = fun _ => 0)

def quiescent_FoxNew [hFoxNew : Cert.FoxNew.Facts] : Prop :=
  ∀ (m : (ℓ : Loc Cert.FoxNew.nD Cert.FoxNew.τ Cert.FoxNew.sig) → Buf (Elt Bits) ℓ) (g : Dev Cert.FoxNew.nD → PrngReg), Pre_FoxNew m →
    θ_run (Cert.FoxNew.defs (F := Bits)) (onTc (τ := Cert.FoxNew.τ) (Cert.FoxNew.main (F := Bits))) ⟨m, fun _ => 0, g⟩ (fun r => (∀ c : Dev Cert.FoxNew.nD,
      r.2.mem ((c.tc : Thread Cert.FoxNew.nD Cert.FoxNew.τ).loc Cert.FoxNew.main_arg0) = m ((c.tc : Thread Cert.FoxNew.nD Cert.FoxNew.τ).loc Cert.FoxNew.main_arg0)
      ∧ r.2.mem ((c.tc : Thread Cert.FoxNew.nD Cert.FoxNew.τ).loc Cert.FoxNew.main_arg1) = m ((c.tc : Thread Cert.FoxNew.nD Cert.FoxNew.τ).loc Cert.FoxNew.main_arg1)
      ∧ r.2.mem ((c.tc : Thread Cert.FoxNew.nD Cert.FoxNew.τ).loc Cert.FoxNew.main_arg2) = m ((c.tc : Thread Cert.FoxNew.nD Cert.FoxNew.τ).loc Cert.FoxNew.main_arg2)
      ∧ r.2.mem ((c.tc : Thread Cert.FoxNew.nD Cert.FoxNew.τ).loc Cert.FoxNew.main_arg3) = m ((c.tc : Thread Cert.FoxNew.nD Cert.FoxNew.τ).loc Cert.FoxNew.main_arg3)
      ∧ r.2.mem ((c.tc : Thread Cert.FoxNew.nD Cert.FoxNew.τ).loc Cert.FoxNew.main_arg4) = m ((c.tc : Thread Cert.FoxNew.nD Cert.FoxNew.τ).loc Cert.FoxNew.main_arg4)
      ∧ r.2.mem ((c.tc : Thread Cert.FoxNew.nD Cert.FoxNew.τ).loc Cert.FoxNew.main_arg5) = m ((c.tc : Thread Cert.FoxNew.nD Cert.FoxNew.τ).loc Cert.FoxNew.main_arg5))
      ∧ r.2.sem = fun _ => 0)

def quiescent_FoxNewIdeal [hFoxNewIdeal : Cert.FoxNewIdeal.Facts] : Prop :=
  ∀ (m : (ℓ : Loc Cert.FoxNewIdeal.nD Cert.FoxNewIdeal.τ Cert.FoxNewIdeal.sig) → Buf (Elt Ideal) ℓ) (g : Dev Cert.FoxNewIdeal.nD → PrngReg), Pre_FoxNewIdeal m →
    θ_run (Cert.FoxNewIdeal.defs (F := Ideal)) (onTc (τ := Cert.FoxNewIdeal.τ) (Cert.FoxNewIdeal.main (F := Ideal))) ⟨m, fun _ => 0, g⟩ (fun r => (∀ c : Dev Cert.FoxNewIdeal.nD,
      r.2.mem ((c.tc : Thread Cert.FoxNewIdeal.nD Cert.FoxNewIdeal.τ).loc Cert.FoxNewIdeal.main_arg0) = m ((c.tc : Thread Cert.FoxNewIdeal.nD Cert.FoxNewIdeal.τ).loc Cert.FoxNewIdeal.main_arg0)
      ∧ r.2.mem ((c.tc : Thread Cert.FoxNewIdeal.nD Cert.FoxNewIdeal.τ).loc Cert.FoxNewIdeal.main_arg1) = m ((c.tc : Thread Cert.FoxNewIdeal.nD Cert.FoxNewIdeal.τ).loc Cert.FoxNewIdeal.main_arg1)
      ∧ r.2.mem ((c.tc : Thread Cert.FoxNewIdeal.nD Cert.FoxNewIdeal.τ).loc Cert.FoxNewIdeal.main_arg2) = m ((c.tc : Thread Cert.FoxNewIdeal.nD Cert.FoxNewIdeal.τ).loc Cert.FoxNewIdeal.main_arg2)
      ∧ r.2.mem ((c.tc : Thread Cert.FoxNewIdeal.nD Cert.FoxNewIdeal.τ).loc Cert.FoxNewIdeal.main_arg3) = m ((c.tc : Thread Cert.FoxNewIdeal.nD Cert.FoxNewIdeal.τ).loc Cert.FoxNewIdeal.main_arg3)
      ∧ r.2.mem ((c.tc : Thread Cert.FoxNewIdeal.nD Cert.FoxNewIdeal.τ).loc Cert.FoxNewIdeal.main_arg4) = m ((c.tc : Thread Cert.FoxNewIdeal.nD Cert.FoxNewIdeal.τ).loc Cert.FoxNewIdeal.main_arg4)
      ∧ r.2.mem ((c.tc : Thread Cert.FoxNewIdeal.nD Cert.FoxNewIdeal.τ).loc Cert.FoxNewIdeal.main_arg5) = m ((c.tc : Thread Cert.FoxNewIdeal.nD Cert.FoxNewIdeal.τ).loc Cert.FoxNewIdeal.main_arg5))
      ∧ r.2.sem = fun _ => 0)

def quiescent_FoxNewRefIdeal [hFoxNewRefIdeal : Cert.FoxNewRefIdeal.Facts] : Prop :=
  ∀ (m : (ℓ : Loc Cert.FoxNewRefIdeal.nD Cert.FoxNewRefIdeal.τ Cert.FoxNewRefIdeal.sig) → Buf (Elt Ideal) ℓ) (g : Dev Cert.FoxNewRefIdeal.nD → PrngReg), Pre_FoxNewRefIdeal m →
    θ_run (Cert.FoxNewRefIdeal.defs (F := Ideal)) (onTc (τ := Cert.FoxNewRefIdeal.τ) (Cert.FoxNewRefIdeal.main (F := Ideal))) ⟨m, fun _ => 0, g⟩ (fun r => (∀ c : Dev Cert.FoxNewRefIdeal.nD,
      r.2.mem ((c.tc : Thread Cert.FoxNewRefIdeal.nD Cert.FoxNewRefIdeal.τ).loc Cert.FoxNewRefIdeal.main_arg0) = m ((c.tc : Thread Cert.FoxNewRefIdeal.nD Cert.FoxNewRefIdeal.τ).loc Cert.FoxNewRefIdeal.main_arg0)
      ∧ r.2.mem ((c.tc : Thread Cert.FoxNewRefIdeal.nD Cert.FoxNewRefIdeal.τ).loc Cert.FoxNewRefIdeal.main_arg1) = m ((c.tc : Thread Cert.FoxNewRefIdeal.nD Cert.FoxNewRefIdeal.τ).loc Cert.FoxNewRefIdeal.main_arg1)
      ∧ r.2.mem ((c.tc : Thread Cert.FoxNewRefIdeal.nD Cert.FoxNewRefIdeal.τ).loc Cert.FoxNewRefIdeal.main_arg2) = m ((c.tc : Thread Cert.FoxNewRefIdeal.nD Cert.FoxNewRefIdeal.τ).loc Cert.FoxNewRefIdeal.main_arg2)
      ∧ r.2.mem ((c.tc : Thread Cert.FoxNewRefIdeal.nD Cert.FoxNewRefIdeal.τ).loc Cert.FoxNewRefIdeal.main_arg3) = m ((c.tc : Thread Cert.FoxNewRefIdeal.nD Cert.FoxNewRefIdeal.τ).loc Cert.FoxNewRefIdeal.main_arg3)
      ∧ r.2.mem ((c.tc : Thread Cert.FoxNewRefIdeal.nD Cert.FoxNewRefIdeal.τ).loc Cert.FoxNewRefIdeal.main_arg4) = m ((c.tc : Thread Cert.FoxNewRefIdeal.nD Cert.FoxNewRefIdeal.τ).loc Cert.FoxNewRefIdeal.main_arg4)
      ∧ r.2.mem ((c.tc : Thread Cert.FoxNewRefIdeal.nD Cert.FoxNewRefIdeal.τ).loc Cert.FoxNewRefIdeal.main_arg5) = m ((c.tc : Thread Cert.FoxNewRefIdeal.nD Cert.FoxNewRefIdeal.τ).loc Cert.FoxNewRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v38) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v25) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)
      ∧ m' ((c.tc : Thread Cert.AbInRefIdeal.nD Cert.AbInRefIdeal.τ).loc Cert.AbInRefIdeal.main_arg4) = m ((c.tc : Thread Cert.AbInIdeal.nD Cert.AbInIdeal.τ).loc Cert.AbInIdeal.main_arg4)
      ∧ m' ((c.tc : Thread Cert.AbInRefIdeal.nD Cert.AbInRefIdeal.τ).loc Cert.AbInRefIdeal.main_arg5) = m ((c.tc : Thread Cert.AbInIdeal.nD Cert.AbInIdeal.τ).loc Cert.AbInIdeal.main_arg5)
      ∧ m' ((c.tc : Thread Cert.AbInRefIdeal.nD Cert.AbInRefIdeal.τ).loc Cert.AbInRefIdeal.main_arg6) = m ((c.tc : Thread Cert.AbInIdeal.nD Cert.AbInIdeal.τ).loc Cert.AbInIdeal.main_arg6)) →
    ∃ (v0 : (c : Dev Cert.AbInIdeal.nD) → Buf (Elt Ideal) ((c.tc : Thread Cert.AbInIdeal.nD Cert.AbInIdeal.τ).loc Cert.AbInIdeal.main_v27_0)) (v1 : (c : Dev Cert.AbInIdeal.nD) → Buf (Elt Ideal) ((c.tc : Thread Cert.AbInIdeal.nD Cert.AbInIdeal.τ).loc Cert.AbInIdeal.main_v27_3)) (v2 : (c : Dev Cert.AbInIdeal.nD) → Buf (Elt Ideal) ((c.tc : Thread Cert.AbInIdeal.nD Cert.AbInIdeal.τ).loc Cert.AbInIdeal.main_v27_5)) (v3 : (c : Dev Cert.AbInIdeal.nD) → Buf (Elt Ideal) ((c.tc : Thread Cert.AbInIdeal.nD Cert.AbInIdeal.τ).loc Cert.AbInIdeal.main_v27_7)) (v4 : (c : Dev Cert.AbInIdeal.nD) → Buf (Elt Ideal) ((c.tc : Thread Cert.AbInIdeal.nD Cert.AbInIdeal.τ).loc Cert.AbInIdeal.main_v27_8)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v27_0) = v0 c
          ∧ r.2.mem ((c.tc : Thread Cert.AbInIdeal.nD Cert.AbInIdeal.τ).loc Cert.AbInIdeal.main_v27_3) = v1 c
          ∧ r.2.mem ((c.tc : Thread Cert.AbInIdeal.nD Cert.AbInIdeal.τ).loc Cert.AbInIdeal.main_v27_5) = v2 c
          ∧ r.2.mem ((c.tc : Thread Cert.AbInIdeal.nD Cert.AbInIdeal.τ).loc Cert.AbInIdeal.main_v27_7) = v3 c
          ∧ r.2.mem ((c.tc : Thread Cert.AbInIdeal.nD Cert.AbInIdeal.τ).loc Cert.AbInIdeal.main_v27_8) = v4 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
          ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4)
          ∧ r.2.mem ((c.tc : Thread Cert.AbInIdeal.nD Cert.AbInIdeal.τ).loc Cert.AbInIdeal.main_arg5) = m ((c.tc : Thread Cert.AbInIdeal.nD Cert.AbInIdeal.τ).loc Cert.AbInIdeal.main_arg5)
          ∧ r.2.mem ((c.tc : Thread Cert.AbInIdeal.nD Cert.AbInIdeal.τ).loc Cert.AbInIdeal.main_arg6) = m ((c.tc : Thread Cert.AbInIdeal.nD Cert.AbInIdeal.τ).loc Cert.AbInIdeal.main_arg6))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v27) = v0 c
          ∧ r.2.mem ((c.tc : Thread Cert.AbInRefIdeal.nD Cert.AbInRefIdeal.τ).loc Cert.AbInRefIdeal.main_v37) = v1 c
          ∧ r.2.mem ((c.tc : Thread Cert.AbInRefIdeal.nD Cert.AbInRefIdeal.τ).loc Cert.AbInRefIdeal.main_v40) = v2 c
          ∧ r.2.mem ((c.tc : Thread Cert.AbInRefIdeal.nD Cert.AbInRefIdeal.τ).loc Cert.AbInRefIdeal.main_v23) = v3 c
          ∧ r.2.mem ((c.tc : Thread Cert.AbInRefIdeal.nD Cert.AbInRefIdeal.τ).loc Cert.AbInRefIdeal.main_v34) = v4 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3)
          ∧ r.2.mem ((c.tc : Thread Cert.AbInRefIdeal.nD Cert.AbInRefIdeal.τ).loc Cert.AbInRefIdeal.main_arg4) = m' ((c.tc : Thread Cert.AbInRefIdeal.nD Cert.AbInRefIdeal.τ).loc Cert.AbInRefIdeal.main_arg4)
          ∧ r.2.mem ((c.tc : Thread Cert.AbInRefIdeal.nD Cert.AbInRefIdeal.τ).loc Cert.AbInRefIdeal.main_arg5) = m' ((c.tc : Thread Cert.AbInRefIdeal.nD Cert.AbInRefIdeal.τ).loc Cert.AbInRefIdeal.main_arg5)
          ∧ r.2.mem ((c.tc : Thread Cert.AbInRefIdeal.nD Cert.AbInRefIdeal.τ).loc Cert.AbInRefIdeal.main_arg6) = m' ((c.tc : Thread Cert.AbInRefIdeal.nD Cert.AbInRefIdeal.τ).loc Cert.AbInRefIdeal.main_arg6))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)
      ∧ m' ((c.tc : Thread Cert.FoxInRefIdeal.nD Cert.FoxInRefIdeal.τ).loc Cert.FoxInRefIdeal.main_arg2) = m ((c.tc : Thread Cert.FoxInIdeal.nD Cert.FoxInIdeal.τ).loc Cert.FoxInIdeal.main_arg2)
      ∧ m' ((c.tc : Thread Cert.FoxInRefIdeal.nD Cert.FoxInRefIdeal.τ).loc Cert.FoxInRefIdeal.main_arg3) = m ((c.tc : Thread Cert.FoxInIdeal.nD Cert.FoxInIdeal.τ).loc Cert.FoxInIdeal.main_arg3)
      ∧ m' ((c.tc : Thread Cert.FoxInRefIdeal.nD Cert.FoxInRefIdeal.τ).loc Cert.FoxInRefIdeal.main_arg4) = m ((c.tc : Thread Cert.FoxInIdeal.nD Cert.FoxInIdeal.τ).loc Cert.FoxInIdeal.main_arg4)
      ∧ m' ((c.tc : Thread Cert.FoxInRefIdeal.nD Cert.FoxInRefIdeal.τ).loc Cert.FoxInRefIdeal.main_arg5) = m ((c.tc : Thread Cert.FoxInIdeal.nD Cert.FoxInIdeal.τ).loc Cert.FoxInIdeal.main_arg5)) →
    ∃ (v0 : (c : Dev Cert.FoxInIdeal.nD) → Buf (Elt Ideal) ((c.tc : Thread Cert.FoxInIdeal.nD Cert.FoxInIdeal.τ).loc Cert.FoxInIdeal.main_v258)) (v1 : (c : Dev Cert.FoxInIdeal.nD) → Buf (Elt Ideal) ((c.tc : Thread Cert.FoxInIdeal.nD Cert.FoxInIdeal.τ).loc Cert.FoxInIdeal.main_v260)) (v2 : (c : Dev Cert.FoxInIdeal.nD) → Buf (Elt Ideal) ((c.tc : Thread Cert.FoxInIdeal.nD Cert.FoxInIdeal.τ).loc Cert.FoxInIdeal.main_v261)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v258) = v0 c
          ∧ r.2.mem ((c.tc : Thread Cert.FoxInIdeal.nD Cert.FoxInIdeal.τ).loc Cert.FoxInIdeal.main_v260) = v1 c
          ∧ r.2.mem ((c.tc : Thread Cert.FoxInIdeal.nD Cert.FoxInIdeal.τ).loc Cert.FoxInIdeal.main_v261) = v2 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1)
          ∧ r.2.mem ((c.tc : Thread Cert.FoxInIdeal.nD Cert.FoxInIdeal.τ).loc Cert.FoxInIdeal.main_arg2) = m ((c.tc : Thread Cert.FoxInIdeal.nD Cert.FoxInIdeal.τ).loc Cert.FoxInIdeal.main_arg2)
          ∧ r.2.mem ((c.tc : Thread Cert.FoxInIdeal.nD Cert.FoxInIdeal.τ).loc Cert.FoxInIdeal.main_arg3) = m ((c.tc : Thread Cert.FoxInIdeal.nD Cert.FoxInIdeal.τ).loc Cert.FoxInIdeal.main_arg3)
          ∧ r.2.mem ((c.tc : Thread Cert.FoxInIdeal.nD Cert.FoxInIdeal.τ).loc Cert.FoxInIdeal.main_arg4) = m ((c.tc : Thread Cert.FoxInIdeal.nD Cert.FoxInIdeal.τ).loc Cert.FoxInIdeal.main_arg4)
          ∧ r.2.mem ((c.tc : Thread Cert.FoxInIdeal.nD Cert.FoxInIdeal.τ).loc Cert.FoxInIdeal.main_arg5) = m ((c.tc : Thread Cert.FoxInIdeal.nD Cert.FoxInIdeal.τ).loc Cert.FoxInIdeal.main_arg5))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v24) = v0 c
          ∧ r.2.mem ((c.tc : Thread Cert.FoxInRefIdeal.nD Cert.FoxInRefIdeal.τ).loc Cert.FoxInRefIdeal.main_v25) = v1 c
          ∧ r.2.mem ((c.tc : Thread Cert.FoxInRefIdeal.nD Cert.FoxInRefIdeal.τ).loc Cert.FoxInRefIdeal.main_v29) = v2 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1)
          ∧ r.2.mem ((c.tc : Thread Cert.FoxInRefIdeal.nD Cert.FoxInRefIdeal.τ).loc Cert.FoxInRefIdeal.main_arg2) = m' ((c.tc : Thread Cert.FoxInRefIdeal.nD Cert.FoxInRefIdeal.τ).loc Cert.FoxInRefIdeal.main_arg2)
          ∧ r.2.mem ((c.tc : Thread Cert.FoxInRefIdeal.nD Cert.FoxInRefIdeal.τ).loc Cert.FoxInRefIdeal.main_arg3) = m' ((c.tc : Thread Cert.FoxInRefIdeal.nD Cert.FoxInRefIdeal.τ).loc Cert.FoxInRefIdeal.main_arg3)
          ∧ r.2.mem ((c.tc : Thread Cert.FoxInRefIdeal.nD Cert.FoxInRefIdeal.τ).loc Cert.FoxInRefIdeal.main_arg4) = m' ((c.tc : Thread Cert.FoxInRefIdeal.nD Cert.FoxInRefIdeal.τ).loc Cert.FoxInRefIdeal.main_arg4)
          ∧ r.2.mem ((c.tc : Thread Cert.FoxInRefIdeal.nD Cert.FoxInRefIdeal.τ).loc Cert.FoxInRefIdeal.main_arg5) = m' ((c.tc : Thread Cert.FoxInRefIdeal.nD Cert.FoxInRefIdeal.τ).loc Cert.FoxInRefIdeal.main_arg5))

def preserves_FoxNew_FoxNewIdeal : Prop :=
  True

def algebraic_FoxNewIdeal_FoxNewRefIdeal [hFoxNewIdeal : Cert.FoxNewIdeal.Facts] [hFoxNewRefIdeal : Cert.FoxNewRefIdeal.Facts] : Prop :=
  ∀ (m : (ℓ : Loc Cert.FoxNewIdeal.nD Cert.FoxNewIdeal.τ Cert.FoxNewIdeal.sig) → Buf (Elt Ideal) ℓ) (g : Dev Cert.FoxNewIdeal.nD → PrngReg)
    (m' : (ℓ : Loc Cert.FoxNewRefIdeal.nD Cert.FoxNewRefIdeal.τ Cert.FoxNewRefIdeal.sig) → Buf (Elt Ideal) ℓ) (g' : Dev Cert.FoxNewRefIdeal.nD → PrngReg), Pre_FoxNewIdeal m →
    (∀ c : Dev Cert.FoxNewIdeal.nD,
      m' ((c.tc : Thread Cert.FoxNewRefIdeal.nD Cert.FoxNewRefIdeal.τ).loc Cert.FoxNewRefIdeal.main_arg0) = m ((c.tc : Thread Cert.FoxNewIdeal.nD Cert.FoxNewIdeal.τ).loc Cert.FoxNewIdeal.main_arg0)
      ∧ m' ((c.tc : Thread Cert.FoxNewRefIdeal.nD Cert.FoxNewRefIdeal.τ).loc Cert.FoxNewRefIdeal.main_arg1) = m ((c.tc : Thread Cert.FoxNewIdeal.nD Cert.FoxNewIdeal.τ).loc Cert.FoxNewIdeal.main_arg1)
      ∧ m' ((c.tc : Thread Cert.FoxNewRefIdeal.nD Cert.FoxNewRefIdeal.τ).loc Cert.FoxNewRefIdeal.main_arg2) = m ((c.tc : Thread Cert.FoxNewIdeal.nD Cert.FoxNewIdeal.τ).loc Cert.FoxNewIdeal.main_arg2)
      ∧ m' ((c.tc : Thread Cert.FoxNewRefIdeal.nD Cert.FoxNewRefIdeal.τ).loc Cert.FoxNewRefIdeal.main_arg3) = m ((c.tc : Thread Cert.FoxNewIdeal.nD Cert.FoxNewIdeal.τ).loc Cert.FoxNewIdeal.main_arg3)
      ∧ m' ((c.tc : Thread Cert.FoxNewRefIdeal.nD Cert.FoxNewRefIdeal.τ).loc Cert.FoxNewRefIdeal.main_arg4) = m ((c.tc : Thread Cert.FoxNewIdeal.nD Cert.FoxNewIdeal.τ).loc Cert.FoxNewIdeal.main_arg4)
      ∧ m' ((c.tc : Thread Cert.FoxNewRefIdeal.nD Cert.FoxNewRefIdeal.τ).loc Cert.FoxNewRefIdeal.main_arg5) = m ((c.tc : Thread Cert.FoxNewIdeal.nD Cert.FoxNewIdeal.τ).loc Cert.FoxNewIdeal.main_arg5)) →
    ∃ (v0 : (c : Dev Cert.FoxNewIdeal.nD) → Buf (Elt Ideal) ((c.tc : Thread Cert.FoxNewIdeal.nD Cert.FoxNewIdeal.τ).loc Cert.FoxNewIdeal.main_v272)) (v1 : (c : Dev Cert.FoxNewIdeal.nD) → Buf (Elt Ideal) ((c.tc : Thread Cert.FoxNewIdeal.nD Cert.FoxNewIdeal.τ).loc Cert.FoxNewIdeal.main_v273)) (v2 : (c : Dev Cert.FoxNewIdeal.nD) → Buf (Elt Ideal) ((c.tc : Thread Cert.FoxNewIdeal.nD Cert.FoxNewIdeal.τ).loc Cert.FoxNewIdeal.main_v274)),
      θ_run (Cert.FoxNewIdeal.defs (F := Ideal)) (onTc (τ := Cert.FoxNewIdeal.τ) (Cert.FoxNewIdeal.main (F := Ideal))) ⟨m, fun _ => 0, g⟩ (fun r => ∀ c : Dev Cert.FoxNewIdeal.nD,
          r.2.mem ((c.tc : Thread Cert.FoxNewIdeal.nD Cert.FoxNewIdeal.τ).loc Cert.FoxNewIdeal.main_v272) = v0 c
          ∧ r.2.mem ((c.tc : Thread Cert.FoxNewIdeal.nD Cert.FoxNewIdeal.τ).loc Cert.FoxNewIdeal.main_v273) = v1 c
          ∧ r.2.mem ((c.tc : Thread Cert.FoxNewIdeal.nD Cert.FoxNewIdeal.τ).loc Cert.FoxNewIdeal.main_v274) = v2 c
          ∧ r.2.mem ((c.tc : Thread Cert.FoxNewIdeal.nD Cert.FoxNewIdeal.τ).loc Cert.FoxNewIdeal.main_arg0) = m ((c.tc : Thread Cert.FoxNewIdeal.nD Cert.FoxNewIdeal.τ).loc Cert.FoxNewIdeal.main_arg0)
          ∧ r.2.mem ((c.tc : Thread Cert.FoxNewIdeal.nD Cert.FoxNewIdeal.τ).loc Cert.FoxNewIdeal.main_arg1) = m ((c.tc : Thread Cert.FoxNewIdeal.nD Cert.FoxNewIdeal.τ).loc Cert.FoxNewIdeal.main_arg1)
          ∧ r.2.mem ((c.tc : Thread Cert.FoxNewIdeal.nD Cert.FoxNewIdeal.τ).loc Cert.FoxNewIdeal.main_arg2) = m ((c.tc : Thread Cert.FoxNewIdeal.nD Cert.FoxNewIdeal.τ).loc Cert.FoxNewIdeal.main_arg2)
          ∧ r.2.mem ((c.tc : Thread Cert.FoxNewIdeal.nD Cert.FoxNewIdeal.τ).loc Cert.FoxNewIdeal.main_arg3) = m ((c.tc : Thread Cert.FoxNewIdeal.nD Cert.FoxNewIdeal.τ).loc Cert.FoxNewIdeal.main_arg3)
          ∧ r.2.mem ((c.tc : Thread Cert.FoxNewIdeal.nD Cert.FoxNewIdeal.τ).loc Cert.FoxNewIdeal.main_arg4) = m ((c.tc : Thread Cert.FoxNewIdeal.nD Cert.FoxNewIdeal.τ).loc Cert.FoxNewIdeal.main_arg4)
          ∧ r.2.mem ((c.tc : Thread Cert.FoxNewIdeal.nD Cert.FoxNewIdeal.τ).loc Cert.FoxNewIdeal.main_arg5) = m ((c.tc : Thread Cert.FoxNewIdeal.nD Cert.FoxNewIdeal.τ).loc Cert.FoxNewIdeal.main_arg5))
      ∧ θ_run (Cert.FoxNewRefIdeal.defs (F := Ideal)) (onTc (τ := Cert.FoxNewRefIdeal.τ) (Cert.FoxNewRefIdeal.main (F := Ideal))) ⟨m', fun _ => 0, g'⟩ (fun r => ∀ c : Dev Cert.FoxNewRefIdeal.nD,
          r.2.mem ((c.tc : Thread Cert.FoxNewRefIdeal.nD Cert.FoxNewRefIdeal.τ).loc Cert.FoxNewRefIdeal.main_v24) = v0 c
          ∧ r.2.mem ((c.tc : Thread Cert.FoxNewRefIdeal.nD Cert.FoxNewRefIdeal.τ).loc Cert.FoxNewRefIdeal.main_v25) = v1 c
          ∧ r.2.mem ((c.tc : Thread Cert.FoxNewRefIdeal.nD Cert.FoxNewRefIdeal.τ).loc Cert.FoxNewRefIdeal.main_v29) = v2 c
          ∧ r.2.mem ((c.tc : Thread Cert.FoxNewRefIdeal.nD Cert.FoxNewRefIdeal.τ).loc Cert.FoxNewRefIdeal.main_arg0) = m' ((c.tc : Thread Cert.FoxNewRefIdeal.nD Cert.FoxNewRefIdeal.τ).loc Cert.FoxNewRefIdeal.main_arg0)
          ∧ r.2.mem ((c.tc : Thread Cert.FoxNewRefIdeal.nD Cert.FoxNewRefIdeal.τ).loc Cert.FoxNewRefIdeal.main_arg1) = m' ((c.tc : Thread Cert.FoxNewRefIdeal.nD Cert.FoxNewRefIdeal.τ).loc Cert.FoxNewRefIdeal.main_arg1)
          ∧ r.2.mem ((c.tc : Thread Cert.FoxNewRefIdeal.nD Cert.FoxNewRefIdeal.τ).loc Cert.FoxNewRefIdeal.main_arg2) = m' ((c.tc : Thread Cert.FoxNewRefIdeal.nD Cert.FoxNewRefIdeal.τ).loc Cert.FoxNewRefIdeal.main_arg2)
          ∧ r.2.mem ((c.tc : Thread Cert.FoxNewRefIdeal.nD Cert.FoxNewRefIdeal.τ).loc Cert.FoxNewRefIdeal.main_arg3) = m' ((c.tc : Thread Cert.FoxNewRefIdeal.nD Cert.FoxNewRefIdeal.τ).loc Cert.FoxNewRefIdeal.main_arg3)
          ∧ r.2.mem ((c.tc : Thread Cert.FoxNewRefIdeal.nD Cert.FoxNewRefIdeal.τ).loc Cert.FoxNewRefIdeal.main_arg4) = m' ((c.tc : Thread Cert.FoxNewRefIdeal.nD Cert.FoxNewRefIdeal.τ).loc Cert.FoxNewRefIdeal.main_arg4)
          ∧ r.2.mem ((c.tc : Thread Cert.FoxNewRefIdeal.nD Cert.FoxNewRefIdeal.τ).loc Cert.FoxNewRefIdeal.main_arg5) = m' ((c.tc : Thread Cert.FoxNewRefIdeal.nD Cert.FoxNewRefIdeal.τ).loc Cert.FoxNewRefIdeal.main_arg5))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMid : Cert.Mid.Facts) (hMidIdeal : Cert.MidIdeal.Facts) (hMidRefIdeal : Cert.MidRefIdeal.Facts) (hProj : Cert.Proj.Facts) (hProjIdeal : Cert.ProjIdeal.Facts) (hProjRefIdeal : Cert.ProjRefIdeal.Facts) (hAbIn : Cert.AbIn.Facts) (hAbInIdeal : Cert.AbInIdeal.Facts) (hAbInRefIdeal : Cert.AbInRefIdeal.Facts) (hFoxIn : Cert.FoxIn.Facts) (hFoxInIdeal : Cert.FoxInIdeal.Facts) (hFoxInRefIdeal : Cert.FoxInRefIdeal.Facts) (hFoxNew : Cert.FoxNew.Facts) (hFoxNewIdeal : Cert.FoxNewIdeal.Facts) (hFoxNewRefIdeal : Cert.FoxNewRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Mid (hMid := hMid)
    ∧ quiescent_MidIdeal (hMidIdeal := hMidIdeal)
    ∧ quiescent_MidRefIdeal (hMidRefIdeal := hMidRefIdeal)
    ∧ quiescent_Proj (hProj := hProj)
    ∧ quiescent_ProjIdeal (hProjIdeal := hProjIdeal)
    ∧ quiescent_ProjRefIdeal (hProjRefIdeal := hProjRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_FoxNew (hFoxNew := hFoxNew)
    ∧ quiescent_FoxNewIdeal (hFoxNewIdeal := hFoxNewIdeal)
    ∧ quiescent_FoxNewRefIdeal (hFoxNewRefIdeal := hFoxNewRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_Mid_MidIdeal
    ∧ algebraic_MidIdeal_MidRefIdeal (hMidIdeal := hMidIdeal) (hMidRefIdeal := hMidRefIdeal)
    ∧ preserves_Proj_ProjIdeal
    ∧ algebraic_ProjIdeal_ProjRefIdeal (hProjIdeal := hProjIdeal) (hProjRefIdeal := hProjRefIdeal)
    ∧ preserves_AbIn_AbInIdeal
    ∧ algebraic_AbInIdeal_AbInRefIdeal (hAbInIdeal := hAbInIdeal) (hAbInRefIdeal := hAbInRefIdeal)
    ∧ preserves_FoxIn_FoxInIdeal
    ∧ algebraic_FoxInIdeal_FoxInRefIdeal (hFoxInIdeal := hFoxInIdeal) (hFoxInRefIdeal := hFoxInRefIdeal)
    ∧ preserves_FoxNew_FoxNewIdeal
    ∧ algebraic_FoxNewIdeal_FoxNewRefIdeal (hFoxNewIdeal := hFoxNewIdeal) (hFoxNewRefIdeal := hFoxNewRefIdeal)
-- ==== Pre_finite.lean ====
abbrev S16x2048x16x64 : Shape := ⟨4, ![16, 2048, 16, 64]⟩
abbrev S16x2048x16 : Shape := ⟨3, ![16, 2048, 16]⟩
abbrev S_ : Shape := ⟨0, ![]⟩

class Facts : Prop where
  bcast_S_S16x2048x16x64 : S_.BroadcastsInDim S16x2048x16x64 (![] : Fin 0 → Fin S16x2048x16x64.rank)
  bcast_S_S16x2048x16 : S_.BroadcastsInDim S16x2048x16 (![] : Fin 0 → Fin S16x2048x16.rank)

variable [Facts]

def fn {F : FTy → Type} [FloatOps F] (main_arg0 : FVec F S16x2048x16x64 .f32) (main_arg1 : FVec F S16x2048x16x64 .f32) (main_arg2 : FVec F S16x2048x16x64 .f32) (main_arg3 : FVec F S16x2048x16 .f32) : IVec S16x2048x16x64 1 × IVec S16x2048x16x64 1 × IVec S16x2048x16 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_v3 : FVec F S16x2048x16x64 .f32 := Host.absf main_arg1
  let main_cst_0 : FVec F S_ .f32 := constant S_ .f32 0x7F800000#32
  let main_v4 : FVec F S16x2048x16x64 .f32 := broadcastInDim S16x2048x16x64 ![] bcast_S_S16x2048x16x64 main_cst_0
  let main_v5 : IVec S16x2048x16x64 1 := cmpf .olt main_v3 main_v4
  let main_v6 : FVec F S16x2048x16 .f32 := Host.absf main_arg3
  let main_cst_1 : FVec F S_ .f32 := constant S_ .f32 0x7F800000#32
  let main_v7 : FVec F S16x2048x16 .f32 := broadcastInDim S16x2048x16 ![] bcast_S_S16x2048x16 main_cst_1
  let main_v8 : IVec S16x2048x16 1 := cmpf .olt main_v6 main_v7
  (main_v2, main_v5, main_v8)
-- ==== Kernel.lean ====
abbrev S16x2048x16x64 : Shape := ⟨4, ![16, 2048, 16, 64]⟩
abbrev S16x2048x16 : Shape := ⟨3, ![16, 2048, 16]⟩
abbrev S_ : Shape := ⟨0, ![]⟩
abbrev S16x2048x16x3 : Shape := ⟨4, ![16, 2048, 16, 3]⟩
abbrev S16x2048x16x58 : Shape := ⟨4, ![16, 2048, 16, 58]⟩
abbrev S16x2048x16x1 : Shape := ⟨4, ![16, 2048, 16, 1]⟩
abbrev S16x2048x16x128 : Shape := ⟨4, ![16, 2048, 16, 128]⟩
abbrev S16x2048x2048 : Shape := ⟨3, ![16, 2048, 2048]⟩
abbrev S16x16x128x2048 : Shape := ⟨4, ![16, 16, 128, 2048]⟩
abbrev S16x2048x1024 : Shape := ⟨3, ![16, 2048, 1024]⟩
abbrev S1x512x2048 : Shape := ⟨3, ![1, 512, 2048]⟩
abbrev S1x2048x512 : Shape := ⟨3, ![1, 2048, 512]⟩
abbrev S1x512x1024 : Shape := ⟨3, ![1, 512, 1024]⟩
abbrev S16x512x128 : Shape := ⟨3, ![16, 512, 128]⟩
abbrev S512x2048 : Shape := ⟨2, ![512, 2048]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S512x64 : Shape := ⟨2, ![512, 64]⟩

abbrev nBuf : Space → Nat
  | .hbm => 36
  | .vmem => 10
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16x2048x16, .f32⟩
  | .hbm, ⟨4, _⟩ => ⟨S16x2048x16, .bf16⟩
  | .hbm, ⟨5, _⟩ => ⟨S16x2048x16, .f32⟩
  | .hbm, ⟨6, _⟩ => ⟨S16x2048x16, .f32⟩
  | .hbm, ⟨7, _⟩ => ⟨S16x2048x16, .bf16⟩
  | .hbm, ⟨8, _⟩ => ⟨S16x2048x16, .f32⟩
  | .hbm, ⟨9, _⟩ => ⟨S16x2048x16, .f32⟩
  | .hbm, ⟨10, _⟩ => ⟨S16x2048x16, .f32⟩
  | .hbm, ⟨11, _⟩ => ⟨S16x2048x16, .bf16⟩
  | .hbm, ⟨12, _⟩ => ⟨S16x2048x16, .f32⟩
  | .hbm, ⟨13, _⟩ => ⟨S_, .f32⟩
  | .hbm, ⟨14, _⟩ => ⟨S16x2048x16x3, .f32⟩
  | .hbm, ⟨15, _⟩ => ⟨S_, .f32⟩
  | .hbm, ⟨16, _⟩ => ⟨S16x2048x16x58, .f32⟩
  | .hbm, ⟨17, _⟩ => ⟨S16x2048x16x1, .f32⟩
  | .hbm, ⟨18, _⟩ => ⟨S16x2048x16x1, .f32⟩
  | .hbm, ⟨19, _⟩ => ⟨S16x2048x16x1, .f32⟩
  | .hbm, ⟨20, _⟩ => ⟨S16x2048x16x3, .f32⟩
  | .hbm, ⟨21, _⟩ => ⟨S16x2048x16x128, .f32⟩
  | .hbm, ⟨22, _⟩ => ⟨S16x2048x2048, .f32⟩
  | .hbm, ⟨23, _⟩ => ⟨S16x2048x2048, .bf16⟩
  | .hbm, ⟨24, _⟩ => ⟨S16x2048x16x3, .f32⟩
  | .hbm, ⟨25, _⟩ => ⟨S16x2048x16x128, .f32⟩
  | .hbm, ⟨26, _⟩ => ⟨S16x16x128x2048, .f32⟩
  | .hbm, ⟨27, _⟩ => ⟨S16x2048x2048, .f32⟩
  | .hbm, ⟨28, _⟩ => ⟨S16x2048x2048, .bf16⟩
  | .hbm, ⟨29, _⟩ => ⟨S_, .f32⟩
  | .hbm, ⟨30, _⟩ => ⟨S16x2048x16x64, .f32⟩
  | .hbm, ⟨31, _⟩ => ⟨S16x2048x16x128, .f32⟩
  | .hbm, ⟨32, _⟩ => ⟨S16x16x128x2048, .f32⟩
  | .hbm, ⟨33, _⟩ => ⟨S16x2048x2048, .f32⟩
  | .hbm, ⟨34, _⟩ => ⟨S16x2048x2048, .bf16⟩
  | .hbm, ⟨35, _⟩ => ⟨S16x2048x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S16x512x128, .f32⟩
  | .local _ .vmem, ⟨9, _⟩ => ⟨S512x2048, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16x2048x16x64 : Shape := ⟨4, ![16, 2048, 16, 64]⟩
abbrev S16x2048x16 : Shape := ⟨3, ![16, 2048, 16]⟩
abbrev S16x16x2048 : Shape := ⟨3, ![16, 16, 2048]⟩
abbrev S16x16x2048x2048 : Shape := ⟨4, ![16, 16, 2048, 2048]⟩
abbrev S16x16x2048x1 : Shape := ⟨4, ![16, 16, 2048, 1]⟩
abbrev S16x16x1x2048 : Shape := ⟨4, ![16, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x16x64x2048 : Shape := ⟨4, ![16, 16, 64, 2048]⟩
abbrev S16x2048x1024 : Shape := ⟨3, ![16, 2048, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16x2048x16, .f32⟩
  | .hbm, ⟨4, _⟩ => ⟨S16x16x2048, .f32⟩
  | .hbm, ⟨5, _⟩ => ⟨S16x16x2048x2048, .f32⟩
  | .hbm, ⟨6, _⟩ => ⟨S16x16x2048x1, .f32⟩
  | .hbm, ⟨7, _⟩ => ⟨S16x16x2048x2048, .f32⟩
  | .hbm, ⟨8, _⟩ => ⟨S16x16x2048x2048, .f32⟩
  | .hbm, ⟨9, _⟩ => ⟨S16x16x1x2048, .f32⟩
  | .hbm, ⟨10, _⟩ => ⟨S16x16x2048x2048, .f32⟩
  | .hbm, ⟨11, _⟩ => ⟨S16x16x2048x2048, .f32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x16x2048x2048, .i1⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S16x16x2048, .f32⟩
  | .hbm, ⟨25, _⟩ => ⟨S_, .f32⟩
  | .hbm, ⟨26, _⟩ => ⟨S16x16x2048, .f32⟩
  | .hbm, ⟨27, _⟩ => ⟨S16x16x2048, .f32⟩
  | .hbm, ⟨28, _⟩ => ⟨S16x16x2048x1, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S_, .f32⟩
  | .hbm, ⟨33, _⟩ => ⟨S16x16x2048, .f32⟩
  | .hbm, ⟨34, _⟩ => ⟨S16x16x2048x1, .f32⟩
  | .hbm, ⟨35, _⟩ => ⟨S16x16x2048x2048, .f32⟩
  | .hbm, ⟨36, _⟩ => ⟨S16x16x2048x2048, .f32⟩
  | .hbm, ⟨37, _⟩ => ⟨S16x16x64x2048, .f32⟩
  | .hbm, ⟨38, _⟩ => ⟨S16x2048x16x64, .f32⟩
  | .hbm, ⟨39, _⟩ => ⟨S16x2048x1024, .f32⟩
  | .hbm, ⟨40, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Mlp.lean ====
abbrev S16x2048x1024 : Shape := ⟨3, ![16, 2048, 1024]⟩
abbrev S1024 : Shape := ⟨1, ![1024]⟩
abbrev S16x1x1024 : Shape := ⟨3, ![16, 1, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpRefIdeal.lean ====
abbrev S16x2048x1024 : Shape := ⟨3, ![16, 2048, 1024]⟩
abbrev S1024 : Shape := ⟨1, ![1024]⟩
abbrev S16x1x1024 : Shape := ⟨3, ![16, 1, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x4096, .f32⟩
  | .hbm, ⟨32, _⟩ => ⟨S_, .f32⟩
  | .hbm, ⟨33, _⟩ => ⟨S16x2048x4096, .f32⟩
  | .hbm, ⟨34, _⟩ => ⟨S16x2048x4096, .f32⟩
  | .hbm, ⟨35, _⟩ => ⟨S16x2048x4096, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Mid.lean ====
abbrev S16x2048x1024 : Shape := ⟨3, ![16, 2048, 1024]⟩
abbrev S1024 : Shape := ⟨1, ![1024]⟩
abbrev S16x1x1024 : Shape := ⟨3, ![16, 1, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidRefIdeal.lean ====
abbrev S16x2048x1024 : Shape := ⟨3, ![16, 2048, 1024]⟩
abbrev S1024 : Shape := ⟨1, ![1024]⟩
abbrev S16x1x1024 : Shape := ⟨3, ![16, 1, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x4096, .f32⟩
  | .hbm, ⟨32, _⟩ => ⟨S_, .f32⟩
  | .hbm, ⟨33, _⟩ => ⟨S16x2048x4096, .f32⟩
  | .hbm, ⟨34, _⟩ => ⟨S16x2048x4096, .f32⟩
  | .hbm, ⟨35, _⟩ => ⟨S16x2048x4096, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proj.lean ====
abbrev S16x2048x1024 : Shape := ⟨3, ![16, 2048, 1024]⟩
abbrev S1024x1024 : Shape := ⟨2, ![1024, 1024]⟩
abbrev S16x1x1024 : Shape := ⟨3, ![16, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x1x1024, .f32⟩
  | .hbm, ⟨4, _⟩ => ⟨S1024x1024, .bf16⟩
  | .hbm, ⟨5, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S16x2048x1024 : Shape := ⟨3, ![16, 2048, 1024]⟩
abbrev S1024x1024 : Shape := ⟨2, ![1024, 1024]⟩
abbrev S16x1x1024 : Shape := ⟨3, ![16, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S16x1x1024, .f32⟩
  | .hbm, ⟨4, _⟩ => ⟨S16x2048x1024, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AbIn.lean ====
abbrev S16x2048x1024 : Shape := ⟨3, ![16, 2048, 1024]⟩
abbrev S1024 : Shape := ⟨1, ![1024]⟩
abbrev S16x1x1024 : Shape := ⟨3, ![16, 1, 1024]⟩
abbrev S1024x6160 : Shape := ⟨2, ![1024, 6160]⟩
abbrev S16x256 : Shape := ⟨2, ![16, 256]⟩
abbrev S256 : Shape := ⟨1, ![256]⟩
abbrev S1x1024 : Shape := ⟨2, ![1, 1024]⟩
abbrev S1024x1536 : Shape := ⟨2, ![1024, 1536]⟩
abbrev S1024x256 : Shape := ⟨2, ![1024, 256]⟩
abbrev S1024x512 : Shape := ⟨2, ![1024, 512]⟩
abbrev S1024x16 : Shape := ⟨2, ![1024, 16]⟩
abbrev S1x256 : Shape := ⟨2, ![1, 256]⟩
abbrev S1024x1024 : Shape := ⟨2, ![1024, 1024]⟩
abbrev S16x2048x1536 : Shape := ⟨3, ![16, 2048, 1536]⟩
abbrev S16x512x2048 : Shape := ⟨3, ![16, 512, 2048]⟩
abbrev S16x128x8192 : Shape := ⟨3, ![16, 128, 8192]⟩
abbrev S16x512x4096 : Shape := ⟨3, ![16, 512, 4096]⟩
abbrev S16x128x16384 : Shape := ⟨3, ![16, 128, 16384]⟩
abbrev S16x2048x256 : Shape := ⟨3, ![16, 2048, 256]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x128x2048 : Shape := ⟨3, ![1, 128, 2048]⟩
abbrev S1x32x8192 : Shape := ⟨3, ![1, 32, 8192]⟩
abbrev S1x128x4096 : Shape := ⟨3, ![1, 128, 4096]⟩
abbrev S1x32x16384 : Shape := ⟨3, ![1, 32, 16384]⟩
abbrev S1x512x256 : Shape := ⟨3, ![1, 512, 256]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S512x16 : Shape := ⟨2, ![512, 16]⟩
abbrev S512x256 : Shape := ⟨2, ![512, 256]⟩

abbrev nBuf : Space → Nat
  | .hbm => 43
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x6160, .f32⟩
  | .hbm, ⟨5, _⟩ => ⟨S16x256, .f32⟩
  | .hbm, ⟨6, _⟩ => ⟨S256, .f32⟩
  | .hbm, ⟨7, _⟩ => ⟨S1x1024, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x512, .f32⟩
  | .hbm, ⟨15, _⟩ => ⟨S1024x16, .f32⟩
  | .hbm, ⟨16, _⟩ => ⟨S1024x1536, .bf16⟩
  | .hbm, ⟨17, _⟩ => ⟨S1024x1536, .f32⟩
  | .hbm, ⟨18, _⟩ => ⟨S1024x1536, .bf16⟩
  | .hbm, ⟨19, _⟩ => ⟨S1024x16, .bf16⟩
  | .hbm, ⟨20, _⟩ => ⟨S16x256, .bf16⟩
  | .hbm, ⟨21, _⟩ => ⟨S1x256, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x1024, .bf16⟩
  | .hbm, ⟨26, _⟩ => ⟨S1024x512, .f32⟩
  | .hbm, ⟨27, _⟩ => ⟨S1024x512, .f32⟩
  | .hbm, ⟨28, _⟩ => ⟨S1024x1024, .f32⟩
  | .hbm, ⟨29, _⟩ => ⟨S1024x1024, .bf16⟩
  | .hbm, ⟨30, _⟩ => ⟨S1024x512, .f32⟩
  | .hbm, ⟨31, _⟩ => ⟨S1024x512, .f32⟩
  | .hbm, ⟨32, _⟩ => ⟨S1024x1024, .f32⟩
  | .hbm, ⟨33, _⟩ => ⟨S1024x1024, .bf16⟩
  | .hbm, ⟨34, _⟩ => ⟨S16x2048x1536, .bf16⟩
  | .hbm, ⟨35, _⟩ => ⟨S16x512x2048, .bf16⟩
  | .hbm, ⟨36, _⟩ => ⟨S16x128x8192, .bf16⟩
  | .hbm, ⟨37, _⟩ => ⟨S16x2048x1024, .f32⟩
  | .hbm, ⟨38, _⟩ => ⟨S16x512x4096, .f32⟩
  | .hbm, ⟨39, _⟩ => ⟨S16x2048x1024, .f32⟩
  | .hbm, ⟨40, _⟩ => ⟨S16x128x16384, .f32⟩
  | .hbm, ⟨41, _⟩ => ⟨S16x2048x1536, .f32⟩
  | .hbm, ⟨42, _⟩ => ⟨S16x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1536, .bf16⟩
  | .local _ .vmem, ⟨12, _⟩ => ⟨S1024x16, .bf16⟩
  | .local _ .vmem, ⟨13, _⟩ => ⟨S16x256, .bf16⟩
  | .local _ .vmem, ⟨14, _⟩ => ⟨S1x256, .f32⟩
  | .local _ .vmem, ⟨15, _⟩ => ⟨S1x512x1536, .bf16⟩
  | .local _ .vmem, ⟨16, _⟩ => ⟨S1x512x1536, .bf16⟩
  | .local _ .vmem, ⟨17, _⟩ => ⟨S1x128x2048, .bf16⟩
  | .local _ .vmem, ⟨18, _⟩ => ⟨S1x128x2048, .bf16⟩
  | .local _ .vmem, ⟨19, _⟩ => ⟨S1x32x8192, .bf16⟩
  | .local _ .vmem, ⟨20, _⟩ => ⟨S1x32x8192, .bf16⟩
  | .local _ .vmem, ⟨21, _⟩ => ⟨S1x512x1024, .f32⟩
  | .local _ .vmem, ⟨22, _⟩ => ⟨S1x512x1024, .f32⟩
  | .local _ .vmem, ⟨23, _⟩ => ⟨S1x128x4096, .f32⟩
  | .local _ .vmem, ⟨24, _⟩ => ⟨S1x128x4096, .f32⟩
  | .local _ .vmem, ⟨25, _⟩ => ⟨S1x512x1024, .f32⟩
  | .local _ .vmem, ⟨26, _⟩ => ⟨S1x512x1024, .f32⟩
  | .local _ .vmem, ⟨27, _⟩ => ⟨S1x32x16384, .f32⟩
  | .local _ .vmem, ⟨28, _⟩ => ⟨S1x32x16384, .f32⟩
  | .local _ .vmem, ⟨29, _⟩ => ⟨S1x512x1536, .f32⟩
  | .local _ .vmem, ⟨30, _⟩ => ⟨S1x512x1536, .f32⟩
  | .local _ .vmem, ⟨31, _⟩ => ⟨S1x512x256, .f32⟩
  | .local _ .vmem, ⟨32, _⟩ => ⟨S1x512x256, .f32⟩
  | .local _ .vmem, ⟨33, _⟩ => ⟨S8x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev main_v27_5 : Ref sig .tc := ⟨.hbm, 39, rfl⟩
abbrev main_v27_6 : Ref sig .tc := ⟨.hbm, 40, rfl⟩
abbrev main_v27_7 : Ref sig .tc := ⟨.hbm, 41, rfl⟩
abbrev main_v27_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x32x16384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AbInRefIdeal.lean ====
abbrev S16x2048x1024 : Shape := ⟨3, ![16, 2048, 1024]⟩
abbrev S1024 : Shape := ⟨1, ![1024]⟩
abbrev S16x1x1024 : Shape := ⟨3, ![16, 1, 1024]⟩
abbrev S1024x6160 : Shape := ⟨2, ![1024, 6160]⟩
abbrev S16x256 : Shape := ⟨2, ![16, 256]⟩
abbrev S256 : Shape := ⟨1, ![256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6160 : Shape := ⟨3, ![16, 2048, 6160]⟩
abbrev S16x2048x1536 : Shape := ⟨3, ![16, 2048, 1536]⟩
abbrev S16x2048x16 : Shape := ⟨3, ![16, 2048, 16]⟩
abbrev S16x2048x256 : Shape := ⟨3, ![16, 2048, 256]⟩
abbrev S1x1x256 : Shape := ⟨3, ![1, 1, 256]⟩
abbrev S16x2048x512 : Shape := ⟨3, ![16, 2048, 512]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x6160, .f32⟩
  | .hbm, ⟨5, _⟩ => ⟨S16x256, .f32⟩
  | .hbm, ⟨6, _⟩ => ⟨S256, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x1x1024, .f32⟩
  | .hbm, ⟨25, _⟩ => ⟨S16x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x6160, .f32⟩
  | .hbm, ⟨31, _⟩ => ⟨S16x2048x1536, .f32⟩
  | .hbm, ⟨32, _⟩ => ⟨S16x2048x1536, .f32⟩
  | .hbm, ⟨33, _⟩ => ⟨S16x2048x1536, .f32⟩
  | .hbm, ⟨34, _⟩ => ⟨S16x2048x1536, .f32⟩
  | .hbm, ⟨35, _⟩ => ⟨S16x2048x16, .f32⟩
  | .hbm, ⟨36, _⟩ => ⟨S_, .f32⟩
  | .hbm, ⟨37, _⟩ => ⟨S16x2048x1536, .f32⟩
  | .hbm, ⟨38, _⟩ => ⟨S16x2048x1536, .f32⟩
  | .hbm, ⟨39, _⟩ => ⟨S16x2048x1536, .bf16⟩
  | .hbm, ⟨40, _⟩ => ⟨S16x2048x256, .f32⟩
  | .hbm, ⟨41, _⟩ => ⟨S1x1x256, .f32⟩
  | .hbm, ⟨42, _⟩ => ⟨S16x2048x256, .f32⟩
  | .hbm, ⟨43, _⟩ => ⟨S16x2048x256, .f32⟩
  | .hbm, ⟨44, _⟩ => ⟨S16x2048x256, .f32⟩
  | .hbm, ⟨45, _⟩ => ⟨S_, .f32⟩
  | .hbm, ⟨46, _⟩ => ⟨S16x2048x256, .f32⟩
  | .hbm, ⟨47, _⟩ => ⟨S16x2048x256, .f32⟩
  | .hbm, ⟨48, _⟩ => ⟨S16x2048x256, .f32⟩
  | .hbm, ⟨49, _⟩ => ⟨S16x2048x256, .f32⟩
  | .hbm, ⟨50, _⟩ => ⟨S16x2048x256, .i1⟩
  | .hbm, ⟨51, _⟩ => ⟨S16x2048x256, .f32⟩
  | .hbm, ⟨52, _⟩ => ⟨S16x2048x256, .f32⟩
  | .hbm, ⟨53, _⟩ => ⟨S16x2048x256, .f32⟩
  | .hbm, ⟨54, _⟩ => ⟨S16x2048x256, .f32⟩
  | .hbm, ⟨55, _⟩ => ⟨S16x2048x256, .f32⟩
  | .hbm, ⟨56, _⟩ => ⟨S16x2048x256, .f32⟩
  | .hbm, ⟨57, _⟩ => ⟨S16x2048x256, .f32⟩
  | .hbm, ⟨58, _⟩ => ⟨S16x2048x256, .f32⟩
  | .hbm, ⟨59, _⟩ => ⟨S16x2048x256, .f32⟩
  | .hbm, ⟨60, _⟩ => ⟨S_, .f32⟩
  | .hbm, ⟨61, _⟩ => ⟨S16x2048x256, .f32⟩
  | .hbm, ⟨62, _⟩ => ⟨S16x2048x256, .f32⟩
  | .hbm, ⟨63, _⟩ => ⟨S16x2048x512, .f32⟩
  | .hbm, ⟨64, _⟩ => ⟨S16x2048x512, .f32⟩
  | .hbm, ⟨65, _⟩ => ⟨S16x2048x1024, .f32⟩
  | .hbm, ⟨66, _⟩ => ⟨S16x2048x512, .f32⟩
  | .hbm, ⟨67, _⟩ => ⟨S16x2048x512, .f32⟩
  | .hbm, ⟨68, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== FoxIn.lean ====
abbrev S16x2048x1024 : Shape := ⟨3, ![16, 2048, 1024]⟩
abbrev S1024 : Shape := ⟨1, ![1024]⟩
abbrev S16x1x1024 : Shape := ⟨3, ![16, 1, 1024]⟩
abbrev S1024x3088 : Shape := ⟨2, ![1024, 3088]⟩
abbrev S16 : Shape := ⟨1, ![16]⟩
abbrev S1x1024 : Shape := ⟨2, ![1, 1024]⟩
abbrev S1024x1024 : Shape := ⟨2, ![1024, 1024]⟩
abbrev S1024x16 : Shape := ⟨2, ![1024, 16]⟩
abbrev S_ : Shape := ⟨0, ![]⟩
abbrev S48x1024 : Shape := ⟨2, ![48, 1024]⟩
abbrev S1024x48 : Shape := ⟨2, ![1024, 48]⟩
abbrev S1024x1 : Shape := ⟨2, ![1024, 1]⟩
abbrev S16x1 : Shape := ⟨2, ![16, 1]⟩
abbrev S16x2 : Shape := ⟨2, ![16, 2]⟩
abbrev S16x1024 : Shape := ⟨2, ![16, 1024]⟩
abbrev S1x16 : Shape := ⟨2, ![1, 16]⟩
abbrev S16x2048x2048 : Shape := ⟨3, ![16, 2048, 2048]⟩
abbrev S16x1024x2048 : Shape := ⟨3, ![16, 1024, 2048]⟩
abbrev S16x16x2048 : Shape := ⟨3, ![16, 16, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x1024x512 : Shape := ⟨3, ![1, 1024, 512]⟩
abbrev S1x2048x512 : Shape := ⟨3, ![1, 2048, 512]⟩
abbrev S1x16x512 : Shape := ⟨3, ![1, 16, 512]⟩
abbrev S16x128 : Shape := ⟨2, ![16, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x16 : Shape := ⟨2, ![512, 16]⟩
abbrev S16x512 : Shape := ⟨2, ![16, 512]⟩
abbrev S512x512 : Shape := ⟨2, ![512, 512]⟩
abbrev S512x48 : Shape := ⟨2, ![512, 48]⟩
abbrev S48x512 : Shape := ⟨2, ![48, 512]⟩
abbrev S64x512 : Shape := ⟨2, ![64, 512]⟩
abbrev S512x64 : Shape := ⟨2, ![512, 64]⟩
abbrev S512x2048 : Shape := ⟨2, ![512, 2048]⟩
abbrev S2048x512 : Shape := ⟨2, ![2048, 512]⟩
abbrev S16x16x64x2048 : Shape := ⟨4, ![16, 16, 64, 2048]⟩
abbrev S16x2048x16x64 : Shape := ⟨4, ![16, 2048, 16, 64]⟩
abbrev S16x2048x16 : Shape := ⟨3, ![16, 2048, 16]⟩

abbrev nBuf : Space → Nat
  | .hbm => 367
  | .vmem => 32
  | .smem => 0
  | _ => 0

abbrev hbmTy0_0 (i : Nat) : BufTy := match i % 128 with
  | 0 => ⟨S16x2048x1024, .f32⟩
  | 1 => ⟨S1024, .f32⟩
  | 2 => ⟨S16x1x1024, .f32⟩
  | 3 => ⟨S16x1x1024, .f32⟩
  | 4 => ⟨S1024x3088, .f32⟩
  | 5 => ⟨S16, .f32⟩
  | 6 => ⟨S1x1024, .f32⟩
  | 7 => ⟨S1024x1024, .f32⟩
  | 8 => ⟨S1024x1024, .f32⟩
  | 9 => ⟨S1024x1024, .f32⟩
  | 10 => ⟨S1024x16, .f32⟩
  | 11 => ⟨S16, .i32⟩
  | 12 => ⟨S_, .f32⟩
  | 13 => ⟨S48x1024, .f32⟩
  | 14 => ⟨S_, .f32⟩
  | 15 => ⟨S1024x48, .f32⟩
  | 16 => ⟨S_, .f32⟩
  | 17 => ⟨S1x1024, .f32⟩
  | 18 => ⟨S_, .f32⟩
  | 19 => ⟨S1024x1, .f32⟩
  | 20 => ⟨S_, .i32⟩
  | 21 => ⟨S16, .i32⟩
  | 22 => ⟨S16, .i32⟩
  | 23 => ⟨S_, .i32⟩
  | 24 => ⟨S16, .i32⟩
  | 25 => ⟨S16, .i32⟩
  | 26 => ⟨S_, .i32⟩
  | 27 => ⟨S16, .i32⟩
  | 28 => ⟨S16, .i32⟩
  | 29 => ⟨S_, .i32⟩
  | 30 => ⟨S16, .i32⟩
  | 31 => ⟨S16, .i32⟩
  | 32 => ⟨S_, .i32⟩
  | 33 => ⟨S16, .i32⟩
  | 34 => ⟨S16, .i1⟩
  | 35 => ⟨S_, .i32⟩
  | 36 => ⟨S16, .i32⟩
  | 37 => ⟨S16, .i32⟩
  | 38 => ⟨S16, .i32⟩
  | 39 => ⟨S_, .i32⟩
  | 40 => ⟨S16, .i32⟩
  | 41 => ⟨S16, .i1⟩
  | 42 => ⟨S_, .i32⟩
  | 43 => ⟨S16, .i32⟩
  | 44 => ⟨S16, .i32⟩
  | 45 => ⟨S16, .i32⟩
  | 46 => ⟨S16x1, .i32⟩
  | 47 => ⟨S16x1, .i32⟩
  | 48 => ⟨S16x2, .i32⟩
  | 49 => ⟨S_, .f32⟩
  | 50 => ⟨S16, .f32⟩
  | 51 => ⟨S48x1024, .f32⟩
  | 52 => ⟨S_, .i32⟩
  | 53 => ⟨S16, .i32⟩
  | 54 => ⟨S16, .i32⟩
  | 55 => ⟨S_, .i32⟩
  | 56 => ⟨S16, .i32⟩
  | 57 => ⟨S16, .i32⟩
  | 58 => ⟨S_, .i32⟩
  | 59 => ⟨S16, .i32⟩
  | 60 => ⟨S16, .i32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S_, .i32⟩
  | 69 => ⟨S16, .i32⟩
  | 70 => ⟨S16, .i1⟩
  | 71 => ⟨S_, .i32⟩
  | 72 => ⟨S16, .i32⟩
  | 73 => ⟨S16, .i32⟩
  | 74 => ⟨S16, .i32⟩
  | 75 => ⟨S16x1, .i32⟩
  | 76 => ⟨S16x1, .i32⟩
  | 77 => ⟨S16x2, .i32⟩
  | 78 => ⟨S_, .f32⟩
  | 79 => ⟨S16, .f32⟩
  | 80 => ⟨S1024x48, .f32⟩
  | 81 => ⟨S_, .i32⟩
  | 82 => ⟨S16, .i32⟩
  | 83 => ⟨S16, .i32⟩
  | 84 => ⟨S_, .i32⟩
  | 85 => ⟨S16, .i32⟩
  | 86 => ⟨S16, .i32⟩
  | 87 => ⟨S_, .i32⟩
  | 88 => ⟨S16, .i32⟩
  | 89 => ⟨S16, .i1⟩
  | 90 => ⟨S_, .i32⟩
  | 91 => ⟨S16, .i32⟩
  | 92 => ⟨S16, .i32⟩
  | 93 => ⟨S16, .i32⟩
  | 94 => ⟨S_, .i32⟩
  | 95 => ⟨S16, .i32⟩
  | 96 => ⟨S16, .i32⟩
  | 97 => ⟨S16x1, .i32⟩
  | 98 => ⟨S16x1, .i32⟩
  | 99 => ⟨S16x2, .i32⟩
  | 100 => ⟨S_, .f32⟩
  | 101 => ⟨S16, .f32⟩
  | 102 => ⟨S1x1024, .f32⟩
  | 103 => ⟨S_, .i32⟩
  | 104 => ⟨S16, .i32⟩
  | 105 => ⟨S16, .i32⟩
  | 106 => ⟨S_, .i32⟩
  | 107 => ⟨S16, .i32⟩
  | 108 => ⟨S16, .i32⟩
  | 109 => ⟨S_, .i32⟩
  | 110 => ⟨S16, .i32⟩
  | 111 => ⟨S16, .i32⟩
  | 112 => ⟨S_, .i32⟩
  | 113 => ⟨S16, .i32⟩
  | 114 => ⟨S16, .i1⟩
  | 115 => ⟨S_, .i32⟩
  | 116 => ⟨S16, .i32⟩
  | 117 => ⟨S16, .i32⟩
  | 118 => ⟨S16, .i32⟩
  | 119 => ⟨S_, .i32⟩
  | 120 => ⟨S16, .i32⟩
  | 121 => ⟨S16, .i32⟩
  | 122 => ⟨S16x1, .i32⟩
  | 123 => ⟨S16x1, .i32⟩
  | 124 => ⟨S16x2, .i32⟩
  | 125 => ⟨S_, .f32⟩
  | 126 => ⟨S16, .f32⟩
  | 127 => ⟨S1024x1, .f32⟩
  | _ => ⟨S16x2048x1024, .f32⟩

abbrev hbmTy0_1 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S_, .i32⟩
  | 13 => ⟨S16, .i32⟩
  | 14 => ⟨S16, .i1⟩
  | 15 => ⟨S_, .i32⟩
  | 16 => ⟨S16, .i32⟩
  | 17 => ⟨S16, .i32⟩
  | 18 => ⟨S16, .i32⟩
  | 19 => ⟨S_, .i32⟩
  | 20 => ⟨S16, .i32⟩
  | 21 => ⟨S16, .i1⟩
  | 22 => ⟨S_, .i32⟩
  | 23 => ⟨S16, .i32⟩
  | 24 => ⟨S16, .i32⟩
  | 25 => ⟨S16, .i32⟩
  | 26 => ⟨S16x1, .i32⟩
  | 27 => ⟨S16x1, .i32⟩
  | 28 => ⟨S16x2, .i32⟩
  | 29 => ⟨S_, .f32⟩
  | 30 => ⟨S16, .f32⟩
  | 31 => ⟨S48x1024, .f32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S_, .i32⟩
  | 52 => ⟨S16, .i32⟩
  | 53 => ⟨S16, .i32⟩
  | 54 => ⟨S16, .i32⟩
  | 55 => ⟨S16x1, .i32⟩
  | 56 => ⟨S16x1, .i32⟩
  | 57 => ⟨S16x2, .i32⟩
  | 58 => ⟨S_, .f32⟩
  | 59 => ⟨S16, .f32⟩
  | 60 => ⟨S1024x48, .f32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S_, .i32⟩
  | 68 => ⟨S16, .i32⟩
  | 69 => ⟨S16, .i1⟩
  | 70 => ⟨S_, .i32⟩
  | 71 => ⟨S16, .i32⟩
  | 72 => ⟨S16, .i32⟩
  | 73 => ⟨S16, .i32⟩
  | 74 => ⟨S_, .i32⟩
  | 75 => ⟨S16, .i32⟩
  | 76 => ⟨S16, .i32⟩
  | 77 => ⟨S16x1, .i32⟩
  | 78 => ⟨S16x1, .i32⟩
  | 79 => ⟨S16x2, .i32⟩
  | 80 => ⟨S_, .f32⟩
  | 81 => ⟨S16, .f32⟩
  | 82 => ⟨S1x1024, .f32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S_, .i32⟩
  | 90 => ⟨S16, .i32⟩
  | 91 => ⟨S16, .i32⟩
  | 92 => ⟨S_, .i32⟩
  | 93 => ⟨S16, .i32⟩
  | 94 => ⟨S16, .i1⟩
  | 95 => ⟨S_, .i32⟩
  | 96 => ⟨S16, .i32⟩
  | 97 => ⟨S16, .i32⟩
  | 98 => ⟨S16, .i32⟩
  | 99 => ⟨S_, .i32⟩
  | 100 => ⟨S16, .i32⟩
  | 101 => ⟨S16, .i32⟩
  | 102 => ⟨S16x1, .i32⟩
  | 103 => ⟨S16x1, .i32⟩
  | 104 => ⟨S16x2, .i32⟩
  | 105 => ⟨S_, .f32⟩
  | 106 => ⟨S16, .f32⟩
  | 107 => ⟨S1024x1, .f32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S_, .i32⟩
  | 115 => ⟨S16, .i32⟩
  | 116 => ⟨S16, .i32⟩
  | 117 => ⟨S_, .i32⟩
  | 118 => ⟨S16, .i32⟩
  | 119 => ⟨S16, .i32⟩
  | 120 => ⟨S_, .i32⟩
  | 121 => ⟨S16, .i32⟩
  | 122 => ⟨S16, .i1⟩
  | 123 => ⟨S_, .i32⟩
  | 124 => ⟨S16, .i32⟩
  | 125 => ⟨S16, .i32⟩
  | 126 => ⟨S16, .i32⟩
  | 127 => ⟨S_, .i32⟩
  | _ => ⟨S16x2048x1024, .f32⟩

abbrev hbmTy0_2 (i : Nat) : BufTy := match i % 128 with
  | 0 => ⟨S16, .i32⟩
  | 1 => ⟨S16, .i1⟩
  | 2 => ⟨S_, .i32⟩
  | 3 => ⟨S16, .i32⟩
  | 4 => ⟨S16, .i32⟩
  | 5 => ⟨S16, .i32⟩
  | 6 => ⟨S16x1, .i32⟩
  | 7 => ⟨S16x1, .i32⟩
  | 8 => ⟨S16x2, .i32⟩
  | 9 => ⟨S_, .f32⟩
  | 10 => ⟨S16, .f32⟩
  | 11 => ⟨S48x1024, .f32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S16x1, .i32⟩
  | 36 => ⟨S16x1, .i32⟩
  | 37 => ⟨S16x2, .i32⟩
  | 38 => ⟨S_, .f32⟩
  | 39 => ⟨S16, .f32⟩
  | 40 => ⟨S1024x48, .f32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i1⟩
  | 50 => ⟨S_, .i32⟩
  | 51 => ⟨S16, .i32⟩
  | 52 => ⟨S16, .i32⟩
  | 53 => ⟨S16, .i32⟩
  | 54 => ⟨S_, .i32⟩
  | 55 => ⟨S16, .i32⟩
  | 56 => ⟨S16, .i32⟩
  | 57 => ⟨S16x1, .i32⟩
  | 58 => ⟨S16x1, .i32⟩
  | 59 => ⟨S16x2, .i32⟩
  | 60 => ⟨S_, .f32⟩
  | 61 => ⟨S16, .f32⟩
  | 62 => ⟨S1x1024, .f32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S_, .i32⟩
  | 73 => ⟨S16, .i32⟩
  | 74 => ⟨S16, .i1⟩
  | 75 => ⟨S_, .i32⟩
  | 76 => ⟨S16, .i32⟩
  | 77 => ⟨S16, .i32⟩
  | 78 => ⟨S16, .i32⟩
  | 79 => ⟨S_, .i32⟩
  | 80 => ⟨S16, .i32⟩
  | 81 => ⟨S16, .i32⟩
  | 82 => ⟨S16x1, .i32⟩
  | 83 => ⟨S16x1, .i32⟩
  | 84 => ⟨S16x2, .i32⟩
  | 85 => ⟨S_, .f32⟩
  | 86 => ⟨S16, .f32⟩
  | 87 => ⟨S1024x1, .f32⟩
  | 88 => ⟨S1024x1024, .bf16⟩
  | 89 => ⟨S1024x1024, .f32⟩
  | 90 => ⟨S1024x1024, .bf16⟩
  | 91 => ⟨S1024x1024, .f32⟩
  | 92 => ⟨S1024x1024, .bf16⟩
  | 93 => ⟨S1024x16, .bf16⟩
  | 94 => ⟨S16x1024, .f32⟩
  | 95 => ⟨S16x1024, .bf16⟩
  | 96 => ⟨S1x16, .f32⟩
  | 97 => ⟨S16x1, .f32⟩
  | 98 => ⟨S48x1024, .bf16⟩
  | 99 => ⟨S1024x48, .bf16⟩
  | 100 => ⟨S16x2048x2048, .bf16⟩
  | 101 => ⟨S16x1024x2048, .f32⟩
  | 102 => ⟨S16x1024x2048, .f32⟩
  | 103 => ⟨S16x2048x2048, .bf16⟩
  | 104 => ⟨S16x2048x2048, .bf16⟩
  | 105 => ⟨S16x16x2048, .f32⟩
  | 106 => ⟨S16x16x64x2048, .f32⟩
  | 107 => ⟨S16x2048x16x64, .f32⟩
  | 108 => ⟨S16x16x64x2048, .f32⟩
  | 109 => ⟨S16x2048x16x64, .f32⟩
  | 110 => ⟨S16x2048x16, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x16, .bf16⟩
  | .local _ .vmem, ⟨11, _⟩ => ⟨S16x1024, .bf16⟩
  | .local _ .vmem, ⟨12, _⟩ => ⟨S1x16, .f32⟩
  | .local _ .vmem, ⟨13, _⟩ => ⟨S16x1, .f32⟩
  | .local _ .vmem, ⟨14, _⟩ => ⟨S48x1024, .bf16⟩
  | .local _ .vmem, ⟨15, _⟩ => ⟨S1x1024, .f32⟩
  | .local _ .vmem, ⟨16, _⟩ => ⟨S1024x48, .bf16⟩
  | .local _ .vmem, ⟨17, _⟩ => ⟨S1024x1, .f32⟩
  | .local _ .vmem, ⟨18, _⟩ => ⟨S1x512x2048, .bf16⟩
  | .local _ .vmem, ⟨19, _⟩ => ⟨S1x512x2048, .bf16⟩
  | .local _ .vmem, ⟨20, _⟩ => ⟨S1x1024x512, .f32⟩
  | .local _ .vmem, ⟨21, _⟩ => ⟨S1x1024x512, .f32⟩
  | .local _ .vmem, ⟨22, _⟩ => ⟨S1x1024x512, .f32⟩
  | .local _ .vmem, ⟨23, _⟩ => ⟨S1x1024x512, .f32⟩
  | .local _ .vmem, ⟨24, _⟩ => ⟨S1x2048x512, .bf16⟩
  | .local _ .vmem, ⟨25, _⟩ => ⟨S1x2048x512, .bf16⟩
  | .local _ .vmem, ⟨26, _⟩ => ⟨S1x2048x512, .bf16⟩
  | .local _ .vmem, ⟨27, _⟩ => ⟨S1x2048x512, .bf16⟩
  | .local _ .vmem, ⟨28, _⟩ => ⟨S1x16x512, .f32⟩
  | .local _ .vmem, ⟨29, _⟩ => ⟨S1x16x512, .f32⟩
  | .local _ .vmem, ⟨30, _⟩ => ⟨S1x16, .f32⟩
  | .local _ .vmem, ⟨31, _⟩ => ⟨S16x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_8 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_c_11 : Ref sig .tc := ⟨.hbm, 52, rfl⟩
abbrev main_v33 : Ref sig .tc := ⟨.hbm, 53, rfl⟩
abbrev main_v34 : Ref sig .tc := ⟨.hbm, 54, rfl⟩
abbrev main_c_12 : Ref sig .tc := ⟨.hbm, 55, rfl⟩
abbrev main_v35 : Ref sig .tc := ⟨.hbm, 56, rfl⟩
abbrev main_v36 : Ref sig .tc := ⟨.hbm, 57, rfl⟩
abbrev main_c_13 : Ref sig .tc := ⟨.hbm, 58, rfl⟩
abbrev main_v37 : Ref sig .tc := ⟨.hbm, 59, rfl⟩
abbrev main_v38 : Ref sig .tc := ⟨.hbm, 60, rfl⟩
abbrev main_c_14 : Ref sig .tc := ⟨.hbm, 61, rfl⟩
abbrev main_v39 : Ref sig .tc := ⟨.hbm, 62, rfl⟩
abbrev main_v40 : Ref sig .tc := ⟨.hbm, 63, rfl⟩
abbrev main_c_15 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_16 : Ref sig .tc := ⟨.hbm, 68, rfl⟩
abbrev main_v44 : Ref sig .tc := ⟨.hbm, 69, rfl⟩
abbrev main_v45 : Ref sig .tc := ⟨.hbm, 70, rfl⟩
abbrev main_c_17 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_18 : Ref sig .tc := ⟨.hbm, 78, rfl⟩
abbrev main_v52 : Ref sig .tc := ⟨.hbm, 79, rfl⟩
abbrev main_v53 : Ref sig .tc := ⟨.hbm, 80, rfl⟩
abbrev main_c_19 : Ref sig .tc := ⟨.hbm, 81, rfl⟩
abbrev main_v54 : Ref sig .tc := ⟨.hbm, 82, rfl⟩
abbrev main_v55 : Ref sig .tc := ⟨.hbm, 83, rfl⟩
abbrev main_c_20 : Ref sig .tc := ⟨.hbm, 84, rfl⟩
abbrev main_v56 : Ref sig .tc := ⟨.hbm, 85, rfl⟩
abbrev main_v57 : Ref sig .tc := ⟨.hbm, 86, rfl⟩
abbrev main_c_21 : Ref sig .tc := ⟨.hbm, 87, rfl⟩
abbrev main_v58 : Ref sig .tc := ⟨.hbm, 88, rfl⟩
abbrev main_v59 : Ref sig .tc := ⟨.hbm, 89, rfl⟩
abbrev main_c_22 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_23 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_24 : Ref sig .tc := ⟨.hbm, 100, rfl⟩
abbrev main_v68 : Ref sig .tc := ⟨.hbm, 101, rfl⟩
abbrev main_v69 : Ref sig .tc := ⟨.hbm, 102, rfl⟩
abbrev main_c_25 : Ref sig .tc := ⟨.hbm, 103, rfl⟩
abbrev main_v70 : Ref sig .tc := ⟨.hbm, 104, rfl⟩
abbrev main_v71 : Ref sig .tc := ⟨.hbm, 105, rfl⟩
abbrev main_c_26 : Ref sig .tc := ⟨.hbm, 106, rfl⟩
abbrev main_v72 : Ref sig .tc := ⟨.hbm, 107, rfl⟩
abbrev main_v73 : Ref sig .tc := ⟨.hbm, 108, rfl⟩
abbrev main_c_27 : Ref sig .tc := ⟨.hbm, 109, rfl⟩
abbrev main_v74 : Ref sig .tc := ⟨.hbm, 110, rfl⟩
abbrev main_v75 : Ref sig .tc := ⟨.hbm, 111, rfl⟩
abbrev main_c_28 : Ref sig .tc := ⟨.hbm, 112, rfl⟩
abbrev main_v76 : Ref sig .tc := ⟨.hbm, 113, rfl⟩
abbrev main_v77 : Ref sig .tc := ⟨.hbm, 114, rfl⟩
abbrev main_c_29 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_30 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_31 : Ref sig .tc := ⟨.hbm, 125, rfl⟩
abbrev main_v86 : Ref sig .tc := ⟨.hbm, 126, rfl⟩
abbrev main_v87 : Ref sig .tc := ⟨.hbm, 127, rfl⟩
abbrev main_c_32 : Ref sig .tc := ⟨.hbm, 128, rfl⟩
abbrev main_v88 : Ref sig .tc := ⟨.hbm, 129, rfl⟩
abbrev main_v89 : Ref sig .tc := ⟨.hbm, 130, rfl⟩
abbrev main_c_33 : Ref sig .tc := ⟨.hbm, 131, rfl⟩
abbrev main_v90 : Ref sig .tc := ⟨.hbm, 132, rfl⟩
abbrev main_v91 : Ref sig .tc := ⟨.hbm, 133, rfl⟩
abbrev main_c_34 : Ref sig .tc := ⟨.hbm, 134, rfl⟩
abbrev main_v92 : Ref sig .tc := ⟨.hbm, 135, rfl⟩
abbrev main_v93 : Ref sig .tc := ⟨.hbm, 136, rfl⟩
abbrev main_c_35 : Ref sig .tc := ⟨.hbm, 137, rfl⟩
abbrev main_v94 : Ref sig .tc := ⟨.hbm, 138, rfl⟩
abbrev main_v95 : Ref sig .tc := ⟨.hbm, 139, rfl⟩
abbrev main_c_36 : Ref sig .tc := ⟨.hbm, 140, rfl⟩
abbrev main_v96 : Ref sig .tc := ⟨.hbm, 141, rfl⟩
abbrev main_v97 : Ref sig .tc := ⟨.hbm, 142, rfl⟩
abbrev main_c_37 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_38 : Ref sig .tc := ⟨.hbm, 147, rfl⟩
abbrev main_v101 : Ref sig .tc := ⟨.hbm, 148, rfl⟩
abbrev main_v102 : Ref sig .tc := ⟨.hbm, 149, rfl⟩
abbrev main_c_39 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_40 : Ref sig .tc := ⟨.hbm, 157, rfl⟩
abbrev main_v109 : Ref sig .tc := ⟨.hbm, 158, rfl⟩
abbrev main_v110 : Ref sig .tc := ⟨.hbm, 159, rfl⟩
abbrev main_c_41 : Ref sig .tc := ⟨.hbm, 160, rfl⟩
abbrev main_v111 : Ref sig .tc := ⟨.hbm, 161, rfl⟩
abbrev main_v112 : Ref sig .tc := ⟨.hbm, 162, rfl⟩
abbrev main_c_42 : Ref sig .tc := ⟨.hbm, 163, rfl⟩
abbrev main_v113 : Ref sig .tc := ⟨.hbm, 164, rfl⟩
abbrev main_v114 : Ref sig .tc := ⟨.hbm, 165, rfl⟩
abbrev main_c_43 : Ref sig .tc := ⟨.hbm, 166, rfl⟩
abbrev main_v115 : Ref sig .tc := ⟨.hbm, 167, rfl⟩
abbrev main_v116 : Ref sig .tc := ⟨.hbm, 168, rfl⟩
abbrev main_c_44 : Ref sig .tc := ⟨.hbm, 169, rfl⟩
abbrev main_v117 : Ref sig .tc := ⟨.hbm, 170, rfl⟩
abbrev main_v118 : Ref sig .tc := ⟨.hbm, 171, rfl⟩
abbrev main_c_45 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_c_46 : Ref sig .tc := ⟨.hbm, 176, rfl⟩
abbrev main_v122 : Ref sig .tc := ⟨.hbm, 177, rfl⟩
abbrev main_v123 : Ref sig .tc := ⟨.hbm, 178, rfl⟩
abbrev main_c_47 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_48 : Ref sig .tc := ⟨.hbm, 186, rfl⟩
abbrev main_v130 : Ref sig .tc := ⟨.hbm, 187, rfl⟩
abbrev main_v131 : Ref sig .tc := ⟨.hbm, 188, rfl⟩
abbrev main_c_49 : Ref sig .tc := ⟨.hbm, 189, rfl⟩
abbrev main_v132 : Ref sig .tc := ⟨.hbm, 190, rfl⟩
abbrev main_v133 : Ref sig .tc := ⟨.hbm, 191, rfl⟩
abbrev main_c_50 : Ref sig .tc := ⟨.hbm, 192, rfl⟩
abbrev main_v134 : Ref sig .tc := ⟨.hbm, 193, rfl⟩
abbrev main_v135 : Ref sig .tc := ⟨.hbm, 194, rfl⟩
abbrev main_c_51 : Ref sig .tc := ⟨.hbm, 195, rfl⟩
abbrev main_v136 : Ref sig .tc := ⟨.hbm, 196, rfl⟩
abbrev main_v137 : Ref sig .tc := ⟨.hbm, 197, rfl⟩
abbrev main_c_52 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_53 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_54 : Ref sig .tc := ⟨.hbm, 208, rfl⟩
abbrev main_v146 : Ref sig .tc := ⟨.hbm, 209, rfl⟩
abbrev main_v147 : Ref sig .tc := ⟨.hbm, 210, rfl⟩
abbrev main_c_55 : Ref sig .tc := ⟨.hbm, 211, rfl⟩
abbrev main_v148 : Ref sig .tc := ⟨.hbm, 212, rfl⟩
abbrev main_v149 : Ref sig .tc := ⟨.hbm, 213, rfl⟩
abbrev main_c_56 : Ref sig .tc := ⟨.hbm, 214, rfl⟩
abbrev main_v150 : Ref sig .tc := ⟨.hbm, 215, rfl⟩
abbrev main_v151 : Ref sig .tc := ⟨.hbm, 216, rfl⟩
abbrev main_c_57 : Ref sig .tc := ⟨.hbm, 217, rfl⟩
abbrev main_v152 : Ref sig .tc := ⟨.hbm, 218, rfl⟩
abbrev main_v153 : Ref sig .tc := ⟨.hbm, 219, rfl⟩
abbrev main_c_58 : Ref sig .tc := ⟨.hbm, 220, rfl⟩
abbrev main_v154 : Ref sig .tc := ⟨.hbm, 221, rfl⟩
abbrev main_v155 : Ref sig .tc := ⟨.hbm, 222, rfl⟩
abbrev main_c_59 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_c_60 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_cst_61 : Ref sig .tc := ⟨.hbm, 233, rfl⟩
abbrev main_v164 : Ref sig .tc := ⟨.hbm, 234, rfl⟩
abbrev main_v165 : Ref sig .tc := ⟨.hbm, 235, rfl⟩
abbrev main_c_62 : Ref sig .tc := ⟨.hbm, 236, rfl⟩
abbrev main_v166 : Ref sig .tc := ⟨.hbm, 237, rfl⟩
abbrev main_v167 : Ref sig .tc := ⟨.hbm, 238, rfl⟩
abbrev main_c_63 : Ref sig .tc := ⟨.hbm, 239, rfl⟩
abbrev main_v168 : Ref sig .tc := ⟨.hbm, 240, rfl⟩
abbrev main_v169 : Ref sig .tc := ⟨.hbm, 241, rfl⟩
abbrev main_c_64 : Ref sig .tc := ⟨.hbm, 242, rfl⟩
abbrev main_v170 : Ref sig .tc := ⟨.hbm, 243, rfl⟩
abbrev main_v171 : Ref sig .tc := ⟨.hbm, 244, rfl⟩
abbrev main_c_65 : Ref sig .tc := ⟨.hbm, 245, rfl⟩
abbrev main_v172 : Ref sig .tc := ⟨.hbm, 246, rfl⟩
abbrev main_v173 : Ref sig .tc := ⟨.hbm, 247, rfl⟩
abbrev main_c_66 : Ref sig .tc := ⟨.hbm, 248, rfl⟩
abbrev main_v174 : Ref sig .tc := ⟨.hbm, 249, rfl⟩
abbrev main_v175 : Ref sig .tc := ⟨.hbm, 250, rfl⟩
abbrev main_c_67 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_c_68 : Ref sig .tc := ⟨.hbm, 255, rfl⟩
abbrev main_v179 : Ref sig .tc := ⟨.hbm, 256, rfl⟩
abbrev main_v180 : Ref sig .tc := ⟨.hbm, 257, rfl⟩
abbrev main_c_69 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_cst_70 : Ref sig .tc := ⟨.hbm, 265, rfl⟩
abbrev main_v187 : Ref sig .tc := ⟨.hbm, 266, rfl⟩
abbrev main_v188 : Ref sig .tc := ⟨.hbm, 267, rfl⟩
abbrev main_c_71 : Ref sig .tc := ⟨.hbm, 268, rfl⟩
abbrev main_v189 : Ref sig .tc := ⟨.hbm, 269, rfl⟩
abbrev main_v190 : Ref sig .tc := ⟨.hbm, 270, rfl⟩
abbrev main_c_72 : Ref sig .tc := ⟨.hbm, 271, rfl⟩
abbrev main_v191 : Ref sig .tc := ⟨.hbm, 272, rfl⟩
abbrev main_v192 : Ref sig .tc := ⟨.hbm, 273, rfl⟩
abbrev main_c_73 : Ref sig .tc := ⟨.hbm, 274, rfl⟩
abbrev main_v193 : Ref sig .tc := ⟨.hbm, 275, rfl⟩
abbrev main_v194 : Ref sig .tc := ⟨.hbm, 276, rfl⟩
abbrev main_c_74 : Ref sig .tc := ⟨.hbm, 277, rfl⟩
abbrev main_v195 : Ref sig .tc := ⟨.hbm, 278, rfl⟩
abbrev main_v196 : Ref sig .tc := ⟨.hbm, 279, rfl⟩
abbrev main_c_75 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_c_76 : Ref sig .tc := ⟨.hbm, 284, rfl⟩
abbrev main_v200 : Ref sig .tc := ⟨.hbm, 285, rfl⟩
abbrev main_v201 : Ref sig .tc := ⟨.hbm, 286, rfl⟩
abbrev main_c_77 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_cst_78 : Ref sig .tc := ⟨.hbm, 294, rfl⟩
abbrev main_v208 : Ref sig .tc := ⟨.hbm, 295, rfl⟩
abbrev main_v209 : Ref sig .tc := ⟨.hbm, 296, rfl⟩
abbrev main_c_79 : Ref sig .tc := ⟨.hbm, 297, rfl⟩
abbrev main_v210 : Ref sig .tc := ⟨.hbm, 298, rfl⟩
abbrev main_v211 : Ref sig .tc := ⟨.hbm, 299, rfl⟩
abbrev main_c_80 : Ref sig .tc := ⟨.hbm, 300, rfl⟩
abbrev main_v212 : Ref sig .tc := ⟨.hbm, 301, rfl⟩
abbrev main_v213 : Ref sig .tc := ⟨.hbm, 302, rfl⟩
abbrev main_c_81 : Ref sig .tc := ⟨.hbm, 303, rfl⟩
abbrev main_v214 : Ref sig .tc := ⟨.hbm, 304, rfl⟩
abbrev main_v215 : Ref sig .tc := ⟨.hbm, 305, rfl⟩
abbrev main_c_82 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_c_83 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_cst_84 : Ref sig .tc := ⟨.hbm, 316, rfl⟩
abbrev main_v224 : Ref sig .tc := ⟨.hbm, 317, rfl⟩
abbrev main_v225 : Ref sig .tc := ⟨.hbm, 318, rfl⟩
abbrev main_c_85 : Ref sig .tc := ⟨.hbm, 319, rfl⟩
abbrev main_v226 : Ref sig .tc := ⟨.hbm, 320, rfl⟩
abbrev main_v227 : Ref sig .tc := ⟨.hbm, 321, rfl⟩
abbrev main_c_86 : Ref sig .tc := ⟨.hbm, 322, rfl⟩
abbrev main_v228 : Ref sig .tc := ⟨.hbm, 323, rfl⟩
abbrev main_v229 : Ref sig .tc := ⟨.hbm, 324, rfl⟩
abbrev main_c_87 : Ref sig .tc := ⟨.hbm, 325, rfl⟩
abbrev main_v230 : Ref sig .tc := ⟨.hbm, 326, rfl⟩
abbrev main_v231 : Ref sig .tc := ⟨.hbm, 327, rfl⟩
abbrev main_c_88 : Ref sig .tc := ⟨.hbm, 328, rfl⟩
abbrev main_v232 : Ref sig .tc := ⟨.hbm, 329, rfl⟩
abbrev main_v233 : Ref sig .tc := ⟨.hbm, 330, rfl⟩
abbrev main_c_89 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_c_90 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_cst_91 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256_0 : Ref sig .tc := ⟨.hbm, 356, rfl⟩
abbrev main_v256_1 : Ref sig .tc := ⟨.hbm, 357, rfl⟩
abbrev main_v256_2 : Ref sig .tc := ⟨.hbm, 358, rfl⟩
abbrev main_v256_3 : Ref sig .tc := ⟨.hbm, 359, rfl⟩
abbrev main_v256_4 : Ref sig .tc := ⟨.hbm, 360, rfl⟩
abbrev main_v256_5 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S48x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x48 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2048x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2048x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== FoxInRefIdeal.lean ====
abbrev S16x2048x1024 : Shape := ⟨3, ![16, 2048, 1024]⟩
abbrev S1024 : Shape := ⟨1, ![1024]⟩
abbrev S16x1x1024 : Shape := ⟨3, ![16, 1, 1024]⟩
abbrev S1024x3088 : Shape := ⟨2, ![1024, 3088]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3088 : Shape := ⟨3, ![16, 2048, 3088]⟩
abbrev S16x2048x16 : Shape := ⟨3, ![16, 2048, 16]⟩
abbrev S16x2048x16x64 : Shape := ⟨4, ![16, 2048, 16, 64]⟩
abbrev S1x1x16 : Shape := ⟨3, ![1, 1, 16]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x3088, .f32⟩
  | .hbm, ⟨5, _⟩ => ⟨S16, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x3088, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x16, .f32⟩
  | .hbm, ⟨34, _⟩ => ⟨S16x2048x16x64, .f32⟩
  | .hbm, ⟨35, _⟩ => ⟨S16x2048x16x64, .f32⟩
  | .hbm, ⟨36, _⟩ => ⟨S1x1x16, .f32⟩
  | .hbm, ⟨37, _⟩ => ⟨S16x2048x16, .f32⟩
  | .hbm, ⟨38, _⟩ => ⟨S16x2048x16, .f32⟩
  | .hbm, ⟨39, _⟩ => ⟨S16x2048x16, .f32⟩
  | .hbm, ⟨40, _⟩ => ⟨S_, .f32⟩
  | .hbm, ⟨41, _⟩ => ⟨S16x2048x16, .f32⟩
  | .hbm, ⟨42, _⟩ => ⟨S16x2048x16, .f32⟩
  | .hbm, ⟨43, _⟩ => ⟨S16x2048x16, .f32⟩
  | .hbm, ⟨44, _⟩ => ⟨S16x2048x16, .f32⟩
  | .hbm, ⟨45, _⟩ => ⟨S16x2048x16, .i1⟩
  | .hbm, ⟨46, _⟩ => ⟨S16x2048x16, .f32⟩
  | .hbm, ⟨47, _⟩ => ⟨S16x2048x16, .f32⟩
  | .hbm, ⟨48, _⟩ => ⟨S16x2048x16, .f32⟩
  | .hbm, ⟨49, _⟩ => ⟨S16x2048x16, .f32⟩
  | .hbm, ⟨50, _⟩ => ⟨S16x2048x16, .f32⟩
  | .hbm, ⟨51, _⟩ => ⟨S16x2048x16, .f32⟩
  | .hbm, ⟨52, _⟩ => ⟨S16x2048x16, .f32⟩
  | .hbm, ⟨53, _⟩ => ⟨S16x2048x16, .f32⟩
  | .hbm, ⟨54, _⟩ => ⟨S16x2048x16, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== FoxNew.lean ====
abbrev S32x8x1024 : Shape := ⟨3, ![32, 8, 1024]⟩
abbrev S1024 : Shape := ⟨1, ![1024]⟩
abbrev S32x1x1024 : Shape := ⟨3, ![32, 1, 1024]⟩
abbrev S1024x3088 : Shape := ⟨2, ![1024, 3088]⟩
abbrev S16 : Shape := ⟨1, ![16]⟩
abbrev S1x256x1024 : Shape := ⟨3, ![1, 256, 1024]⟩
abbrev S1x1024 : Shape := ⟨2, ![1, 1024]⟩
abbrev S32x1024 : Shape := ⟨2, ![32, 1024]⟩
abbrev S256x1024 : Shape := ⟨2, ![256, 1024]⟩
abbrev S1024x1024 : Shape := ⟨2, ![1024, 1024]⟩
abbrev S1024x16 : Shape := ⟨2, ![1024, 16]⟩
abbrev S_ : Shape := ⟨0, ![]⟩
abbrev S48x1024 : Shape := ⟨2, ![48, 1024]⟩
abbrev S1024x48 : Shape := ⟨2, ![1024, 48]⟩
abbrev S1024x1 : Shape := ⟨2, ![1024, 1]⟩
abbrev S16x1 : Shape := ⟨2, ![16, 1]⟩
abbrev S16x2 : Shape := ⟨2, ![16, 2]⟩
abbrev S16x1024 : Shape := ⟨2, ![16, 1024]⟩
abbrev S1x16 : Shape := ⟨2, ![1, 16]⟩
abbrev S1x256x2048 : Shape := ⟨3, ![1, 256, 2048]⟩
abbrev S1x1024x256 : Shape := ⟨3, ![1, 1024, 256]⟩
abbrev S1x2048x256 : Shape := ⟨3, ![1, 2048, 256]⟩
abbrev S1x16x256 : Shape := ⟨3, ![1, 16, 256]⟩
abbrev S16x128 : Shape := ⟨2, ![16, 128]⟩
abbrev S256 : Shape := ⟨1, ![256]⟩
abbrev S256x1 : Shape := ⟨2, ![256, 1]⟩
abbrev S1024x256 : Shape := ⟨2, ![1024, 256]⟩
abbrev S256x16 : Shape := ⟨2, ![256, 16]⟩
abbrev S16x256 : Shape := ⟨2, ![16, 256]⟩
abbrev S256x256 : Shape := ⟨2, ![256, 256]⟩
abbrev S256x48 : Shape := ⟨2, ![256, 48]⟩
abbrev S48x256 : Shape := ⟨2, ![48, 256]⟩
abbrev S64x256 : Shape := ⟨2, ![64, 256]⟩
abbrev S256x64 : Shape := ⟨2, ![256, 64]⟩
abbrev S256x2048 : Shape := ⟨2, ![256, 2048]⟩
abbrev S2048x256 : Shape := ⟨2, ![2048, 256]⟩
abbrev S16x64x32x8 : Shape := ⟨4, ![16, 64, 32, 8]⟩
abbrev S32x16x64x8 : Shape := ⟨4, ![32, 16, 64, 8]⟩
abbrev S16x32x8 : Shape := ⟨3, ![16, 32, 8]⟩
abbrev S32x16x8 : Shape := ⟨3, ![32, 16, 8]⟩
abbrev S32x8x16x64 : Shape := ⟨4, ![32, 8, 16, 64]⟩
abbrev S32x8x16 : Shape := ⟨3, ![32, 8, 16]⟩

abbrev nBuf : Space → Nat
  | .hbm => 380
  | .vmem => 23
  | .smem => 0
  | _ => 0

abbrev hbmTy0_0 (i : Nat) : BufTy := match i % 128 with
  | 0 => ⟨S32x8x1024, .f32⟩
  | 1 => ⟨S1024, .f32⟩
  | 2 => ⟨S32x1x1024, .f32⟩
  | 3 => ⟨S32x1x1024, .f32⟩
  | 4 => ⟨S1024x3088, .f32⟩
  | 5 => ⟨S16, .f32⟩
  | 6 => ⟨S1x256x1024, .f32⟩
  | 7 => ⟨S1x1024, .f32⟩
  | 8 => ⟨S32x1024, .f32⟩
  | 9 => ⟨S32x8x1024, .f32⟩
  | 10 => ⟨S256x1024, .f32⟩
  | 11 => ⟨S1x256x1024, .f32⟩
  | 12 => ⟨S32x1024, .f32⟩
  | 13 => ⟨S32x8x1024, .f32⟩
  | 14 => ⟨S256x1024, .f32⟩
  | 15 => ⟨S1x256x1024, .f32⟩
  | 16 => ⟨S1024x1024, .f32⟩
  | 17 => ⟨S1024x1024, .f32⟩
  | 18 => ⟨S1024x1024, .f32⟩
  | 19 => ⟨S1024x16, .f32⟩
  | 20 => ⟨S16, .i32⟩
  | 21 => ⟨S_, .f32⟩
  | 22 => ⟨S48x1024, .f32⟩
  | 23 => ⟨S_, .f32⟩
  | 24 => ⟨S1024x48, .f32⟩
  | 25 => ⟨S_, .f32⟩
  | 26 => ⟨S1x1024, .f32⟩
  | 27 => ⟨S_, .f32⟩
  | 28 => ⟨S1024x1, .f32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S_, .i32⟩
  | 52 => ⟨S16, .i32⟩
  | 53 => ⟨S16, .i32⟩
  | 54 => ⟨S16, .i32⟩
  | 55 => ⟨S16x1, .i32⟩
  | 56 => ⟨S16x1, .i32⟩
  | 57 => ⟨S16x2, .i32⟩
  | 58 => ⟨S_, .f32⟩
  | 59 => ⟨S16, .f32⟩
  | 60 => ⟨S48x1024, .f32⟩
  | 61 => ⟨S_, .i32⟩
  | 62 => ⟨S16, .i32⟩
  | 63 => ⟨S16, .i32⟩
  | 64 => ⟨S_, .i32⟩
  | 65 => ⟨S16, .i32⟩
  | 66 => ⟨S16, .i32⟩
  | 67 => ⟨S_, .i32⟩
  | 68 => ⟨S16, .i32⟩
  | 69 => ⟨S16, .i32⟩
  | 70 => ⟨S_, .i32⟩
  | 71 => ⟨S16, .i32⟩
  | 72 => ⟨S16, .i1⟩
  | 73 => ⟨S_, .i32⟩
  | 74 => ⟨S16, .i32⟩
  | 75 => ⟨S16, .i32⟩
  | 76 => ⟨S16, .i32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S16x1, .i32⟩
  | 86 => ⟨S16x2, .i32⟩
  | 87 => ⟨S_, .f32⟩
  | 88 => ⟨S16, .f32⟩
  | 89 => ⟨S1024x48, .f32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S_, .i32⟩
  | 104 => ⟨S16, .i32⟩
  | 105 => ⟨S16, .i32⟩
  | 106 => ⟨S16x1, .i32⟩
  | 107 => ⟨S16x1, .i32⟩
  | 108 => ⟨S16x2, .i32⟩
  | 109 => ⟨S_, .f32⟩
  | 110 => ⟨S16, .f32⟩
  | 111 => ⟨S1x1024, .f32⟩
  | 112 => ⟨S_, .i32⟩
  | 113 => ⟨S16, .i32⟩
  | 114 => ⟨S16, .i32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S_, .i32⟩
  | 122 => ⟨S16, .i32⟩
  | 123 => ⟨S16, .i1⟩
  | 124 => ⟨S_, .i32⟩
  | 125 => ⟨S16, .i32⟩
  | 126 => ⟨S16, .i32⟩
  | 127 => ⟨S16, .i32⟩
  | _ => ⟨S32x8x1024, .f32⟩

abbrev hbmTy0_1 (i : Nat) : BufTy := match i % 128 with
  | 0 => ⟨S_, .i32⟩
  | 1 => ⟨S16, .i32⟩
  | 2 => ⟨S16, .i32⟩
  | 3 => ⟨S16x1, .i32⟩
  | 4 => ⟨S16x1, .i32⟩
  | 5 => ⟨S16x2, .i32⟩
  | 6 => ⟨S_, .f32⟩
  | 7 => ⟨S16, .f32⟩
  | 8 => ⟨S1024x1, .f32⟩
  | 9 => ⟨S_, .i32⟩
  | 10 => ⟨S16, .i32⟩
  | 11 => ⟨S16, .i32⟩
  | 12 => ⟨S_, .i32⟩
  | 13 => ⟨S16, .i32⟩
  | 14 => ⟨S16, .i32⟩
  | 15 => ⟨S_, .i32⟩
  | 16 => ⟨S16, .i32⟩
  | 17 => ⟨S16, .i32⟩
  | 18 => ⟨S_, .i32⟩
  | 19 => ⟨S16, .i32⟩
  | 20 => ⟨S16, .i32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S16x1, .i32⟩
  | 36 => ⟨S16x1, .i32⟩
  | 37 => ⟨S16x2, .i32⟩
  | 38 => ⟨S_, .f32⟩
  | 39 => ⟨S16, .f32⟩
  | 40 => ⟨S48x1024, .f32⟩
  | 41 => ⟨S_, .i32⟩
  | 42 => ⟨S16, .i32⟩
  | 43 => ⟨S16, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S_, .i32⟩
  | 58 => ⟨S16, .i32⟩
  | 59 => ⟨S16, .i1⟩
  | 60 => ⟨S_, .i32⟩
  | 61 => ⟨S16, .i32⟩
  | 62 => ⟨S16, .i32⟩
  | 63 => ⟨S16, .i32⟩
  | 64 => ⟨S16x1, .i32⟩
  | 65 => ⟨S16x1, .i32⟩
  | 66 => ⟨S16x2, .i32⟩
  | 67 => ⟨S_, .f32⟩
  | 68 => ⟨S16, .f32⟩
  | 69 => ⟨S1024x48, .f32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S16, .i32⟩
  | 78 => ⟨S16, .i1⟩
  | 79 => ⟨S_, .i32⟩
  | 80 => ⟨S16, .i32⟩
  | 81 => ⟨S16, .i32⟩
  | 82 => ⟨S16, .i32⟩
  | 83 => ⟨S_, .i32⟩
  | 84 => ⟨S16, .i32⟩
  | 85 => ⟨S16, .i32⟩
  | 86 => ⟨S16x1, .i32⟩
  | 87 => ⟨S16x1, .i32⟩
  | 88 => ⟨S16x2, .i32⟩
  | 89 => ⟨S_, .f32⟩
  | 90 => ⟨S16, .f32⟩
  | 91 => ⟨S1x1024, .f32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i1⟩
  | 104 => ⟨S_, .i32⟩
  | 105 => ⟨S16, .i32⟩
  | 106 => ⟨S16, .i32⟩
  | 107 => ⟨S16, .i32⟩
  | 108 => ⟨S_, .i32⟩
  | 109 => ⟨S16, .i32⟩
  | 110 => ⟨S16, .i32⟩
  | 111 => ⟨S16x1, .i32⟩
  | 112 => ⟨S16x1, .i32⟩
  | 113 => ⟨S16x2, .i32⟩
  | 114 => ⟨S_, .f32⟩
  | 115 => ⟨S16, .f32⟩
  | 116 => ⟨S1024x1, .f32⟩
  | 117 => ⟨S_, .i32⟩
  | 118 => ⟨S16, .i32⟩
  | 119 => ⟨S16, .i32⟩
  | 120 => ⟨S_, .i32⟩
  | 121 => ⟨S16, .i32⟩
  | 122 => ⟨S16, .i32⟩
  | 123 => ⟨S_, .i32⟩
  | 124 => ⟨S16, .i32⟩
  | 125 => ⟨S16, .i32⟩
  | 126 => ⟨S_, .i32⟩
  | 127 => ⟨S16, .i32⟩
  | _ => ⟨S32x8x1024, .f32⟩

abbrev hbmTy0_2 (i : Nat) : BufTy := match i % 128 with
  | 0 => ⟨S16, .i32⟩
  | 1 => ⟨S_, .i32⟩
  | 2 => ⟨S16, .i32⟩
  | 3 => ⟨S16, .i1⟩
  | 4 => ⟨S_, .i32⟩
  | 5 => ⟨S16, .i32⟩
  | 6 => ⟨S16, .i32⟩
  | 7 => ⟨S16, .i32⟩
  | 8 => ⟨S_, .i32⟩
  | 9 => ⟨S16, .i32⟩
  | 10 => ⟨S16, .i1⟩
  | 11 => ⟨S_, .i32⟩
  | 12 => ⟨S16, .i32⟩
  | 13 => ⟨S16, .i32⟩
  | 14 => ⟨S16, .i32⟩
  | 15 => ⟨S16x1, .i32⟩
  | 16 => ⟨S16x1, .i32⟩
  | 17 => ⟨S16x2, .i32⟩
  | 18 => ⟨S_, .f32⟩
  | 19 => ⟨S16, .f32⟩
  | 20 => ⟨S48x1024, .f32⟩
  | 21 => ⟨S_, .i32⟩
  | 22 => ⟨S16, .i32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i1⟩
  | 33 => ⟨S_, .i32⟩
  | 34 => ⟨S16, .i32⟩
  | 35 => ⟨S16, .i32⟩
  | 36 => ⟨S16, .i32⟩
  | 37 => ⟨S_, .i32⟩
  | 38 => ⟨S16, .i32⟩
  | 39 => ⟨S16, .i1⟩
  | 40 => ⟨S_, .i32⟩
  | 41 => ⟨S16, .i32⟩
  | 42 => ⟨S16, .i32⟩
  | 43 => ⟨S16, .i32⟩
  | 44 => ⟨S16x1, .i32⟩
  | 45 => ⟨S16x1, .i32⟩
  | 46 => ⟨S16x2, .i32⟩
  | 47 => ⟨S_, .f32⟩
  | 48 => ⟨S16, .f32⟩
  | 49 => ⟨S1024x48, .f32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S_, .i32⟩
  | 57 => ⟨S16, .i32⟩
  | 58 => ⟨S16, .i1⟩
  | 59 => ⟨S_, .i32⟩
  | 60 => ⟨S16, .i32⟩
  | 61 => ⟨S16, .i32⟩
  | 62 => ⟨S16, .i32⟩
  | 63 => ⟨S_, .i32⟩
  | 64 => ⟨S16, .i32⟩
  | 65 => ⟨S16, .i32⟩
  | 66 => ⟨S16x1, .i32⟩
  | 67 => ⟨S16x1, .i32⟩
  | 68 => ⟨S16x2, .i32⟩
  | 69 => ⟨S_, .f32⟩
  | 70 => ⟨S16, .f32⟩
  | 71 => ⟨S1x1024, .f32⟩
  | 72 => ⟨S_, .i32⟩
  | 73 => ⟨S16, .i32⟩
  | 74 => ⟨S16, .i32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i1⟩
  | 84 => ⟨S_, .i32⟩
  | 85 => ⟨S16, .i32⟩
  | 86 => ⟨S16, .i32⟩
  | 87 => ⟨S16, .i32⟩
  | 88 => ⟨S_, .i32⟩
  | 89 => ⟨S16, .i32⟩
  | 90 => ⟨S16, .i32⟩
  | 91 => ⟨S16x1, .i32⟩
  | 92 => ⟨S16x1, .i32⟩
  | 93 => ⟨S16x2, .i32⟩
  | 94 => ⟨S_, .f32⟩
  | 95 => ⟨S16, .f32⟩
  | 96 => ⟨S1024x1, .f32⟩
  | 97 => ⟨S1024x1024, .bf16⟩
  | 98 => ⟨S1024x1024, .f32⟩
  | 99 => ⟨S1024x1024, .bf16⟩
  | 100 => ⟨S1024x1024, .f32⟩
  | 101 => ⟨S1024x1024, .bf16⟩
  | 102 => ⟨S1024x16, .bf16⟩
  | 103 => ⟨S16x1024, .f32⟩
  | 104 => ⟨S16x1024, .bf16⟩
  | 105 => ⟨S1x16, .f32⟩
  | 106 => ⟨S16x1, .f32⟩
  | 107 => ⟨S48x1024, .bf16⟩
  | 108 => ⟨S1024x48, .bf16⟩
  | 109 => ⟨S1x256x2048, .bf16⟩
  | 110 => ⟨S1x1024x256, .f32⟩
  | 111 => ⟨S1x1024x256, .f32⟩
  | 112 => ⟨S1x2048x256, .bf16⟩
  | 113 => ⟨S1x2048x256, .bf16⟩
  | 114 => ⟨S1x16x256, .f32⟩
  | 115 => ⟨S16x64x32x8, .f32⟩
  | 116 => ⟨S32x16x64x8, .f32⟩
  | 117 => ⟨S16x64x32x8, .f32⟩
  | 118 => ⟨S32x16x64x8, .f32⟩
  | 119 => ⟨S16x32x8, .f32⟩
  | 120 => ⟨S32x16x8, .f32⟩
  | 121 => ⟨S32x8x16x64, .f32⟩
  | 122 => ⟨S32x8x16x64, .f32⟩
  | 123 => ⟨S32x8x16, .f32⟩
  | _ => ⟨S32x8x1024, .f32⟩

abbrev hbmTy (i : Nat) : BufTy := match i / 128 with
  | 0 => hbmTy0_0 i
  | 1 => hbmTy0_1 i
  | 2 => hbmTy0_2 i
  | _ => ⟨S32x8x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x16, .bf16⟩
  | .local _ .vmem, ⟨8, _⟩ => ⟨S16x1024, .bf16⟩
  | .local _ .vmem, ⟨9, _⟩ => ⟨S1x16, .f32⟩
  | .local _ .vmem, ⟨10, _⟩ => ⟨S16x1, .f32⟩
  | .local _ .vmem, ⟨11, _⟩ => ⟨S48x1024, .bf16⟩
  | .local _ .vmem, ⟨12, _⟩ => ⟨S1x1024, .f32⟩
  | .local _ .vmem, ⟨13, _⟩ => ⟨S1024x48, .bf16⟩
  | .local _ .vmem, ⟨14, _⟩ => ⟨S1024x1, .f32⟩
  | .local _ .vmem, ⟨15, _⟩ => ⟨S1x256x2048, .bf16⟩
  | .local _ .vmem, ⟨16, _⟩ => ⟨S1x1024x256, .f32⟩
  | .local _ .vmem, ⟨17, _⟩ => ⟨S1x1024x256, .f32⟩
  | .local _ .vmem, ⟨18, _⟩ => ⟨S1x2048x256, .bf16⟩
  | .local _ .vmem, ⟨19, _⟩ => ⟨S1x2048x256, .bf16⟩
  | .local _ .vmem, ⟨20, _⟩ => ⟨S1x16x256, .f32⟩
  | .local _ .vmem, ⟨21, _⟩ => ⟨S1x16, .f32⟩
  | .local _ .vmem, ⟨22, _⟩ => ⟨S16x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_c_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_16 : Ref sig .tc := ⟨.hbm, 77, rfl⟩
abbrev main_v53 : Ref sig .tc := ⟨.hbm, 78, rfl⟩
abbrev main_v54 : Ref sig .tc := ⟨.hbm, 79, rfl⟩
abbrev main_c_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_c_19 : Ref sig .tc := ⟨.hbm, 90, rfl⟩
abbrev main_v63 : Ref sig .tc := ⟨.hbm, 91, rfl⟩
abbrev main_v64 : Ref sig .tc := ⟨.hbm, 92, rfl⟩
abbrev main_c_20 : Ref sig .tc := ⟨.hbm, 93, rfl⟩
abbrev main_v65 : Ref sig .tc := ⟨.hbm, 94, rfl⟩
abbrev main_v66 : Ref sig .tc := ⟨.hbm, 95, rfl⟩
abbrev main_c_21 : Ref sig .tc := ⟨.hbm, 96, rfl⟩
abbrev main_v67 : Ref sig .tc := ⟨.hbm, 97, rfl⟩
abbrev main_v68 : Ref sig .tc := ⟨.hbm, 98, rfl⟩
abbrev main_c_22 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_23 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_24 : Ref sig .tc := ⟨.hbm, 109, rfl⟩
abbrev main_v77 : Ref sig .tc := ⟨.hbm, 110, rfl⟩
abbrev main_v78 : Ref sig .tc := ⟨.hbm, 111, rfl⟩
abbrev main_c_25 : Ref sig .tc := ⟨.hbm, 112, rfl⟩
abbrev main_v79 : Ref sig .tc := ⟨.hbm, 113, rfl⟩
abbrev main_v80 : Ref sig .tc := ⟨.hbm, 114, rfl⟩
abbrev main_c_26 : Ref sig .tc := ⟨.hbm, 115, rfl⟩
abbrev main_v81 : Ref sig .tc := ⟨.hbm, 116, rfl⟩
abbrev main_v82 : Ref sig .tc := ⟨.hbm, 117, rfl⟩
abbrev main_c_27 : Ref sig .tc := ⟨.hbm, 118, rfl⟩
abbrev main_v83 : Ref sig .tc := ⟨.hbm, 119, rfl⟩
abbrev main_v84 : Ref sig .tc := ⟨.hbm, 120, rfl⟩
abbrev main_c_28 : Ref sig .tc := ⟨.hbm, 121, rfl⟩
abbrev main_v85 : Ref sig .tc := ⟨.hbm, 122, rfl⟩
abbrev main_v86 : Ref sig .tc := ⟨.hbm, 123, rfl⟩
abbrev main_c_29 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_30 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_31 : Ref sig .tc := ⟨.hbm, 134, rfl⟩
abbrev main_v95 : Ref sig .tc := ⟨.hbm, 135, rfl⟩
abbrev main_v96 : Ref sig .tc := ⟨.hbm, 136, rfl⟩
abbrev main_c_32 : Ref sig .tc := ⟨.hbm, 137, rfl⟩
abbrev main_v97 : Ref sig .tc := ⟨.hbm, 138, rfl⟩
abbrev main_v98 : Ref sig .tc := ⟨.hbm, 139, rfl⟩
abbrev main_c_33 : Ref sig .tc := ⟨.hbm, 140, rfl⟩
abbrev main_v99 : Ref sig .tc := ⟨.hbm, 141, rfl⟩
abbrev main_v100 : Ref sig .tc := ⟨.hbm, 142, rfl⟩
abbrev main_c_34 : Ref sig .tc := ⟨.hbm, 143, rfl⟩
abbrev main_v101 : Ref sig .tc := ⟨.hbm, 144, rfl⟩
abbrev main_v102 : Ref sig .tc := ⟨.hbm, 145, rfl⟩
abbrev main_c_35 : Ref sig .tc := ⟨.hbm, 146, rfl⟩
abbrev main_v103 : Ref sig .tc := ⟨.hbm, 147, rfl⟩
abbrev main_v104 : Ref sig .tc := ⟨.hbm, 148, rfl⟩
abbrev main_c_36 : Ref sig .tc := ⟨.hbm, 149, rfl⟩
abbrev main_v105 : Ref sig .tc := ⟨.hbm, 150, rfl⟩
abbrev main_v106 : Ref sig .tc := ⟨.hbm, 151, rfl⟩
abbrev main_c_37 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_38 : Ref sig .tc := ⟨.hbm, 156, rfl⟩
abbrev main_v110 : Ref sig .tc := ⟨.hbm, 157, rfl⟩
abbrev main_v111 : Ref sig .tc := ⟨.hbm, 158, rfl⟩
abbrev main_c_39 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_40 : Ref sig .tc := ⟨.hbm, 166, rfl⟩
abbrev main_v118 : Ref sig .tc := ⟨.hbm, 167, rfl⟩
abbrev main_v119 : Ref sig .tc := ⟨.hbm, 168, rfl⟩
abbrev main_c_41 : Ref sig .tc := ⟨.hbm, 169, rfl⟩
abbrev main_v120 : Ref sig .tc := ⟨.hbm, 170, rfl⟩
abbrev main_v121 : Ref sig .tc := ⟨.hbm, 171, rfl⟩
abbrev main_c_42 : Ref sig .tc := ⟨.hbm, 172, rfl⟩
abbrev main_v122 : Ref sig .tc := ⟨.hbm, 173, rfl⟩
abbrev main_v123 : Ref sig .tc := ⟨.hbm, 174, rfl⟩
abbrev main_c_43 : Ref sig .tc := ⟨.hbm, 175, rfl⟩
abbrev main_v124 : Ref sig .tc := ⟨.hbm, 176, rfl⟩
abbrev main_v125 : Ref sig .tc := ⟨.hbm, 177, rfl⟩
abbrev main_c_44 : Ref sig .tc := ⟨.hbm, 178, rfl⟩
abbrev main_v126 : Ref sig .tc := ⟨.hbm, 179, rfl⟩
abbrev main_v127 : Ref sig .tc := ⟨.hbm, 180, rfl⟩
abbrev main_c_45 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_46 : Ref sig .tc := ⟨.hbm, 185, rfl⟩
abbrev main_v131 : Ref sig .tc := ⟨.hbm, 186, rfl⟩
abbrev main_v132 : Ref sig .tc := ⟨.hbm, 187, rfl⟩
abbrev main_c_47 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_48 : Ref sig .tc := ⟨.hbm, 195, rfl⟩
abbrev main_v139 : Ref sig .tc := ⟨.hbm, 196, rfl⟩
abbrev main_v140 : Ref sig .tc := ⟨.hbm, 197, rfl⟩
abbrev main_c_49 : Ref sig .tc := ⟨.hbm, 198, rfl⟩
abbrev main_v141 : Ref sig .tc := ⟨.hbm, 199, rfl⟩
abbrev main_v142 : Ref sig .tc := ⟨.hbm, 200, rfl⟩
abbrev main_c_50 : Ref sig .tc := ⟨.hbm, 201, rfl⟩
abbrev main_v143 : Ref sig .tc := ⟨.hbm, 202, rfl⟩
abbrev main_v144 : Ref sig .tc := ⟨.hbm, 203, rfl⟩
abbrev main_c_51 : Ref sig .tc := ⟨.hbm, 204, rfl⟩
abbrev main_v145 : Ref sig .tc := ⟨.hbm, 205, rfl⟩
abbrev main_v146 : Ref sig .tc := ⟨.hbm, 206, rfl⟩
abbrev main_c_52 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_c_53 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_54 : Ref sig .tc := ⟨.hbm, 217, rfl⟩
abbrev main_v155 : Ref sig .tc := ⟨.hbm, 218, rfl⟩
abbrev main_v156 : Ref sig .tc := ⟨.hbm, 219, rfl⟩
abbrev main_c_55 : Ref sig .tc := ⟨.hbm, 220, rfl⟩
abbrev main_v157 : Ref sig .tc := ⟨.hbm, 221, rfl⟩
abbrev main_v158 : Ref sig .tc := ⟨.hbm, 222, rfl⟩
abbrev main_c_56 : Ref sig .tc := ⟨.hbm, 223, rfl⟩
abbrev main_v159 : Ref sig .tc := ⟨.hbm, 224, rfl⟩
abbrev main_v160 : Ref sig .tc := ⟨.hbm, 225, rfl⟩
abbrev main_c_57 : Ref sig .tc := ⟨.hbm, 226, rfl⟩
abbrev main_v161 : Ref sig .tc := ⟨.hbm, 227, rfl⟩
abbrev main_v162 : Ref sig .tc := ⟨.hbm, 228, rfl⟩
abbrev main_c_58 : Ref sig .tc := ⟨.hbm, 229, rfl⟩
abbrev main_v163 : Ref sig .tc := ⟨.hbm, 230, rfl⟩
abbrev main_v164 : Ref sig .tc := ⟨.hbm, 231, rfl⟩
abbrev main_c_59 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_60 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_61 : Ref sig .tc := ⟨.hbm, 242, rfl⟩
abbrev main_v173 : Ref sig .tc := ⟨.hbm, 243, rfl⟩
abbrev main_v174 : Ref sig .tc := ⟨.hbm, 244, rfl⟩
abbrev main_c_62 : Ref sig .tc := ⟨.hbm, 245, rfl⟩
abbrev main_v175 : Ref sig .tc := ⟨.hbm, 246, rfl⟩
abbrev main_v176 : Ref sig .tc := ⟨.hbm, 247, rfl⟩
abbrev main_c_63 : Ref sig .tc := ⟨.hbm, 248, rfl⟩
abbrev main_v177 : Ref sig .tc := ⟨.hbm, 249, rfl⟩
abbrev main_v178 : Ref sig .tc := ⟨.hbm, 250, rfl⟩
abbrev main_c_64 : Ref sig .tc := ⟨.hbm, 251, rfl⟩
abbrev main_v179 : Ref sig .tc := ⟨.hbm, 252, rfl⟩
abbrev main_v180 : Ref sig .tc := ⟨.hbm, 253, rfl⟩
abbrev main_c_65 : Ref sig .tc := ⟨.hbm, 254, rfl⟩
abbrev main_v181 : Ref sig .tc := ⟨.hbm, 255, rfl⟩
abbrev main_v182 : Ref sig .tc := ⟨.hbm, 256, rfl⟩
abbrev main_c_66 : Ref sig .tc := ⟨.hbm, 257, rfl⟩
abbrev main_v183 : Ref sig .tc := ⟨.hbm, 258, rfl⟩
abbrev main_v184 : Ref sig .tc := ⟨.hbm, 259, rfl⟩
abbrev main_c_67 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_c_68 : Ref sig .tc := ⟨.hbm, 264, rfl⟩
abbrev main_v188 : Ref sig .tc := ⟨.hbm, 265, rfl⟩
abbrev main_v189 : Ref sig .tc := ⟨.hbm, 266, rfl⟩
abbrev main_c_69 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_cst_70 : Ref sig .tc := ⟨.hbm, 274, rfl⟩
abbrev main_v196 : Ref sig .tc := ⟨.hbm, 275, rfl⟩
abbrev main_v197 : Ref sig .tc := ⟨.hbm, 276, rfl⟩
abbrev main_c_71 : Ref sig .tc := ⟨.hbm, 277, rfl⟩
abbrev main_v198 : Ref sig .tc := ⟨.hbm, 278, rfl⟩
abbrev main_v199 : Ref sig .tc := ⟨.hbm, 279, rfl⟩
abbrev main_c_72 : Ref sig .tc := ⟨.hbm, 280, rfl⟩
abbrev main_v200 : Ref sig .tc := ⟨.hbm, 281, rfl⟩
abbrev main_v201 : Ref sig .tc := ⟨.hbm, 282, rfl⟩
abbrev main_c_73 : Ref sig .tc := ⟨.hbm, 283, rfl⟩
abbrev main_v202 : Ref sig .tc := ⟨.hbm, 284, rfl⟩
abbrev main_v203 : Ref sig .tc := ⟨.hbm, 285, rfl⟩
abbrev main_c_74 : Ref sig .tc := ⟨.hbm, 286, rfl⟩
abbrev main_v204 : Ref sig .tc := ⟨.hbm, 287, rfl⟩
abbrev main_v205 : Ref sig .tc := ⟨.hbm, 288, rfl⟩
abbrev main_c_75 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_c_76 : Ref sig .tc := ⟨.hbm, 293, rfl⟩
abbrev main_v209 : Ref sig .tc := ⟨.hbm, 294, rfl⟩
abbrev main_v210 : Ref sig .tc := ⟨.hbm, 295, rfl⟩
abbrev main_c_77 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_cst_78 : Ref sig .tc := ⟨.hbm, 303, rfl⟩
abbrev main_v217 : Ref sig .tc := ⟨.hbm, 304, rfl⟩
abbrev main_v218 : Ref sig .tc := ⟨.hbm, 305, rfl⟩
abbrev main_c_79 : Ref sig .tc := ⟨.hbm, 306, rfl⟩
abbrev main_v219 : Ref sig .tc := ⟨.hbm, 307, rfl⟩
abbrev main_v220 : Ref sig .tc := ⟨.hbm, 308, rfl⟩
abbrev main_c_80 : Ref sig .tc := ⟨.hbm, 309, rfl⟩
abbrev main_v221 : Ref sig .tc := ⟨.hbm, 310, rfl⟩
abbrev main_v222 : Ref sig .tc := ⟨.hbm, 311, rfl⟩
abbrev main_c_81 : Ref sig .tc := ⟨.hbm, 312, rfl⟩
abbrev main_v223 : Ref sig .tc := ⟨.hbm, 313, rfl⟩
abbrev main_v224 : Ref sig .tc := ⟨.hbm, 314, rfl⟩
abbrev main_c_82 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_c_83 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_cst_84 : Ref sig .tc := ⟨.hbm, 325, rfl⟩
abbrev main_v233 : Ref sig .tc := ⟨.hbm, 326, rfl⟩
abbrev main_v234 : Ref sig .tc := ⟨.hbm, 327, rfl⟩
abbrev main_c_85 : Ref sig .tc := ⟨.hbm, 328, rfl⟩
abbrev main_v235 : Ref sig .tc := ⟨.hbm, 329, rfl⟩
abbrev main_v236 : Ref sig .tc := ⟨.hbm, 330, rfl⟩
abbrev main_c_86 : Ref sig .tc := ⟨.hbm, 331, rfl⟩
abbrev main_v237 : Ref sig .tc := ⟨.hbm, 332, rfl⟩
abbrev main_v238 : Ref sig .tc := ⟨.hbm, 333, rfl⟩
abbrev main_c_87 : Ref sig .tc := ⟨.hbm, 334, rfl⟩
abbrev main_v239 : Ref sig .tc := ⟨.hbm, 335, rfl⟩
abbrev main_v240 : Ref sig .tc := ⟨.hbm, 336, rfl⟩
abbrev main_c_88 : Ref sig .tc := ⟨.hbm, 337, rfl⟩
abbrev main_v241 : Ref sig .tc := ⟨.hbm, 338, rfl⟩
abbrev main_v242 : Ref sig .tc := ⟨.hbm, 339, rfl⟩
abbrev main_c_89 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_c_90 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_cst_91 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_v265_0 : Ref sig .tc := ⟨.hbm, 365, rfl⟩
abbrev main_v265_1 : Ref sig .tc := ⟨.hbm, 366, rfl⟩
abbrev main_v265_2 : Ref sig .tc := ⟨.hbm, 367, rfl⟩
abbrev main_v265_3 : Ref sig .tc := ⟨.hbm, 368, rfl⟩
abbrev main_v265_4 : Ref sig .tc := ⟨.hbm, 369, rfl⟩
abbrev main_v265_5 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_v273 : Ref sig .tc := ⟨.hbm, 378, rfl⟩
abbrev main_v274 : Ref sig .tc := ⟨.hbm, 379, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S48x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x48 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x1024x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x1024x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x2048x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x2048x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x16x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== FoxNewRefIdeal.lean ====
abbrev S32x8x1024 : Shape := ⟨3, ![32, 8, 1024]⟩
abbrev S1024 : Shape := ⟨1, ![1024]⟩
abbrev S32x1x1024 : Shape := ⟨3, ![32, 1, 1024]⟩
abbrev S1024x3088 : Shape := ⟨2, ![1024, 3088]⟩
abbrev S16 : Shape := ⟨1, ![16]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3088 : Shape := ⟨3, ![32, 8, 3088]⟩
abbrev S32x8x16 : Shape := ⟨3, ![32, 8, 16]⟩
abbrev S32x8x16x64 : Shape := ⟨4, ![32, 8, 16, 64]⟩
abbrev S1x1x16 : Shape := ⟨3, ![1, 1, 16]⟩

abbrev nBuf : Space → Nat
  | .hbm => 55
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S32x1x1024, .f32⟩
  | .hbm, ⟨3, _⟩ => ⟨S32x1x1024, .f32⟩
  | .hbm, ⟨4, _⟩ => ⟨S1024x3088, .f32⟩
  | .hbm, ⟨5, _⟩ => ⟨S16, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x8x1024, .f32⟩
  | .hbm, ⟨26, _⟩ => ⟨S32x8x1024, .f32⟩
  | .hbm, ⟨27, _⟩ => ⟨S32x8x1024, .f32⟩
  | .hbm, ⟨28, _⟩ => ⟨S32x8x1024, .f32⟩
  | .hbm, ⟨29, _⟩ => ⟨S32x8x3088, .f32⟩
  | .hbm, ⟨30, _⟩ => ⟨S32x8x1024, .f32⟩
  | .hbm, ⟨31, _⟩ => ⟨S32x8x1024, .f32⟩
  | .hbm, ⟨32, _⟩ => ⟨S32x8x1024, .f32⟩
  | .hbm, ⟨33, _⟩ => ⟨S32x8x16, .f32⟩
  | .hbm, ⟨34, _⟩ => ⟨S32x8x16x64, .f32⟩
  | .hbm, ⟨35, _⟩ => ⟨S32x8x16x64, .f32⟩
  | .hbm, ⟨36, _⟩ => ⟨S1x1x16, .f32⟩
  | .hbm, ⟨37, _⟩ => ⟨S32x8x16, .f32⟩
  | .hbm, ⟨38, _⟩ => ⟨S32x8x16, .f32⟩
  | .hbm, ⟨39, _⟩ => ⟨S32x8x16, .f32⟩
  | .hbm, ⟨40, _⟩ => ⟨S_, .f32⟩
  | .hbm, ⟨41, _⟩ => ⟨S32x8x16, .f32⟩
  | .hbm, ⟨42, _⟩ => ⟨S32x8x16, .f32⟩
  | .hbm, ⟨43, _⟩ => ⟨S32x8x16, .f32⟩
  | .hbm, ⟨44, _⟩ => ⟨S32x8x16, .f32⟩
  | .hbm, ⟨45, _⟩ => ⟨S32x8x16, .i1⟩
  | .hbm, ⟨46, _⟩ => ⟨S32x8x16, .f32⟩
  | .hbm, ⟨47, _⟩ => ⟨S32x8x16, .f32⟩
  | .hbm, ⟨48, _⟩ => ⟨S32x8x16, .f32⟩
  | .hbm, ⟨49, _⟩ => ⟨S32x8x16, .f32⟩
  | .hbm, ⟨50, _⟩ => ⟨S32x8x16, .f32⟩
  | .hbm, ⟨51, _⟩ => ⟨S32x8x16, .f32⟩
  | .hbm, ⟨52, _⟩ => ⟨S32x8x16, .f32⟩
  | .hbm, ⟨53, _⟩ => ⟨S32x8x16, .f32⟩
  | .hbm, ⟨54, _⟩ => ⟨S32x8x16, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v29 : Ref sig .tc := ⟨.hbm, 54, rfl⟩

abbrev nD : Nat := 1
abbrev τ : Topo := Topo.v7x

variable {F : FTy → Type} [FloatOps F]
-- ==== Proof.MlpRef.lean ====
/- What the plain feed-forward reference computes, one stage at a time: the modulated normalised rows, the hidden
   activations, the gated residual sum, and the final normalisation, each read at an index. -/
module

public import proofs.«01_k».proof.Proof.Gen.MlpRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlpMath

/-- The factor that normalises a row by its root mean square. -/
def scaleOf (x : Fin 1024 → EReal) : EReal :=
  Ideal.rsqrt (Ideal.div (∑ k, x k * x k) (Ideal.ofBits .f32 0x44800000#32) + Ideal.ofBits .f32 0x358637BD#32)

/-- One entry of the modulated normalised row. -/
def modulated (x g sc sh : Fin 1024 → EReal) (k : Fin 1024) : EReal :=
  x k * scaleOf x * g k * (1 + sc k) + sh k

/-- One hidden activation: the squared rectified product of a row and a column. -/
def sqRelu (n w : Fin 1024 → EReal) : EReal :=
  max (∑ k, n k * w k) 0 * max (∑ k, n k * w k) 0

end Cert.MlpMath

namespace Cert.MlpRefIdeal.Stage
open Cert.MlpRefIdeal Cert.MlpRefIdeal.Gen Cert.MlpMath

/-- The modulated normalised rows. -/
def normed (X : FVec Ideal S16x2048x1024 .f32) (G : FVec Ideal S1024 .f32) (Sh Sc : FVec Ideal S16x1x1024 .f32) :
    FVec Ideal S16x2048x1024 .f32 :=
  addf (mulf (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) Sc))) (broadcastInDim S16x2048x1024 ![0, 1, 2] bcast_S16x1x1024_S16x2048x1024_0_1_2 Sh)

/-- The squared rectified hidden layer. -/
def hid (N : FVec Ideal S16x2048x1024 .f32) (Wu : FVec Ideal S1024x4096 .f32) : FVec Ideal S16x2048x4096 .f32 :=
  mulf (maximumf (Host.dotGeneral dot_S16x2048x1024_S1024x4096_S16x2048x4096_2_0_01_1_n_n none N Wu) (broadcastInDim S16x2048x4096 ![] bcast_S_S16x2048x4096 (constant S_ .f32 0x00000000#32)))
    (maximumf (Host.dotGeneral dot_S16x2048x1024_S1024x4096_S16x2048x4096_2_0_01_1_n_n none N Wu) (broadcastInDim S16x2048x4096 ![] bcast_S_S16x2048x4096 (constant S_ .f32 0x00000000#32)))

/-- The gated residual sum. -/
def resid (X : FVec Ideal S16x2048x1024 .f32) (Ga : FVec Ideal S16x1x1024 .f32) (U : FVec Ideal S16x2048x4096 .f32) (Wd : FVec Ideal S4096x1024 .f32) :
    FVec Ideal S16x2048x1024 .f32 :=
  addf X (mulf (broadcastInDim S16x2048x1024 ![0, 1, 2] bcast_S16x1x1024_S16x2048x1024_0_1_2 Ga) (Host.dotGeneral dot_S16x2048x4096_S4096x1024_S16x2048x1024_2_0_01_1_n_n none U Wd))

/-- The final normalisation. -/
def finish (Y : FVec Ideal S16x2048x1024 .f32) (Gf : FVec Ideal S1024 .f32) : FVec Ideal S16x2048x1024 .f32 :=
  mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 Gf))

/-- The whole reference, as its stages. -/
def whole (X : FVec Ideal S16x2048x1024 .f32) (G : FVec Ideal S1024 .f32) (Sh Sc Ga : FVec Ideal S16x1x1024 .f32)
    (Wu : FVec Ideal S1024x4096 .f32) (Wd : FVec Ideal S4096x1024 .f32) (Gf : FVec Ideal S1024 .f32) : FVec Ideal S16x2048x1024 .f32 :=
  finish (resid X Ga (hid (normed X G Sh Sc) Wu) Wd) Gf

theorem normed_at (X : FVec Ideal S16x2048x1024 .f32) (G : FVec Ideal S1024 .f32) (Sh Sc : FVec Ideal S16x1x1024 .f32)
    (b : Fin 16) (s : Fin 2048) (k : Fin 1024) :
    normed X G Sh Sc (ix3 b s k) = modulated (fun k => X (ix3 b s k)) (fun k => G (ix1 k)) (fun k => Sc (ix3 b 0 k)) (fun k => Sh (ix3 b 0 k)) k := by
  unfold modulated scaleOf
  pointwise! [normed]

theorem hid_at (N : FVec Ideal S16x2048x1024 .f32) (Wu : FVec Ideal S1024x4096 .f32) (b : Fin 16) (s : Fin 2048) (f : Fin 4096) :
    hid N Wu (ix3 b s f) = sqRelu (fun k => N (ix3 b s k)) (fun k => Wu (ix2 k f)) := by
  unfold sqRelu
  pointwise! [hid]

theorem resid_at (X : FVec Ideal S16x2048x1024 .f32) (Ga : FVec Ideal S16x1x1024 .f32) (U : FVec Ideal S16x2048x4096 .f32) (Wd : FVec Ideal S4096x1024 .f32)
    (b : Fin 16) (s : Fin 2048) (k : Fin 1024) :
    resid X Ga U Wd (ix3 b s k) = X (ix3 b s k) + Ga (ix3 b 0 k) * ∑ f : Fin 4096, U (ix3 b s f) * Wd (ix2 f k) := by
  pointwise! [resid]

theorem finish_at (Y : FVec Ideal S16x2048x1024 .f32) (Gf : FVec Ideal S1024 .f32) (b : Fin 16) (s : Fin 2048) (k : Fin 1024) :
    finish Y Gf (ix3 b s k) = Y (ix3 b s k) * scaleOf (fun k => Y (ix3 b s k)) * Gf (ix1 k) := by
  unfold scaleOf
  pointwise! [finish]

end Cert.MlpRefIdeal.Stage

end
-- ==== Proof.MlpBody.lean ====
/- What the feed-forward body computes at one grid point, each stage read at an index over arbitrary blocks. -/
module

public import proofs.«01_k».proof.Proof.Gen.MlpIdeal.Frame
public import proofs.«01_k».proof.Proof.MlpRef

@[expose] public section

set_option maxRecDepth 16384

noncomputable section

open Idealize.ShloMosaic Idealize.ShloMosaic.TcCoe Idealize.SL.Sem

namespace Cert.MlpIdeal.Stage
open Cert.MlpIdeal Cert.MlpIdeal.Gen Cert.MlpMath

theorem normed_at (X : FVec Ideal S1x512x1024 .f32) (G : FVec Ideal S1x1024 .f32) (Sh Sc : FVec Ideal S1x1x1024 .f32)
    (r : Fin 512) (k : Fin 1024) :
    k0_pay3 (F := Ideal) X G Sh Sc (ix2 r k) = modulated (fun k => X (ix3 0 r k)) (fun k => G (ix2 0 k)) (fun k => Sc (ix3 0 0 k)) (fun k => Sh (ix3 0 0 k)) k := by
  unfold modulated scaleOf
  pointwise! [k0_pay3, k0_pay2]

theorem first_at (X : FVec Ideal S1x512x1024 .f32) (G : FVec Ideal S1x1024 .f32) (Sh Sc : FVec Ideal S1x1x1024 .f32)
    (W : FVec Ideal S1024x1024 .bf16) (r : Fin 512) (f : Fin 1024) :
    k0_pay5 (F := Ideal) X G Sh Sc W (ix2 r f) = sqRelu (fun k => k0_pay3 (F := Ideal) X G Sh Sc (ix2 r k)) (fun k => W (ix2 k f)) := by
  unfold sqRelu
  pointwise! [k0_pay5]

/-- The four column blocks of the hidden layer, each brought back through its rows of the second matrix and added up. -/
theorem down_at (N : FVec Ideal S512x1024 .bf16) (U0 : FVec Ideal S512x1024 .bf16) (D0 W1 D1 W2 D2 W3 D3 : FVec Ideal S1024x1024 .bf16)
    (r : Fin 512) (k : Fin 1024) :
    k0_pay6 (F := Ideal) N (k0_pay4 (F := Ideal)) U0 D0 W1 D1 W2 D2 W3 D3 (ix2 r k)
      = (∑ f : Fin 1024, U0 (ix2 r f) * D0 (ix2 f k))
        + (∑ f : Fin 1024, sqRelu (fun k => N (ix2 r k)) (fun k => W1 (ix2 k f)) * D1 (ix2 f k))
        + (∑ f : Fin 1024, sqRelu (fun k => N (ix2 r k)) (fun k => W2 (ix2 k f)) * D2 (ix2 f k))
        + (∑ f : Fin 1024, sqRelu (fun k => N (ix2 r k)) (fun k => W3 (ix2 k f)) * D3 (ix2 f k)) := by
  unfold sqRelu
  pointwise! [k0_pay6, k0_pay4]

/-- The same sum, over the whole hidden layer at once, when the four pairs of blocks are the tiles of the two matrices. -/
theorem down_eq (N : FVec Ideal S512x1024 .bf16) (U0 : FVec Ideal S512x1024 .bf16) (D0 W1 D1 W2 D2 W3 D3 : FVec Ideal S1024x1024 .bf16)
    (r : Fin 512) (k : Fin 1024) (U D : Fin 4096 → EReal)
    (hU0 : ∀ f : Fin 1024, U0 (ix2 r f) = U ⟨0 + f, by omega⟩)
    (hU1 : ∀ f : Fin 1024, sqRelu (fun k => N (ix2 r k)) (fun k => W1 (ix2 k f)) = U ⟨1024 + f, by omega⟩)
    (hU2 : ∀ f : Fin 1024, sqRelu (fun k => N (ix2 r k)) (fun k => W2 (ix2 k f)) = U ⟨2048 + f, by omega⟩)
    (hU3 : ∀ f : Fin 1024, sqRelu (fun k => N (ix2 r k)) (fun k => W3 (ix2 k f)) = U ⟨3072 + f, by omega⟩)
    (hD0 : ∀ f : Fin 1024, D0 (ix2 f k) = D ⟨0 + f, by omega⟩) (hD1 : ∀ f : Fin 1024, D1 (ix2 f k) = D ⟨1024 + f, by omega⟩)
    (hD2 : ∀ f : Fin 1024, D2 (ix2 f k) = D ⟨2048 + f, by omega⟩) (hD3 : ∀ f : Fin 1024, D3 (ix2 f k) = D ⟨3072 + f, by omega⟩) :
    k0_pay6 (F := Ideal) N (k0_pay4 (F := Ideal)) U0 D0 W1 D1 W2 D2 W3 D3 (ix2 r k) = ∑ f : Fin 4096, U f * D f := by
  refine (down_at ..).trans (Eq.trans ?_ (Fin.sum_univ_tiles 4 1024 rfl fun f : Fin (4 * 1024) => U f * D f).symm)
  rw [Fin.sum_univ_four]
  refine congrArg₂ (· + ·) (congrArg₂ (· + ·) (congrArg₂ (· + ·) ?_ ?_) ?_) ?_ <;> refine Finset.sum_congr rfl fun f _ => ?_
  · exact congrArg₂ (· * ·) (hU0 f) (hD0 f)
  · exact congrArg₂ (· * ·) (hU1 f) (hD1 f)
  · exact congrArg₂ (· * ·) (hU2 f) (hD2 f)
  · exact congrArg₂ (· * ·) (hU3 f) (hD3 f)

theorem finish_at (X A : FVec Ideal S512x1024 .f32) (Ga : FVec Ideal S1x1x1024 .f32) (Gf : FVec Ideal S1x1024 .f32)
    (r : Fin 512) (k : Fin 1024) :
    k0_pay1 (F := Ideal) X A Ga Gf (ix3 0 r k) = (X (ix2 r k) + Ga (ix3 0 0 k) * A (ix2 r k))
      * scaleOf (fun k => X (ix2 r k) + Ga (ix3 0 0 k) * A (ix2 r k)) * Gf (ix2 0 k) := by
  unfold scaleOf
  pointwise! [k0_pay1]

end Cert.MlpIdeal.Stage

end
-- ==== Proof.MlpTile.lean ====
/- The gated residual sum of one grid point, from blocks that hold the matching rows and tiles of the argument arrays. -/
module

public import proofs.«01_k».proof.Proof.MlpBody
public import Idealize.ShloMosaic.Lib.Pipeline.ValueKit

@[expose] public section

set_option maxRecDepth 16384

noncomputable section

open Idealize.ShloMosaic Idealize.ShloMosaic.TcCoe Idealize.SL.Sem

namespace Cert.MlpIdeal.Stage
open Cert.MlpIdeal Cert.MlpIdeal.Gen Cert.MlpMath

variable (X : FVec Ideal S1x512x1024 .f32) (G : FVec Ideal S1x1024 .f32) (Sh Sc Ga : FVec Ideal S1x1x1024 .f32)
  (Wu : FVec Ideal S1024x4096 .bf16) (Wd : FVec Ideal S4096x1024 .bf16)
  (aX : FVec Ideal S16x2048x1024 .f32) (aG : FVec Ideal S1024 .f32) (aSh aSc aGa : FVec Ideal S16x1x1024 .f32)
  (aWu : FVec Ideal S1024x4096 .f32) (aWd : FVec Ideal S4096x1024 .f32)
  (b : Fin 16) (s : Fin 2048) (r : Fin 512)

/-- The accumulated product of the body, from the loaded tiles. -/
abbrev accumOf : FVec Ideal S512x1024 .f32 :=
  k0_pay6 (k0_pay3 X G Sh Sc) k0_pay4 (k0_pay5 X G Sh Sc (View.ld Wu r0_3))
    (View.ld Wd r0_4) (View.ld Wu r0_5) (View.ld Wd r0_6) (View.ld Wu r0_7) (View.ld Wd r0_8) (View.ld Wu r0_9) (View.ld Wd r0_10)

/-- The reference's hidden layer over the argument arrays. -/
abbrev hidOf := Cert.MlpRefIdeal.Stage.hid (Cert.MlpRefIdeal.Stage.normed aX aG aSh aSc) aWu

/-- One row of the blocks is one row of the arrays. -/
structure Row : Prop where
  x : ∀ k, X (ix3 0 r k) = aX (ix3 b s k)
  g : ∀ k, G (ix2 0 k) = aG (ix1 k)
  sh : ∀ k, Sh (ix3 0 0 k) = aSh (ix3 b 0 k)
  sc : ∀ k, Sc (ix3 0 0 k) = aSc (ix3 b 0 k)

variable {X G Sh Sc Ga Wu Wd aX aG aSh aSc aGa aWu aWd b s r}

/-- A row of the normalised block is the matching row of the reference's. -/
theorem normed_row (h : Row X G Sh Sc aX aG aSh aSc b s r) (k : Fin 1024) :
    k0_pay3 (F := Ideal) X G Sh Sc (ix2 r k) = Cert.MlpRefIdeal.Stage.normed aX aG aSh aSc (ix3 b s k) := by
  refine (normed_at _ _ _ _ r k).trans (Eq.trans ?_ (Cert.MlpRefIdeal.Stage.normed_at _ _ _ _ b s k).symm)
  congr 1 <;> funext k
  · exact h.x k
  · exact h.g k
  · exact h.sc k
  · exact h.sh k

/-- One hidden activation of the reference, from a row of the normalised block and a column of the first matrix. -/
theorem hid_row (h : Row X G Sh Sc aX aG aSh aSc b s r) (f : Fin 4096) (w : Fin 1024 → EReal) (hw : ∀ k, w k = aWu (ix2 k f)) :
    sqRelu (fun k => k0_pay3 (F := Ideal) X G Sh Sc (ix2 r k)) w = hidOf aX aG aSh aSc aWu (ix3 b s f) := by
  refine Eq.trans ?_ (Cert.MlpRefIdeal.Stage.hid_at _ _ b s f).symm
  congr 1 <;> funext k
  · exact normed_row h k
  · exact hw k

/-- The body's gated residual sum at a place is the reference's. -/
theorem resid_row (h : Row X G Sh Sc aX aG aSh aSc b s r) (hGa : ∀ k, Ga (ix3 0 0 k) = aGa (ix3 b 0 k))
    (hWu : ∀ (k : Fin 1024) (f : Fin 4096), Wu (ix2 k f) = aWu (ix2 k f)) (hWd : ∀ (f : Fin 4096) (k : Fin 1024), Wd (ix2 f k) = aWd (ix2 f k)) (k : Fin 1024) :
    k0_pay2 (F := Ideal) X (ix2 r k) + (show EReal from Ga (ix3 0 0 k)) * accumOf X G Sh Sc Wu Wd (ix2 r k)
      = Cert.MlpRefIdeal.Stage.resid aX aGa (hidOf aX aG aSh aSc aWu) aWd (ix3 b s k) := by
  refine Eq.trans ?_ (Cert.MlpRefIdeal.Stage.resid_at _ _ _ _ b s k).symm
  refine congrArg₂ (· + ·) ?_ (congrArg₂ (· * ·) (hGa k) ?_)
  · refine Eq.trans ?_ (h.x k)
    pointwise! [k0_pay2]
  · refine down_eq _ _ _ _ _ _ _ _ _ r k (fun f => hidOf aX aG aSh aSc aWu (ix3 b s f)) (fun f => aWd (ix2 f k))
      (fun f => ?_) (fun f => ?_) (fun f => ?_) (fun f => ?_) (fun f => ?_) (fun f => ?_) (fun f => ?_) (fun f => ?_)
    · refine (first_at _ _ _ _ _ r f).trans (hid_row h _ _ fun k => ?_)
      pointwise; exact hWu k _
    · refine hid_row h _ _ fun k => ?_
      pointwise; exact hWu k _
    · refine hid_row h _ _ fun k => ?_
      pointwise; exact hWu k _
    · refine hid_row h _ _ fun k => ?_
      pointwise; exact hWu k _
    all_goals (pointwise; exact hWd _ k)

end Cert.MlpIdeal.Stage

end
-- ==== Proof.FoxInBody.lean ====
/- What the projection body of the forgetting attention computes at one grid point, each stored block read at an index over arbitrary loaded blocks. -/
module

public import proofs.«01_k».proof.Proof.Gen.FoxInIdeal.Skeleton
public import proofs.«01_k».proof.Proof.MlpTile
public import Idealize.ShloMosaic.Lib.Pointwise

@[expose] public section

set_option maxRecDepth 16384

noncomputable section

open Idealize.ShloMosaic Idealize.ShloMosaic.TcCoe Idealize.SL.Sem

namespace Cert.FoxInIdeal.Stage
open Cert.FoxInIdeal Cert.FoxInIdeal.Gen

theorem key_at (N : FVec Ideal S512x1024 .bf16) (W : FVec Ideal S1024x1024 .bf16) (j : Fin 1024) (r : Fin 512) :
    k0_pay13 (F := Ideal) N W (ix3 0 j r) = ∑ k : Fin 1024, W (ix2 j k) * N (ix2 r k) := by
  pointwise! [k0_pay13, k0_pay11]

theorem value_at (N : FVec Ideal S512x1024 .bf16) (W : FVec Ideal S1024x1024 .bf16) (j : Fin 1024) (r : Fin 512) :
    k0_pay14 (F := Ideal) N W (ix3 0 j r) = ∑ k : Fin 1024, W (ix2 j k) * N (ix2 r k) := by
  pointwise! [k0_pay14, k0_pay12]

theorem gateArg_at (N : FVec Ideal S512x1024 .bf16) (W : FVec Ideal S16x1024 .bf16) (B : FVec Ideal S16x1 .f32) (h : Fin 16) (r : Fin 512) :
    k0_pay16 (F := Ideal) N W B (ix2 h r) = (∑ k : Fin 1024, W (ix2 h k) * N (ix2 r k)) + B (ix2 h 0) := by
  pointwise! [k0_pay16]

theorem gate_at (Z : FVec Ideal S16x512 .f32) (h : Fin 16) (r : Fin 512) :
    k0_pay18 (F := Ideal) Z (Scalar.ofBits .f32 0x00000000#32) (ix3 0 h r)
      = min (Z (ix2 h r)) 0 - Ideal.log1p (Ideal.exp (0 - max (Z (ix2 h r)) (-Z (ix2 h r)))) := by
  pointwise [k0_pay18, k0_pay17]
  rw [Ideal.absf_def]

end Cert.FoxInIdeal.Stage

end
-- ==== Proof.FoxInStores.lean ====
/- The blocks the projection of the forgetting attention stores at one grid point, the same at a batch's first point and at the others. -/
module

public import proofs.«01_k».proof.Proof.Gen.FoxInIdeal.Frame
public import proofs.«01_k».proof.Proof.FoxInBody

@[expose] public section

set_option maxRecDepth 16384

noncomputable section

open Idealize.ShloMosaic Idealize.ShloMosaic.TcCoe Idealize.SL.Sem
open Idealize.ShloMosaic.Pipeline (Dat)

namespace Cert.FoxInIdeal.Stage
open Cert.FoxInIdeal Cert.FoxInIdeal.Gen

variable (m : (ℓ : Loc nD τ sig) → Buf (Elt Ideal) ℓ)

/-- The normalised block at one grid point. -/
abbrev rows (c : Dev nD) (t : Fin cfg0.N) : FVec Ideal S512x1024 .bf16 :=
  k0_pay9 (F := Ideal) (iblk m c 0 t) (iblk m c 1 t) (iblk m c 2 t) (iblk m c 3 t)

/-- The keys at one grid point, whichever case the point is of. -/
theorem key_block (c : Dev nD) (t : Fin cfg0.N) : (outsAt0 m c t.val t.isLt).2.1 = k0_pay13 (F := Ideal) (rows m c t) (iblk m c 5 t) := by
  by_cases h0 : t.val % 4 = 0
  · rw [outsAt0_A m c t h0]
    frame_out
  · rw [outsAt0_B m c t h0]
    frame_out

theorem value_block (c : Dev nD) (t : Fin cfg0.N) : (outsAt0 m c t.val t.isLt).2.2.1 = k0_pay14 (F := Ideal) (rows m c t) (iblk m c 6 t) := by
  by_cases h0 : t.val % 4 = 0
  · rw [outsAt0_A m c t h0]
    frame_out
  · rw [outsAt0_B m c t h0]
    frame_out

theorem gate_block (c : Dev nD) (t : Fin cfg0.N) : (outsAt0 m c t.val t.isLt).2.2.2.2.2.1
    = k0_pay18 (F := Ideal) (k0_pay16 (F := Ideal) (rows m c t) (iblk m c 8 t) (iblk m c 10 t)) (Scalar.ofBits .f32 0x00000000#32) := by
  by_cases h0 : t.val % 4 = 0
  · rw [outsAt0_A m c t h0]
    frame_out
  · rw [outsAt0_B m c t h0]
    frame_out

end Cert.FoxInIdeal.Stage

end
-- ==== Proof.FoxInHost.lean ====
/- The weight matrices the host slices, turns and casts for the projection of the forgetting attention, read at an index of the argument they come from. -/
module

public import proofs.«01_k».proof.Proof.Gen.FoxInIdeal.Frame.Runs
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.FoxInIdeal.Stage
open Cert.FoxInIdeal Cert.FoxInIdeal.Gen

/-- The key columns, turned. -/
def keyW (W : FVec Ideal S1024x3088 .f32) : FVec Ideal S1024x1024 .bf16 :=
  truncf .bf16 (transpose S1024x1024 [1, 0] (extractStridedSlice S1024x1024 ![0, 1024] W slices_S1024x3088_S1024x1024_0_1024) transposes_S1024x1024_S1024x1024_1_0) bitsLt_bf16_f32

/-- The value columns, turned. -/
def valueW (W : FVec Ideal S1024x3088 .f32) : FVec Ideal S1024x1024 .bf16 :=
  truncf .bf16 (transpose S1024x1024 [1, 0] (extractStridedSlice S1024x1024 ![0, 2048] W slices_S1024x3088_S1024x1024_0_2048) transposes_S1024x1024_S1024x1024_1_0) bitsLt_bf16_f32

/-- The forget gates' columns, turned. -/
def gateW (W : FVec Ideal S1024x3088 .f32) : FVec Ideal S16x1024 .bf16 :=
  truncf .bf16 (transpose S16x1024 [1, 0] (extractStridedSlice S1024x16 ![0, 3072] W slices_S1024x3088_S1024x16_0_3072) transposes_S1024x16_S16x1024_1_0) bitsLt_bf16_f32

theorem keyW_at (W : FVec Ideal S1024x3088 .f32) (j k : Fin 1024) : keyW W (ix2 j k) = W (ix2 k ⟨1024 + j, by omega⟩) := by
  pointwise! [keyW]

theorem valueW_at (W : FVec Ideal S1024x3088 .f32) (j k : Fin 1024) : valueW W (ix2 j k) = W (ix2 k ⟨2048 + j, by omega⟩) := by
  pointwise! [valueW]

theorem gateW_at (W : FVec Ideal S1024x3088 .f32) (h : Fin 16) (k : Fin 1024) : gateW W (ix2 h k) = W (ix2 k ⟨3072 + h, by omega⟩) := by
  pointwise! [gateW]

variable (m : (ℓ : Loc nD τ sig) → Buf (Elt Ideal) ℓ)

theorem host_norm (c : Dev nD) : V m c main_v0 = shapeCast S1x1024 (m ((c : Thread nD τ).loc main_arg1)) shapeCasts_S1024_S1x1024 := by
  unfold V V0
  after_reads_simp
  rfl

theorem host_key (c : Dev nD) : V m c main_v246 = keyW (m ((c : Thread nD τ).loc main_arg4)) := by
  unfold V V0
  after_reads_simp
  rfl

theorem host_value (c : Dev nD) : V m c main_v248 = valueW (m ((c : Thread nD τ).loc main_arg4)) := by
  unfold V V0
  after_reads_simp
  rfl

theorem host_gate (c : Dev nD) : V m c main_v251 = gateW (m ((c : Thread nD τ).loc main_arg4)) := by
  unfold V V0
  after_reads_simp
  rfl

theorem host_bias (c : Dev nD) : V m c main_v253 = shapeCast S16x1 (m ((c : Thread nD τ).loc main_arg5)) shapeCasts_S16_S16x1 := by
  unfold V V0
  after_reads_simp
  rfl

end Cert.FoxInIdeal.Stage

end
-- ==== Proof.GateMath.lean ====
/- The gate's logarithm: two spellings of the logistic's logarithm over its temperature are one function of the extended reals. -/
module

public import Idealize.ShloMosaic.Lib.Pointwise

@[expose] public section

noncomputable section

open Idealize.ShloMosaic

namespace Cert.GateMath

theorem sixteenth : Ideal.ofBits .f32 0x3D800000#32 = (((1 / 16 : ℝ)) : EReal) := by
  simp [Ideal.ofBits, Ideal.ieee, -EReal.coe_mul]; norm_num

theorem sixteen : Ideal.ofBits .f32 0x41800000#32 = (((16 : ℝ)) : EReal) := by
  simp [Ideal.ofBits, Ideal.ieee, -EReal.coe_mul]; norm_num

/-- Dividing by the temperature is scaling by its reciprocal. -/
theorem div_sixteen (x : EReal) : Ideal.div x (Ideal.ofBits .f32 0x41800000#32) = x * Ideal.ofBits .f32 0x3D800000#32 := by
  rw [sixteen, sixteenth]
  unfold Ideal.div
  rw [if_neg (by exact_mod_cast (by norm_num : (16 : ℝ) ≠ 0)), ← EReal.coe_inv]
  norm_num

/-- The logarithm of one plus an exponential is not negative. -/
theorem log1p_exp_nonneg (x : EReal) : 0 ≤ Ideal.log1p (Ideal.exp x) := by
  induction x with
  | bot =>
    have : Ideal.log1p (Ideal.exp ⊥) = ((Real.log 1 : ℝ) : EReal) := by
      show Ideal.log (1 + 0) = _
      rw [add_zero]
      show (if (1 : ℝ) ≤ 0 then (⊥ : EReal) else _) = _
      rw [if_neg (by norm_num)]
    rw [this, Real.log_one]
    exact le_refl _
  | top =>
    have : Ideal.log1p (Ideal.exp ⊤) = ⊤ := by
      show Ideal.log (1 + ⊤) = _
      rw [EReal.add_top_of_ne_bot (by decide)]
      rfl
    rw [this]
    exact le_top
  | coe r =>
    have h := Real.exp_pos r
    have : Ideal.log1p (Ideal.exp (r : EReal)) = ((Real.log (1 + Real.exp r) : ℝ) : EReal) := by
      show Ideal.log (((1 + Real.exp r : ℝ)) : EReal) = _
      show (if (1 + Real.exp r : ℝ) ≤ 0 then (⊥ : EReal) else _) = _
      rw [if_neg (by linarith)]
    rw [this]
    exact_mod_cast Real.log_nonneg (by linarith)

/-- The two spellings of the logistic's log agree everywhere. -/
theorem softplus_eq (z : EReal) :
    min z 0 - Ideal.log1p (Ideal.exp (0 - max z (-z))) = -(max (-z) 0 + Ideal.log1p (Ideal.exp (-max (-z) (- -z)))) := by
  rw [neg_neg, max_comm (-z) z, zero_sub]
  have h := log1p_exp_nonneg (-max z (-z))
  rw [EReal.neg_add (.inl (ne_of_gt (lt_of_lt_of_le (EReal.bot_lt_zero) (le_max_right _ _))))
    (.inr (ne_of_gt (lt_of_lt_of_le EReal.bot_lt_zero h)))]
  congr 1
  rcases le_total z 0 with hz | hz
  · rw [min_eq_left hz, max_eq_left (EReal.neg_nonneg.2 hz), neg_neg]
  · rw [min_eq_right hz, max_eq_right (by rw [EReal.neg_le]; simpa using hz), neg_zero]

/-- So do they over the temperature. -/
theorem gate_eq (z : EReal) :
    (min z 0 - Ideal.log1p (Ideal.exp (0 - max z (-z)))) * Ideal.ofBits .f32 0x3D800000#32
      = Ideal.div (-(max (-z) 0 + Ideal.log1p (Ideal.exp (-max (-z) (- -z))))) (Ideal.ofBits .f32 0x41800000#32) := by
  rw [div_sixteen, softplus_eq]

end Cert.GateMath

end
-- ==== Proof.FoxInRef.lean ====
/- What the plain projection of the forgetting attention computes, one result at a time, each read at an index. -/
module

public import proofs.«01_k».proof.Proof.Gen.FoxInRefIdeal.Run
public import proofs.«01_k».proof.Proof.MlpRef
public import proofs.«01_k».proof.Proof.GateMath

@[expose] public section

set_option maxRecDepth 16384

noncomputable section

open Idealize.ShloMosaic Idealize.ShloMosaic.TcCoe Idealize.SL.Sem

namespace Cert.FoxInRefIdeal.Stage
open Cert.FoxInRefIdeal Cert.FoxInRefIdeal.Gen

/-- The projection of the normalised rows by the whole matrix. -/
def proj (N : FVec Ideal S16x2048x1024 .f32) (W : FVec Ideal S1024x3088 .f32) : FVec Ideal S16x2048x3088 .f32 :=
  Host.dotGeneral dot_S16x2048x1024_S1024x3088_S16x2048x3088_2_0_01_1_n_n none N W

/-- The keys, head by head. -/
def key (P : FVec Ideal S16x2048x3088 .f32) : FVec Ideal S16x2048x16x64 .f32 :=
  shapeCast _ (extractStridedSlice S16x2048x1024 ![0, 0, 1024] P slices_S16x2048x3088_S16x2048x1024_0_0_1024) shapeCasts_S16x2048x1024_S16x2048x16x64

/-- The values, head by head. -/
def value (P : FVec Ideal S16x2048x3088 .f32) : FVec Ideal S16x2048x16x64 .f32 :=
  shapeCast _ (extractStridedSlice S16x2048x1024 ![0, 0, 2048] P slices_S16x2048x3088_S16x2048x1024_0_0_2048) shapeCasts_S16x2048x1024_S16x2048x16x64

/-- The forget gates' argument. -/
def gateArg (P : FVec Ideal S16x2048x3088 .f32) (B : FVec Ideal S16 .f32) : FVec Ideal S16x2048x16 .f32 :=
  addf (extractStridedSlice S16x2048x16 ![0, 0, 3072] P slices_S16x2048x3088_S16x2048x16_0_0_3072)
    (broadcastInDim S16x2048x16 ![0, 1, 2] bcast_S1x1x16_S16x2048x16_0_1_2 (broadcastInDim S1x1x16 ![2] bcast_S16_S1x1x16_2 B))

/-- The negative softplus of the negated argument. -/
def gate (Z : FVec Ideal S16x2048x16 .f32) : FVec Ideal S16x2048x16 .f32 :=
  Host.negf (select (cmpf .une (subf (Host.negf Z) (broadcastInDim S16x2048x16 ![] bcast_S_S16x2048x16 (constant S_ .f32 0x00000000#32))) (subf (Host.negf Z) (broadcastInDim S16x2048x16 ![] bcast_S_S16x2048x16 (constant S_ .f32 0x00000000#32))))
    (addf (Host.negf Z) (broadcastInDim S16x2048x16 ![] bcast_S_S16x2048x16 (constant S_ .f32 0x00000000#32)))
    (addf (maximumf (Host.negf Z) (broadcastInDim S16x2048x16 ![] bcast_S_S16x2048x16 (constant S_ .f32 0x00000000#32)))
      (Host.log1p (Host.exp (Host.negf (Host.absf (subf (Host.negf Z) (broadcastInDim S16x2048x16 ![] bcast_S_S16x2048x16 (constant S_ .f32 0x00000000#32)))))))))

theorem proj_at (N : FVec Ideal S16x2048x1024 .f32) (W : FVec Ideal S1024x3088 .f32) (b : Fin 16) (s : Fin 2048) (j : Fin 3088) :
    proj N W (ix3 b s j) = ∑ k : Fin 1024, N (ix3 b s k) * W (ix2 k j) := by
  pointwise! [proj]

theorem key_at (P : FVec Ideal S16x2048x3088 .f32) (b : Fin 16) (s : Fin 2048) (h : Fin 16) (d : Fin 64) :
    key P (ix4 b s h d) = P (ix3 b s ⟨1024 + (h * 64 + d), by omega⟩) := by
  pointwise! [key]

theorem value_at (P : FVec Ideal S16x2048x3088 .f32) (b : Fin 16) (s : Fin 2048) (h : Fin 16) (d : Fin 64) :
    value P (ix4 b s h d) = P (ix3 b s ⟨2048 + (h * 64 + d), by omega⟩) := by
  pointwise! [value]

theorem gateArg_at (P : FVec Ideal S16x2048x3088 .f32) (B : FVec Ideal S16 .f32) (b : Fin 16) (s : Fin 2048) (h : Fin 16) :
    gateArg P B (ix3 b s h) = P (ix3 b s ⟨3072 + h, by omega⟩) + B (ix1 h) := by
  pointwise! [gateArg]

theorem gate_at (Z : FVec Ideal S16x2048x16 .f32) (b : Fin 16) (s : Fin 2048) (h : Fin 16) :
    gate Z (ix3 b s h) = -(max (-Z (ix3 b s h)) 0 + Ideal.log1p (Ideal.exp (-max (-Z (ix3 b s h)) (- -Z (ix3 b s h))))) := by
  pointwise [gate]
  rw [if_neg (fun h => h rfl), Ideal.absf_def]

variable (m : (ℓ : Loc nD τ sig) → Buf (Elt Ideal) ℓ)

/-- The reference's projection over its argument arrays. -/
abbrev projOf (c : Dev nD) : FVec Ideal S16x2048x3088 .f32 :=
  proj (Cert.MlpRefIdeal.Stage.normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v24) = key (projOf m c)
      ∧ r.2.mem ((c.tc : Thread nD τ).loc main_v25) = value (projOf m c)
      ∧ r.2.mem ((c.tc : Thread nD τ).loc main_v29) = gate (gateArg (projOf m c) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans rfl, (h c).2.1.trans rfl, (h c).2.2.1.trans rfl, (h c).2.2.2⟩)
    (Cert.FoxInRefIdeal.Value.run (F := Ideal) m ρ)

end Cert.FoxInRefIdeal.Stage

end
-- ==== Proof.FoxInBlocks.lean ====
/- The blocks the projection of the forgetting attention loads at one grid point, as entries of the argument arrays. -/
module

public import proofs.«01_k».proof.Proof.Gen.FoxInIdeal.Frame.Runs
public import proofs.«01_k».proof.Proof.FoxInBody
public import proofs.«01_k».proof.Proof.FoxInHost
public import proofs.«01_k».proof.Proof.FoxInRef

@[expose] public section

set_option maxRecDepth 16384

noncomputable section

open Idealize.ShloMosaic Idealize.ShloMosaic.TcCoe Idealize.SL.Sem
open Idealize.ShloMosaic.Pipeline (Dat)

namespace Cert.FoxInIdeal.Stage
open Cert.FoxInIdeal Cert.FoxInIdeal.Gen

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, 0, 0] ∧ win0_3.index t = ![t.val / 4, 0, 0]
    ∧ win0_5.index t = ![0, 0] ∧ win0_6.index t = ![0, 0] ∧ win0_8.index t = ![0, 0] ∧ win0_10.index t = ![0, 0]
    ∧ win0_16.index t = ![t.val / 4, 0, t.val % 4] ∧ win0_17.index t = ![t.val / 4, 0, t.val % 4]
    ∧ win0_20.index t = ![t.val / 4, 0, t.val % 4] :=
  (by decide +kernel : ∀ t : Fin grid0.N, _)

theorem batch_lt : ∀ t : Fin cfg0.N, t.val / 4 < 16 := (by decide +kernel : ∀ t : Fin grid0.N, _)

theorem blk1 (c : Dev nD) (t : Fin cfg0.N) (k : Fin 1024) :
    (iblk m c 1 t : FVec Ideal S1x1024 .f32) (ix2 0 k) = m ((c : Thread nD τ).loc main_arg1) (ix1 k) := by
  have e : (iblk m c 1 t : FVec Ideal S1x1024 .f32) (ix2 0 k) = V m c main_v0 (ix2 0 k) := by
    blk_ext [iblk, idx t]
  rw [e, host_norm]
  pointwise!

theorem blk0 (c : Dev nD) (t : Fin cfg0.N) (r : Fin 512) (k : Fin 1024) (b : Fin 16) (s : Fin 2048) (hb : (b : ℕ) = t.val / 4) (hs : (s : ℕ) = t.val % 4 * 512 + r) :
    (iblk m c 0 t : FVec Ideal S1x512x1024 .f32) (ix3 0 r k) = m ((c : Thread nD τ).loc main_arg0) (ix3 b s k) := by
  rw [← V_main_arg0 m c]
  unfold iblk
  generalize V m c = X
  blk_ext [idx t]

theorem blk2 (c : Dev nD) (t : Fin cfg0.N) (k : Fin 1024) (b : Fin 16) (hb : (b : ℕ) = t.val / 4) :
    (iblk m c 2 t : FVec Ideal S1x1x1024 .f32) (ix3 0 0 k) = m ((c : Thread nD τ).loc main_arg2) (ix3 b 0 k) := by
  rw [← V_main_arg2 m c]
  unfold iblk
  generalize V m c = X
  blk_ext [idx t]

theorem blk3 (c : Dev nD) (t : Fin cfg0.N) (k : Fin 1024) (b : Fin 16) (hb : (b : ℕ) = t.val / 4) :
    (iblk m c 3 t : FVec Ideal S1x1x1024 .f32) (ix3 0 0 k) = m ((c : Thread nD τ).loc main_arg3) (ix3 b 0 k) := by
  rw [← V_main_arg3 m c]
  unfold iblk
  generalize V m c = X
  blk_ext [idx t]

/-- Each input block's row is its argument array's row. -/
theorem row (c : Dev nD) (t : Fin cfg0.N) (r : Fin 512) (b : Fin 16) (s : Fin 2048) (hb : (b : ℕ) = t.val / 4) (hs : (s : ℕ) = t.val % 4 * 512 + r) :
    Cert.MlpIdeal.Stage.Row (iblk m c 0 t) (iblk m c 1 t) (iblk m c 2 t) (iblk m c 3 t) (m ((c : Thread nD τ).loc main_arg0))
      (m ((c : Thread nD τ).loc main_arg1)) (m ((c : Thread nD τ).loc main_arg2)) (m ((c : Thread nD τ).loc main_arg3)) b s r where
  x k := blk0 m c t r k b s hb hs
  g k := blk1 m c t k
  sh k := blk2 m c t k b hb
  sc k := blk3 m c t k b hb

theorem blk5 (c : Dev nD) (t : Fin cfg0.N) (j k : Fin 1024) :
    (iblk m c 5 t : FVec Ideal S1024x1024 .bf16) (ix2 j k) = m ((c : Thread nD τ).loc main_arg4) (ix2 k ⟨1024 + j, by omega⟩) := by
  have e : (iblk m c 5 t : FVec Ideal S1024x1024 .bf16) (ix2 j k) = V m c main_v246 (ix2 j k) := by
    blk_ext [iblk, idx t]
  rw [e, host_key]
  exact keyW_at _ j k

theorem blk6 (c : Dev nD) (t : Fin cfg0.N) (j k : Fin 1024) :
    (iblk m c 6 t : FVec Ideal S1024x1024 .bf16) (ix2 j k) = m ((c : Thread nD τ).loc main_arg4) (ix2 k ⟨2048 + j, by omega⟩) := by
  have e : (iblk m c 6 t : FVec Ideal S1024x1024 .bf16) (ix2 j k) = V m c main_v248 (ix2 j k) := by
    blk_ext [iblk, idx t]
  rw [e, host_value]
  exact valueW_at _ j k

theorem blk8 (c : Dev nD) (t : Fin cfg0.N) (h : Fin 16) (k : Fin 1024) :
    (iblk m c 8 t : FVec Ideal S16x1024 .bf16) (ix2 h k) = m ((c : Thread nD τ).loc main_arg4) (ix2 k ⟨3072 + h, by omega⟩) := by
  have e : (iblk m c 8 t : FVec Ideal S16x1024 .bf16) (ix2 h k) = V m c main_v251 (ix2 h k) := by
    blk_ext [iblk, idx t]
  rw [e, host_gate]
  exact gateW_at _ h k

theorem blk10 (c : Dev nD) (t : Fin cfg0.N) (h : Fin 16) :
    (iblk m c 10 t : FVec Ideal S16x1 .f32) (ix2 h 0) = m ((c : Thread nD τ).loc main_arg5) (ix1 h) := by
  have e : (iblk m c 10 t : FVec Ideal S16x1 .f32) (ix2 h 0) = V m c main_v253 (ix2 h 0) := by
    blk_ext [iblk, idx t]
  rw [e, host_bias]
  pointwise!

end Cert.FoxInIdeal.Stage

end
-- ==== Proof.FoxInTurn.lean ====
/- The projection of the forgetting attention: the arrays as the kernel stores them, and the turns of its host lines. -/
module

public import proofs.«01_k».proof.Proof.FoxInStores
public import proofs.«01_k».proof.Proof.FoxInRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FoxInIdeal.Stage
open Cert.FoxInIdeal Cert.FoxInIdeal.Gen

/-- The projection's column that holds a row of the stored keys. -/
def keyCol (r : Fin 1024) : Fin 3088 := ⟨1024 + r, by omega⟩

/-- The projection's column that holds a row of the stored values. -/
def valueCol (r : Fin 1024) : Fin 3088 := ⟨2048 + r, by omega⟩

/-- The keys as the kernel stores them: column by column. -/
def keyT (P : FVec Ideal Cert.FoxInRefIdeal.S16x2048x3088 .f32) : FVec Ideal S16x1024x2048 .f32 :=
  fun i => P (ix3 (i 0) (i 2) (keyCol (i 1)))

theorem keyT_at (P : FVec Ideal Cert.FoxInRefIdeal.S16x2048x3088 .f32) (b : Fin 16) (r : Fin 1024) (s : Fin 2048) :
    keyT P (ix3 b r s) = P (ix3 b s ⟨1024 + r, by omega⟩) := rfl

/-- The values as the kernel stores them. -/
def valueT (P : FVec Ideal Cert.FoxInRefIdeal.S16x2048x3088 .f32) : FVec Ideal S16x1024x2048 .f32 :=
  fun i => P (ix3 (i 0) (i 2) (valueCol (i 1)))

theorem valueT_at (P : FVec Ideal Cert.FoxInRefIdeal.S16x2048x3088 .f32) (b : Fin 16) (r : Fin 1024) (s : Fin 2048) :
    valueT P (ix3 b r s) = P (ix3 b s ⟨2048 + r, by omega⟩) := rfl

/-- The gates as the kernel stores them: head by head. -/
def gateT (G : FVec Ideal Cert.FoxInRefIdeal.S16x2048x16 .f32) : FVec Ideal S16x16x2048 .f32 :=
  fun i => G (ix3 (i 0) (i 2) (i 1))

theorem gateT_at (G : FVec Ideal Cert.FoxInRefIdeal.S16x2048x16 .f32) (b : Fin 16) (h : Fin 16) (s : Fin 2048) :
    gateT G (ix3 b h s) = G (ix3 b s h) := rfl

theorem key_turned (P : FVec Ideal Cert.FoxInRefIdeal.S16x2048x3088 .f32) :
    transpose S16x2048x16x64 [0, 3, 1, 2] (shapeCast S16x16x64x2048 (keyT P) shapeCasts_S16x1024x2048_S16x16x64x2048) transposes_S16x16x64x2048_S16x2048x16x64_0_3_1_2
      = Cert.FoxInRefIdeal.Stage.key P := by
  funext i
  obtain ⟨b, s, h, d, rfl⟩ : ∃ (b : Fin 16) (s : Fin 2048) (h : Fin 16) (d : Fin 64), i = ix4 b s h d := ⟨i 0, i 1, i 2, i 3, eq_ix4 i⟩
  rw [Cert.FoxInRefIdeal.Stage.key_at]
  pointwise! [keyT_at]

theorem value_turned (P : FVec Ideal Cert.FoxInRefIdeal.S16x2048x3088 .f32) :
    transpose S16x2048x16x64 [0, 3, 1, 2] (shapeCast S16x16x64x2048 (valueT P) shapeCasts_S16x1024x2048_S16x16x64x2048) transposes_S16x16x64x2048_S16x2048x16x64_0_3_1_2
      = Cert.FoxInRefIdeal.Stage.value P := by
  funext i
  obtain ⟨b, s, h, d, rfl⟩ : ∃ (b : Fin 16) (s : Fin 2048) (h : Fin 16) (d : Fin 64), i = ix4 b s h d := ⟨i 0, i 1, i 2, i 3, eq_ix4 i⟩
  rw [Cert.FoxInRefIdeal.Stage.value_at]
  pointwise! [valueT_at]

theorem gate_turned (G : FVec Ideal Cert.FoxInRefIdeal.S16x2048x16 .f32) :
    transpose S16x2048x16 [0, 2, 1] (gateT G) transposes_S16x16x2048_S16x2048x16_0_2_1 = G := by
  funext i
  obtain ⟨b, s, h, rfl⟩ : ∃ (b : Fin 16) (s : Fin 2048) (h : Fin 16), i = ix3 b s h := ⟨i 0, i 1, i 2, eq_ix3 i⟩
  pointwise! [gateT_at]

end Cert.FoxInIdeal.Stage

end
-- ==== Proof.FoxInTail.lean ====
/- The projection of the forgetting attention: what the host lines after the call leave in the results. -/
module

public import proofs.«01_k».proof.Proof.FoxInStores
public import proofs.«01_k».proof.Proof.FoxInRef
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FoxInIdeal.Stage
open Cert.FoxInIdeal Cert.FoxInIdeal.Gen

theorem tail_key (X : Valuation τ sig (Elt Ideal)) : StableHlo.after (List.flatten [hostOps1 (F := Ideal)]) X (Proc.devRef .tc main_v258)
    = transpose S16x2048x16x64 [0, 3, 1, 2] (shapeCast S16x16x64x2048 (X (Proc.devRef .tc main_v256_1)) shapeCasts_S16x1024x2048_S16x16x64x2048) transposes_S16x16x64x2048_S16x2048x16x64_0_3_1_2 := by
  after_reads_simp
  rfl

theorem tail_value (X : Valuation τ sig (Elt Ideal)) : StableHlo.after (List.flatten [hostOps1 (F := Ideal)]) X (Proc.devRef .tc main_v260)
    = transpose S16x2048x16x64 [0, 3, 1, 2] (shapeCast S16x16x64x2048 (X (Proc.devRef .tc main_v256_2)) shapeCasts_S16x1024x2048_S16x16x64x2048) transposes_S16x16x64x2048_S16x2048x16x64_0_3_1_2 := by
  after_reads_simp
  rfl

theorem tail_gate (X : Valuation τ sig (Elt Ideal)) : StableHlo.after (List.flatten [hostOps1 (F := Ideal)]) X (Proc.devRef .tc main_v261)
    = transpose S16x2048x16 [0, 2, 1] (X (Proc.devRef .tc main_v256_5)) transposes_S16x16x2048_S16x2048x16_0_2_1 := by
  after_reads_simp

end Cert.FoxInIdeal.Stage

end
-- ==== Proof.FoxInValue.lean ====
/- The projection of the forgetting attention: the keys, the values and the log forget gates the kernel writes are the plain reference's. -/
module

public import proofs.«01_k».proof.Proof.FoxInStores
public import proofs.«01_k».proof.Proof.FoxInBlocks
public import proofs.«01_k».proof.Proof.FoxInTurn
public import proofs.«01_k».proof.Proof.FoxInTail
public import proofs.«01_k».proof.Proof.FoxInRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FoxInIdeal.Stage
open Cert.FoxInIdeal Cert.FoxInIdeal.Gen

variable (m : (ℓ : Loc nD τ sig) → Buf (Elt Ideal) ℓ)

/-- The reference's projection over the kernel's argument arrays. -/
abbrev refProj (c : Dev nD) :=
  Cert.FoxInRefIdeal.Stage.proj (Cert.MlpRefIdeal.Stage.normed (m ((c : Thread nD τ).loc main_arg0)) (m ((c : Thread nD τ).loc main_arg1))
    (m ((c : Thread nD τ).loc main_arg2)) (m ((c : Thread nD τ).loc main_arg3))) (m ((c : Thread nD τ).loc main_arg4))

/-- A turned column of the matrix times a row of the normalised block is the projection's entry. -/
theorem proj_col (c : Dev nD) (t : Fin cfg0.N) (r : Fin 512) (b : Fin 16) (s : Fin 2048) (hb : (b : ℕ) = t.val / 4) (hs : (s : ℕ) = t.val % 4 * 512 + r)
    (j : Fin 3088) (w : Fin 1024 → EReal) (hw : ∀ k, w k = m ((c : Thread nD τ).loc main_arg4) (ix2 k j)) :
    ∑ k : Fin 1024, w k * (show EReal from rows m c t (ix2 r k)) = refProj m c (ix3 b s j) := by
  refine Eq.trans ?_ (Cert.FoxInRefIdeal.Stage.proj_at _ _ b s j).symm
  exact Finset.sum_congr rfl fun k _ => (congrArg₂ (fun x y : EReal => x * y) (hw k) (Cert.MlpIdeal.Stage.normed_row (row m c t r b s hb hs) k)).trans
    (mul_comm (G := EReal) _ _)

theorem key_final (c : Dev nD) : (dats m 0 c).arrAt 16 (cfgs 0).N = keyT (refProj m c) := by
  refine (dats m 0 c).arrAt_eq_of_covers 16 _ (by decide +kernel) fun t _ y => ?_
  blk_simp
  rw [after0_16, key_block]
  obtain ⟨y0, y1, y2, rfl⟩ : ∃ (y0 : Fin 1) (y1 : Fin 1024) (y2 : Fin 512), y = ix3 y0 y1 y2 := ⟨y 0, y 1, y 2, eq_ix3 y⟩
  have h16 := batch_lt t
  obtain rfl : y0 = 0 := Subsingleton.elim _ _
  refine (key_at _ _ y1 y2).trans ((proj_col m c t y2 ⟨t.val / 4, h16⟩ ⟨t.val % 4 * 512 + y2, by omega⟩ rfl rfl
    ⟨1024 + y1, by omega⟩ _ fun k => blk5 m c t y1 k).trans ?_)
  show keyT (refProj m c) (ix3 (⟨t.val / 4, h16⟩ : Fin 16) y1 (⟨t.val % 4 * 512 + y2, by omega⟩ : Fin 2048)) = _
  congr 1
  blk_ext [idx t]

theorem value_final (c : Dev nD) : (dats m 0 c).arrAt 17 (cfgs 0).N = valueT (refProj m c) := by
  refine (dats m 0 c).arrAt_eq_of_covers 17 _ (by decide +kernel) fun t _ y => ?_
  blk_simp
  rw [after0_17, value_block]
  obtain ⟨y0, y1, y2, rfl⟩ : ∃ (y0 : Fin 1) (y1 : Fin 1024) (y2 : Fin 512), y = ix3 y0 y1 y2 := ⟨y 0, y 1, y 2, eq_ix3 y⟩
  have h16 := batch_lt t
  obtain rfl : y0 = 0 := Subsingleton.elim _ _
  refine (value_at _ _ y1 y2).trans ((proj_col m c t y2 ⟨t.val / 4, h16⟩ ⟨t.val % 4 * 512 + y2, by omega⟩ rfl rfl
    ⟨2048 + y1, by omega⟩ _ fun k => blk6 m c t y1 k).trans ?_)
  show valueT (refProj m c) (ix3 (⟨t.val / 4, h16⟩ : Fin 16) y1 (⟨t.val % 4 * 512 + y2, by omega⟩ : Fin 2048)) = _
  congr 1
  blk_ext [idx t]

/-- The reference's log forget gates over the kernel's argument arrays. -/
abbrev refGate (c : Dev nD) :=
  Cert.FoxInRefIdeal.Stage.gate (Cert.FoxInRefIdeal.Stage.gateArg (refProj m c) (m ((c : Thread nD τ).loc main_arg5)))

theorem gate_final (c : Dev nD) : (dats m 0 c).arrAt 20 (cfgs 0).N = gateT (refGate m c) := by
  refine (dats m 0 c).arrAt_eq_of_covers 20 _ (by decide +kernel) fun t _ y => ?_
  blk_simp
  rw [after0_20, gate_block]
  obtain ⟨y0, y1, y2, rfl⟩ : ∃ (y0 : Fin 1) (y1 : Fin 16) (y2 : Fin 512), y = ix3 y0 y1 y2 := ⟨y 0, y 1, y 2, eq_ix3 y⟩
  have h16 := batch_lt t
  obtain rfl : y0 = 0 := Subsingleton.elim _ _
  have e : k0_pay16 (F := Ideal) (rows m c t) (iblk m c 8 t) (iblk m c 10 t) (ix2 y1 y2)
      = Cert.FoxInRefIdeal.Stage.gateArg (refProj m c) (m ((c : Thread nD τ).loc main_arg5)) (ix3 (⟨t.val / 4, h16⟩ : Fin 16) (⟨t.val % 4 * 512 + y2, by omega⟩ : Fin 2048) y1) := by
    refine (gateArg_at _ _ _ y1 y2).trans (Eq.trans ?_ (Cert.FoxInRefIdeal.Stage.gateArg_at _ _ _ _ y1).symm)
    exact congrArg₂ (fun x y : EReal => x + y) (proj_col m c t y2 ⟨t.val / 4, h16⟩ ⟨t.val % 4 * 512 + y2, by omega⟩ rfl rfl
      ⟨3072 + y1, by omega⟩ _ fun k => blk8 m c t y1 k) (blk10 m c t y1)
  have f := Cert.FoxInRefIdeal.Stage.gate_at (Cert.FoxInRefIdeal.Stage.gateArg (refProj m c) (m ((c : Thread nD τ).loc main_arg5)))
    (⟨t.val / 4, h16⟩ : Fin 16) (⟨t.val % 4 * 512 + y2, by omega⟩ : Fin 2048) y1
  rw [← e] at f
  refine (gate_at _ y1 y2).trans ((Cert.GateMath.softplus_eq _).trans (f.symm.trans ?_))
  show gateT (refGate m c) (ix3 (⟨t.val / 4, h16⟩ : Fin 16) y1 (⟨t.val % 4 * 512 + y2, by omega⟩ : Fin 2048)) = _
  congr 1
  blk_ext [idx t]

/-- The buffers the lines after the call start from. -/
abbrev exit (c : Dev nD) : Valuation τ sig (Elt Ideal) :=
  Pipeline.withArrays (cfgs 0).spec c (V0 m c) fun w => (dats m 0 c).arrAt w (cfgs 0).N

theorem exit_key (c : Dev nD) : exit m c (Proc.devRef .tc main_v256_1) = keyT (refProj m c) :=
  (Pipeline.withArrays_arr (cfgs 0).spec (by decide) c (V0 m c) _ 16).trans (key_final m c)

theorem exit_value (c : Dev nD) : exit m c (Proc.devRef .tc main_v256_2) = valueT (refProj m c) :=
  (Pipeline.withArrays_arr (cfgs 0).spec (by decide) c (V0 m c) _ 17).trans (value_final m c)

theorem exit_gate (c : Dev nD) : exit m c (Proc.devRef .tc main_v256_5) = gateT (refGate m c) :=
  (Pipeline.withArrays_arr (cfgs 0).spec (by decide) c (V0 m c) _ 20).trans (gate_final m c)

/-- The kernel's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v258) = Cert.FoxInRefIdeal.Stage.key (refProj m c)
      ∧ r.2.mem ((c.tc : Thread nD τ).loc main_v260) = Cert.FoxInRefIdeal.Stage.value (refProj m c)
      ∧ r.2.mem ((c.tc : Thread nD τ).loc main_v261) = refGate m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Idealize.ShloMosaic.θ_run_mono (Idealize.ShloMosaic.θ_run_and (run_main m ρ) (unchanged m ρ)) fun r h c =>
    ⟨((h.1 c).2 main_v258 (Pipeline.mem_restRefs_of main_v258 (by decide) (by decide))).trans
        ((tail_key (exit m c)).trans ((congrArg (fun K => transpose S16x2048x16x64 [0, 3, 1, 2] (shapeCast S16x16x64x2048 K shapeCasts_S16x1024x2048_S16x16x64x2048) transposes_S16x16x64x2048_S16x2048x16x64_0_3_1_2) (exit_key m c)).trans (key_turned _))),
      ((h.1 c).2 main_v260 (Pipeline.mem_restRefs_of main_v260 (by decide) (by decide))).trans
        ((tail_value (exit m c)).trans ((congrArg (fun K => transpose S16x2048x16x64 [0, 3, 1, 2] (shapeCast S16x16x64x2048 K shapeCasts_S16x1024x2048_S16x16x64x2048) transposes_S16x16x64x2048_S16x2048x16x64_0_3_1_2) (exit_value m c)).trans (value_turned _))),
      ((h.1 c).2 main_v261 (Pipeline.mem_restRefs_of main_v261 (by decide) (by decide))).trans
        ((tail_gate (exit m c)).trans ((congrArg (fun K => transpose S16x2048x16 [0, 2, 1] K transposes_S16x16x2048_S16x2048x16_0_2_1) (exit_gate m c)).trans (gate_turned _))),
      h.2 c⟩

end Cert.FoxInIdeal.Stage

end
-- ==== Proof.FoxNewBody.lean ====
/- What the projection body of the forgetting attention computes over the sample group, each stored block read at an index over arbitrary loaded blocks. -/
module

public import proofs.«01_k».proof.Proof.Gen.FoxNewIdeal.Skeleton
public import proofs.«01_k».proof.Proof.MlpTile
public import Idealize.ShloMosaic.Lib.Pointwise

@[expose] public section

set_option maxRecDepth 16384

noncomputable section

open Idealize.ShloMosaic Idealize.ShloMosaic.TcCoe Idealize.SL.Sem

namespace Cert.FoxNewIdeal.Stage
open Cert.FoxNewIdeal Cert.FoxNewIdeal.Gen Cert.MlpMath

theorem key_at (N : FVec Ideal S256x1024 .bf16) (W : FVec Ideal S1024x1024 .bf16) (j : Fin 1024) (r : Fin 256) :
    k0_pay12 (F := Ideal) N W (ix3 0 j r) = ∑ k : Fin 1024, W (ix2 j k) * N (ix2 r k) := by
  pointwise! [k0_pay12, k0_pay10]

theorem value_at (N : FVec Ideal S256x1024 .bf16) (W : FVec Ideal S1024x1024 .bf16) (j : Fin 1024) (r : Fin 256) :
    k0_pay13 (F := Ideal) N W (ix3 0 j r) = ∑ k : Fin 1024, W (ix2 j k) * N (ix2 r k) := by
  pointwise! [k0_pay13, k0_pay11]

theorem gateArg_at (N : FVec Ideal S256x1024 .bf16) (W : FVec Ideal S16x1024 .bf16) (B : FVec Ideal S16x1 .f32) (h : Fin 16) (r : Fin 256) :
    k0_pay15 (F := Ideal) N W B (ix2 h r) = (∑ k : Fin 1024, W (ix2 h k) * N (ix2 r k)) + B (ix2 h 0) := by
  pointwise! [k0_pay15]

theorem gate_at (N : FVec Ideal S256x1024 .bf16) (W : FVec Ideal S16x1024 .bf16) (B : FVec Ideal S16x1 .f32) (h : Fin 16) (r : Fin 256) :
    k0_pay18 (F := Ideal) (k0_pay15 N W B) (k0_pay16 N W B) (ix3 0 h r)
      = min (k0_pay15 (F := Ideal) N W B (ix2 h r)) 0 - Ideal.log1p (Ideal.exp (0 - max (k0_pay15 (F := Ideal) N W B (ix2 h r)) (-k0_pay15 (F := Ideal) N W B (ix2 h r)))) := by
  unfold k0_pay16
  generalize k0_pay15 (F := Ideal) N W B = Z
  pointwise [k0_pay18, k0_pay17]
  rw [Ideal.absf_def]

theorem normed_at (X : FVec Ideal S1x256x1024 .f32) (G : FVec Ideal S1x1024 .f32) (Sh Sc : FVec Ideal S1x256x1024 .f32) (r : Fin 256) (k : Fin 1024) :
    k0_pay8 (F := Ideal) X G Sh Sc (ix2 r k) = modulated (fun k => X (ix3 0 r k)) (fun k => G (ix2 0 k)) (fun k => Sc (ix3 0 r k)) (fun k => Sh (ix3 0 r k)) k := by
  unfold modulated scaleOf
  pointwise! [k0_pay8]

end Cert.FoxNewIdeal.Stage

end
-- ==== Proof.FoxNewStores.lean ====
/- The blocks the projection of the forgetting attention stores over the sample group. -/
module

public import proofs.«01_k».proof.Proof.Gen.FoxNewIdeal.Frame
public import proofs.«01_k».proof.Proof.FoxNewBody

@[expose] public section

set_option maxRecDepth 16384

noncomputable section

open Idealize.ShloMosaic Idealize.ShloMosaic.TcCoe Idealize.SL.Sem
open Idealize.ShloMosaic.Pipeline (Dat)

namespace Cert.FoxNewIdeal.Stage
open Cert.FoxNewIdeal Cert.FoxNewIdeal.Gen

variable (m : (ℓ : Loc nD τ sig) → Buf (Elt Ideal) ℓ)

/-- The normalised block at one grid point. -/
abbrev rows (c : Dev nD) (t : Fin cfg0.N) : FVec Ideal S256x1024 .bf16 :=
  k0_pay8 (F := Ideal) (iblk m c 0 t) (iblk m c 1 t) (iblk m c 2 t) (iblk m c 3 t)

/-- The keys at one grid point. -/
theorem key_block (c : Dev nD) (t : Fin cfg0.N) : (outsAt0 m c t).2.1 = k0_pay12 (F := Ideal) (rows m c t) (iblk m c 5 t) := by
  unfold outsAt0
  frame_out

theorem value_block (c : Dev nD) (t : Fin cfg0.N) : (outsAt0 m c t).2.2.1 = k0_pay13 (F := Ideal) (rows m c t) (iblk m c 6 t) := by
  unfold outsAt0
  frame_out

theorem gate_block (c : Dev nD) (t : Fin cfg0.N) : (outsAt0 m c t).2.2.2.2.2
    = k0_pay18 (F := Ideal) (k0_pay15 (F := Ideal) (rows m c t) (iblk m c 8 t) (iblk m c 10 t)) (k0_pay16 (F := Ideal) (rows m c t) (iblk m c 8 t) (iblk m c 10 t)) := by
  unfold outsAt0
  frame_out

end Cert.FoxNewIdeal.Stage

end
-- ==== Proof.FoxNewHost.lean ====
/- The arrays the host prepares for the projection of the forgetting attention over the sample group, read at an index of the argument they come from. -/
module

public import proofs.«01_k».proof.Proof.Gen.FoxNewIdeal.Frame.Runs
public import Idealize.ShloMosaic.Lib.Pointwise
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.FoxNewIdeal.Stage
open Cert.FoxNewIdeal Cert.FoxNewIdeal.Gen

/-- The key columns, turned. -/
def keyW (W : FVec Ideal S1024x3088 .f32) : FVec Ideal S1024x1024 .bf16 :=
  truncf .bf16 (transpose S1024x1024 [1, 0] (extractStridedSlice S1024x1024 ![0, 1024] W slices_S1024x3088_S1024x1024_0_1024) transposes_S1024x1024_S1024x1024_1_0) bitsLt_bf16_f32

/-- The value columns, turned. -/
def valueW (W : FVec Ideal S1024x3088 .f32) : FVec Ideal S1024x1024 .bf16 :=
  truncf .bf16 (transpose S1024x1024 [1, 0] (extractStridedSlice S1024x1024 ![0, 2048] W slices_S1024x3088_S1024x1024_0_2048) transposes_S1024x1024_S1024x1024_1_0) bitsLt_bf16_f32

/-- The forget gates' columns, turned. -/
def gateW (W : FVec Ideal S1024x3088 .f32) : FVec Ideal S16x1024 .bf16 :=
  truncf .bf16 (transpose S16x1024 [1, 0] (extractStridedSlice S1024x16 ![0, 3072] W slices_S1024x3088_S1024x16_0_3072) transposes_S1024x16_S16x1024_1_0) bitsLt_bf16_f32

/-- The rows of all sequences, one after another. -/
def flatX (X : FVec Ideal S32x8x1024 .f32) : FVec Ideal S1x256x1024 .f32 := shapeCast S1x256x1024 X shapeCasts_S32x8x1024_S1x256x1024

/-- A sequence's one row, repeated for each of its tokens. -/
def flatM (M : FVec Ideal S32x1x1024 .f32) : FVec Ideal S1x256x1024 .f32 :=
  broadcastInDim S1x256x1024 ![1, 2] bcast_S256x1024_S1x256x1024_1_2 (shapeCast S256x1024 (broadcastInDim S32x8x1024 ![0, 2] bcast_S32x1024_S32x8x1024_0_2
    (shapeCast S32x1024 M shapeCasts_S32x1x1024_S32x1024)) shapeCasts_S32x8x1024_S256x1024)

theorem row_lt (b : Fin 32) (s : Fin 8) : (b * 8 + s : ℕ) < 256 := by omega

theorem flatX_at (X : FVec Ideal S32x8x1024 .f32) (b : Fin 32) (s : Fin 8) (k : Fin 1024) (r : Fin 256) (hr : (r : ℕ) = b * 8 + s) :
    flatX X (ix3 0 r k) = X (ix3 b s k) := by
  obtain rfl : r = ⟨b * 8 + s, row_lt b s⟩ := Fin.ext hr
  pointwise! [flatX]

theorem flatM_at (M : FVec Ideal S32x1x1024 .f32) (b : Fin 32) (s : Fin 8) (k : Fin 1024) (r : Fin 256) (hr : (r : ℕ) = b * 8 + s) :
    flatM M (ix3 0 r k) = M (ix3 b 0 k) := by
  obtain rfl : r = ⟨b * 8 + s, row_lt b s⟩ := Fin.ext hr
  pointwise! [flatM]

theorem keyW_at (W : FVec Ideal S1024x3088 .f32) (j k : Fin 1024) : keyW W (ix2 j k) = W (ix2 k ⟨1024 + j, by omega⟩) := by
  pointwise! [keyW]

theorem valueW_at (W : FVec Ideal S1024x3088 .f32) (j k : Fin 1024) : valueW W (ix2 j k) = W (ix2 k ⟨2048 + j, by omega⟩) := by
  pointwise! [valueW]

theorem gateW_at (W : FVec Ideal S1024x3088 .f32) (h : Fin 16) (k : Fin 1024) : gateW W (ix2 h k) = W (ix2 k ⟨3072 + h, by omega⟩) := by
  pointwise! [gateW]

variable (m : (ℓ : Loc nD τ sig) → Buf (Elt Ideal) ℓ)

theorem host_rows (c : Dev nD) : V m c main_v0 = flatX (m ((c : Thread nD τ).loc main_arg0)) := by
  unfold V V0
  after_reads_simp
  rfl

theorem host_shift (c : Dev nD) : V m c main_v5 = flatM (m ((c : Thread nD τ).loc main_arg2)) := by
  unfold V V0
  after_reads_simp
  rfl

theorem host_scale (c : Dev nD) : V m c main_v9 = flatM (m ((c : Thread nD τ).loc main_arg3)) := by
  unfold V V0
  after_reads_simp
  rfl

theorem host_norm (c : Dev nD) : V m c main_v1 = shapeCast S1x1024 (m ((c : Thread nD τ).loc main_arg1)) shapeCasts_S1024_S1x1024 := by
  unfold V V0
  after_reads_simp
  rfl

theorem host_key (c : Dev nD) : V m c main_v255 = keyW (m ((c : Thread nD τ).loc main_arg4)) := by
  unfold V V0
  after_reads_simp
  rfl

theorem host_value (c : Dev nD) : V m c main_v257 = valueW (m ((c : Thread nD τ).loc main_arg4)) := by
  unfold V V0
  after_reads_simp
  rfl

theorem host_gate (c : Dev nD) : V m c main_v260 = gateW (m ((c : Thread nD τ).loc main_arg4)) := by
  unfold V V0
  after_reads_simp
  rfl

theorem host_bias (c : Dev nD) : V m c main_v262 = shapeCast S16x1 (m ((c : Thread nD τ).loc main_arg5)) shapeCasts_S16_S16x1 := by
  unfold V V0
  after_reads_simp
  rfl

end Cert.FoxNewIdeal.Stage

end
-- ==== Proof.FoxNewRef.lean ====
/- What the plain projection of the forgetting attention computes over the sample group, one result at a time, each read at an index. -/
module

public import proofs.«01_k».proof.Proof.Gen.FoxNewRefIdeal.Run
public import proofs.«01_k».proof.Proof.MlpRef
public import proofs.«01_k».proof.Proof.GateMath

@[expose] public section

set_option maxRecDepth 16384

noncomputable section

open Idealize.ShloMosaic Idealize.ShloMosaic.TcCoe Idealize.SL.Sem

namespace Cert.FoxNewRefIdeal.Stage
open Cert.FoxNewRefIdeal Cert.FoxNewRefIdeal.Gen Cert.MlpMath

/-- The modulated normalised rows. -/
def normed (X : FVec Ideal S32x8x1024 .f32) (G : FVec Ideal S1024 .f32) (Sh Sc : FVec Ideal S32x1x1024 .f32) :
    FVec Ideal S32x8x1024 .f32 :=
  addf (mulf (mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 G))) (broadcastInDim S32x8x1024 ![0, 1, 2] bcast_S32x1x1024_S32x8x1024_0_1_2 (addf (broadcastInDim S32x1x1024 ![] bcast_S_S32x1x1024 (constant S_ .f32 0x3F800000#32)) Sc))) (broadcastInDim S32x8x1024 ![0, 1, 2] bcast_S32x1x1024_S32x8x1024_0_1_2 Sh)

theorem normed_at (X : FVec Ideal S32x8x1024 .f32) (G : FVec Ideal S1024 .f32) (Sh Sc : FVec Ideal S32x1x1024 .f32)
    (b : Fin 32) (s : Fin 8) (k : Fin 1024) :
    normed X G Sh Sc (ix3 b s k) = modulated (fun k => X (ix3 b s k)) (fun k => G (ix1 k)) (fun k => Sc (ix3 b 0 k)) (fun k => Sh (ix3 b 0 k)) k := by
  unfold modulated scaleOf
  pointwise! [normed]

/-- The projection of the normalised rows by the whole matrix. -/
def proj (N : FVec Ideal S32x8x1024 .f32) (W : FVec Ideal S1024x3088 .f32) : FVec Ideal S32x8x3088 .f32 :=
  Host.dotGeneral dot_S32x8x1024_S1024x3088_S32x8x3088_2_0_01_1_n_n none N W

/-- The keys, head by head. -/
def key (P : FVec Ideal S32x8x3088 .f32) : FVec Ideal S32x8x16x64 .f32 :=
  shapeCast _ (extractStridedSlice S32x8x1024 ![0, 0, 1024] P slices_S32x8x3088_S32x8x1024_0_0_1024) shapeCasts_S32x8x1024_S32x8x16x64

/-- The values, head by head. -/
def value (P : FVec Ideal S32x8x3088 .f32) : FVec Ideal S32x8x16x64 .f32 :=
  shapeCast _ (extractStridedSlice S32x8x1024 ![0, 0, 2048] P slices_S32x8x3088_S32x8x1024_0_0_2048) shapeCasts_S32x8x1024_S32x8x16x64

/-- The forget gates' argument. -/
def gateArg (P : FVec Ideal S32x8x3088 .f32) (B : FVec Ideal S16 .f32) : FVec Ideal S32x8x16 .f32 :=
  addf (extractStridedSlice S32x8x16 ![0, 0, 3072] P slices_S32x8x3088_S32x8x16_0_0_3072)
    (broadcastInDim S32x8x16 ![0, 1, 2] bcast_S1x1x16_S32x8x16_0_1_2 (broadcastInDim S1x1x16 ![2] bcast_S16_S1x1x16_2 B))

/-- The negative softplus of the negated argument. -/
def gate (Z : FVec Ideal S32x8x16 .f32) : FVec Ideal S32x8x16 .f32 :=
  Host.negf (select (cmpf .une (subf (Host.negf Z) (broadcastInDim S32x8x16 ![] bcast_S_S32x8x16 (constant S_ .f32 0x00000000#32))) (subf (Host.negf Z) (broadcastInDim S32x8x16 ![] bcast_S_S32x8x16 (constant S_ .f32 0x00000000#32))))
    (addf (Host.negf Z) (broadcastInDim S32x8x16 ![] bcast_S_S32x8x16 (constant S_ .f32 0x00000000#32)))
    (addf (maximumf (Host.negf Z) (broadcastInDim S32x8x16 ![] bcast_S_S32x8x16 (constant S_ .f32 0x00000000#32)))
      (Host.log1p (Host.exp (Host.negf (Host.absf (subf (Host.negf Z) (broadcastInDim S32x8x16 ![] bcast_S_S32x8x16 (constant S_ .f32 0x00000000#32)))))))))

theorem proj_at (N : FVec Ideal S32x8x1024 .f32) (W : FVec Ideal S1024x3088 .f32) (b : Fin 32) (s : Fin 8) (j : Fin 3088) :
    proj N W (ix3 b s j) = ∑ k : Fin 1024, N (ix3 b s k) * W (ix2 k j) := by
  pointwise! [proj]

theorem key_at (P : FVec Ideal S32x8x3088 .f32) (b : Fin 32) (s : Fin 8) (h : Fin 16) (d : Fin 64) :
    key P (ix4 b s h d) = P (ix3 b s ⟨1024 + (h * 64 + d), by omega⟩) := by
  pointwise! [key]

theorem value_at (P : FVec Ideal S32x8x3088 .f32) (b : Fin 32) (s : Fin 8) (h : Fin 16) (d : Fin 64) :
    value P (ix4 b s h d) = P (ix3 b s ⟨2048 + (h * 64 + d), by omega⟩) := by
  pointwise! [value]

theorem gateArg_at (P : FVec Ideal S32x8x3088 .f32) (B : FVec Ideal S16 .f32) (b : Fin 32) (s : Fin 8) (h : Fin 16) :
    gateArg P B (ix3 b s h) = P (ix3 b s ⟨3072 + h, by omega⟩) + B (ix1 h) := by
  pointwise! [gateArg]

theorem gate_at (Z : FVec Ideal S32x8x16 .f32) (b : Fin 32) (s : Fin 8) (h : Fin 16) :
    gate Z (ix3 b s h) = -(max (-Z (ix3 b s h)) 0 + Ideal.log1p (Ideal.exp (-max (-Z (ix3 b s h)) (- -Z (ix3 b s h))))) := by
  pointwise [gate]
  rw [if_neg (fun h => h rfl), Ideal.absf_def]

variable (m : (ℓ : Loc nD τ sig) → Buf (Elt Ideal) ℓ)

/-- The reference's projection over its argument arrays. -/
abbrev projOf (c : Dev nD) : FVec Ideal S32x8x3088 .f32 :=
  proj (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v24) = key (projOf m c)
      ∧ r.2.mem ((c.tc : Thread nD τ).loc main_v25) = value (projOf m c)
      ∧ r.2.mem ((c.tc : Thread nD τ).loc main_v29) = gate (gateArg (projOf m c) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans rfl, (h c).2.1.trans rfl, (h c).2.2.1.trans rfl, (h c).2.2.2⟩)
    (Cert.FoxNewRefIdeal.Value.run (F := Ideal) m ρ)

end Cert.FoxNewRefIdeal.Stage

end
-- ==== Proof.FoxNewBlocks.lean ====
/- The blocks the projection of the forgetting attention loads over the sample group, as entries of the argument arrays. -/
module

public import proofs.«01_k».proof.Proof.Gen.FoxNewIdeal.Frame.Runs
public import proofs.«01_k».proof.Proof.FoxNewBody
public import proofs.«01_k».proof.Proof.FoxNewHost
public import proofs.«01_k».proof.Proof.FoxNewRef

@[expose] public section

set_option maxRecDepth 16384

noncomputable section

open Idealize.ShloMosaic Idealize.ShloMosaic.TcCoe Idealize.SL.Sem
open Idealize.ShloMosaic.Pipeline (Dat)

namespace Cert.FoxNewIdeal.Stage
open Cert.FoxNewIdeal Cert.FoxNewIdeal.Gen

variable (m : (ℓ : Loc nD τ sig) → Buf (Elt Ideal) ℓ)

theorem idx : ∀ t : Fin cfg0.N, win0_0.index t = ![0, 0, 0] ∧ win0_1.index t = ![0, 0]
    ∧ win0_2.index t = ![0, 0, 0] ∧ win0_3.index t = ![0, 0, 0]
    ∧ win0_5.index t = ![0, 0] ∧ win0_6.index t = ![0, 0] ∧ win0_8.index t = ![0, 0] ∧ win0_10.index t = ![0, 0]
    ∧ win0_16.index t = ![0, 0, 0] ∧ win0_17.index t = ![0, 0, 0]
    ∧ win0_20.index t = ![0, 0, 0] :=
  (by decide +kernel : ∀ t : Fin grid0.N, _)

theorem blk1 (c : Dev nD) (t : Fin cfg0.N) (k : Fin 1024) :
    (iblk m c 1 t : FVec Ideal S1x1024 .f32) (ix2 0 k) = m ((c : Thread nD τ).loc main_arg1) (ix1 k) := by
  have e : (iblk m c 1 t : FVec Ideal S1x1024 .f32) (ix2 0 k) = V m c main_v1 (ix2 0 k) := by
    blk_ext [iblk, idx t]
  rw [e, host_norm]
  pointwise!

theorem blk0 (c : Dev nD) (t : Fin cfg0.N) (r : Fin 256) (k : Fin 1024) (b : Fin 32) (s : Fin 8) (hr : (r : ℕ) = b * 8 + s) :
    (iblk m c 0 t : FVec Ideal S1x256x1024 .f32) (ix3 0 r k) = m ((c : Thread nD τ).loc main_arg0) (ix3 b s k) := by
  have e : (iblk m c 0 t : FVec Ideal S1x256x1024 .f32) (ix3 0 r k) = V m c main_v0 (ix3 0 r k) := by
    blk_ext [iblk, idx t]
  rw [e, host_rows]
  exact flatX_at _ b s k r hr

theorem blk2 (c : Dev nD) (t : Fin cfg0.N) (r : Fin 256) (k : Fin 1024) (b : Fin 32) (s : Fin 8) (hr : (r : ℕ) = b * 8 + s) :
    (iblk m c 2 t : FVec Ideal S1x256x1024 .f32) (ix3 0 r k) = m ((c : Thread nD τ).loc main_arg2) (ix3 b 0 k) := by
  have e : (iblk m c 2 t : FVec Ideal S1x256x1024 .f32) (ix3 0 r k) = V m c main_v5 (ix3 0 r k) := by
    blk_ext [iblk, idx t]
  rw [e, host_shift]
  exact flatM_at _ b s k r hr

theorem blk3 (c : Dev nD) (t : Fin cfg0.N) (r : Fin 256) (k : Fin 1024) (b : Fin 32) (s : Fin 8) (hr : (r : ℕ) = b * 8 + s) :
    (iblk m c 3 t : FVec Ideal S1x256x1024 .f32) (ix3 0 r k) = m ((c : Thread nD τ).loc main_arg3) (ix3 b 0 k) := by
  have e : (iblk m c 3 t : FVec Ideal S1x256x1024 .f32) (ix3 0 r k) = V m c main_v9 (ix3 0 r k) := by
    blk_ext [iblk, idx t]
  rw [e, host_scale]
  exact flatM_at _ b s k r hr

/-- A row of the normalised block is the reference's row. -/
theorem normed_row (c : Dev nD) (t : Fin cfg0.N) (r : Fin 256) (k : Fin 1024) (b : Fin 32) (s : Fin 8) (hr : (r : ℕ) = b * 8 + s) :
    k0_pay8 (F := Ideal) (iblk m c 0 t) (iblk m c 1 t) (iblk m c 2 t) (iblk m c 3 t) (ix2 r k)
      = Cert.FoxNewRefIdeal.Stage.normed (m ((c : Thread nD τ).loc main_arg0)) (m ((c : Thread nD τ).loc main_arg1)) (m ((c : Thread nD τ).loc main_arg2)) (m ((c : Thread nD τ).loc main_arg3)) (ix3 b s k) := by
  refine (normed_at _ _ _ _ r k).trans (Eq.trans ?_ (Cert.FoxNewRefIdeal.Stage.normed_at _ _ _ _ b s k).symm)
  congr 1 <;> funext k
  · exact blk0 m c t r k b s hr
  · exact blk1 m c t k
  · exact blk3 m c t r k b s hr
  · exact blk2 m c t r k b s hr

theorem blk5 (c : Dev nD) (t : Fin cfg0.N) (j k : Fin 1024) :
    (iblk m c 5 t : FVec Ideal S1024x1024 .bf16) (ix2 j k) = m ((c : Thread nD τ).loc main_arg4) (ix2 k ⟨1024 + j, by omega⟩) := by
  have e : (iblk m c 5 t : FVec Ideal S1024x1024 .bf16) (ix2 j k) = V m c main_v255 (ix2 j k) := by
    blk_ext [iblk, idx t]
  rw [e, host_key]
  exact keyW_at _ j k

theorem blk6 (c : Dev nD) (t : Fin cfg0.N) (j k : Fin 1024) :
    (iblk m c 6 t : FVec Ideal S1024x1024 .bf16) (ix2 j k) = m ((c : Thread nD τ).loc main_arg4) (ix2 k ⟨2048 + j, by omega⟩) := by
  have e : (iblk m c 6 t : FVec Ideal S1024x1024 .bf16) (ix2 j k) = V m c main_v257 (ix2 j k) := by
    blk_ext [iblk, idx t]
  rw [e, host_value]
  exact valueW_at _ j k

theorem blk8 (c : Dev nD) (t : Fin cfg0.N) (h : Fin 16) (k : Fin 1024) :
    (iblk m c 8 t : FVec Ideal S16x1024 .bf16) (ix2 h k) = m ((c : Thread nD τ).loc main_arg4) (ix2 k ⟨3072 + h, by omega⟩) := by
  have e : (iblk m c 8 t : FVec Ideal S16x1024 .bf16) (ix2 h k) = V m c main_v260 (ix2 h k) := by
    blk_ext [iblk, idx t]
  rw [e, host_gate]
  exact gateW_at _ h k

theorem blk10 (c : Dev nD) (t : Fin cfg0.N) (h : Fin 16) :
    (iblk m c 10 t : FVec Ideal S16x1 .f32) (ix2 h 0) = m ((c : Thread nD τ).loc main_arg5) (ix1 h) := by
  have e : (iblk m c 10 t : FVec Ideal S16x1 .f32) (ix2 h 0) = V m c main_v262 (ix2 h 0) := by
    blk_ext [iblk, idx t]
  rw [e, host_bias]
  pointwise!

end Cert.FoxNewIdeal.Stage

end
-- ==== Proof.FoxNewTurn.lean ====
/- The projection of the forgetting attention over the sample group: the arrays as the kernel stores them, and the turns of its host lines. -/
module

public import proofs.«01_k».proof.Proof.FoxNewStores
public import proofs.«01_k».proof.Proof.FoxNewRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FoxNewIdeal.Stage
open Cert.FoxNewIdeal Cert.FoxNewIdeal.Gen

/-- The projection's column that holds a row of the stored keys. -/
def keyCol (r : Fin 1024) : Fin 3088 := ⟨1024 + r, by omega⟩

/-- The projection's column that holds a row of the stored values. -/
def valueCol (r : Fin 1024) : Fin 3088 := ⟨2048 + r, by omega⟩

/-- The sequence a stored row belongs to. -/
def seq (r : Fin 256) : Fin 32 := ⟨r / 8, by omega⟩

/-- The row's place in its sequence. -/
def tok (r : Fin 256) : Fin 8 := ⟨r % 8, by omega⟩

theorem seq_at (b : Fin 32) (s : Fin 8) (h : (b * 8 + s : ℕ) < 256) : seq ⟨b * 8 + s, h⟩ = b := Fin.ext (by show (b * 8 + s : ℕ) / 8 = b; omega)

theorem tok_at (b : Fin 32) (s : Fin 8) (h : (b * 8 + s : ℕ) < 256) : tok ⟨b * 8 + s, h⟩ = s := Fin.ext (by show (b * 8 + s : ℕ) % 8 = s; omega)

/-- The keys as the kernel stores them: column by column. -/
def keyT (P : FVec Ideal Cert.FoxNewRefIdeal.S32x8x3088 .f32) : FVec Ideal S1x1024x256 .f32 :=
  fun i => P (ix3 (seq (i 2)) (tok (i 2)) (keyCol (i 1)))

theorem keyT_at (P : FVec Ideal Cert.FoxNewRefIdeal.S32x8x3088 .f32) (r : Fin 1024) (b : Fin 32) (s : Fin 8) (h : (b * 8 + s : ℕ) < 256) :
    keyT P (ix3 0 r ⟨b * 8 + s, h⟩) = P (ix3 b s ⟨1024 + r, by omega⟩) := by
  show P (ix3 (seq ⟨b * 8 + s, h⟩) (tok ⟨b * 8 + s, h⟩) (keyCol r)) = _
  rw [seq_at, tok_at]
  rfl

/-- The values as the kernel stores them. -/
def valueT (P : FVec Ideal Cert.FoxNewRefIdeal.S32x8x3088 .f32) : FVec Ideal S1x1024x256 .f32 :=
  fun i => P (ix3 (seq (i 2)) (tok (i 2)) (valueCol (i 1)))

theorem valueT_at (P : FVec Ideal Cert.FoxNewRefIdeal.S32x8x3088 .f32) (r : Fin 1024) (b : Fin 32) (s : Fin 8) (h : (b * 8 + s : ℕ) < 256) :
    valueT P (ix3 0 r ⟨b * 8 + s, h⟩) = P (ix3 b s ⟨2048 + r, by omega⟩) := by
  show P (ix3 (seq ⟨b * 8 + s, h⟩) (tok ⟨b * 8 + s, h⟩) (valueCol r)) = _
  rw [seq_at, tok_at]
  rfl

/-- The gates as the kernel stores them: head by head. -/
def gateT (G : FVec Ideal Cert.FoxNewRefIdeal.S32x8x16 .f32) : FVec Ideal S1x16x256 .f32 :=
  fun i => G (ix3 (seq (i 2)) (tok (i 2)) (i 1))

theorem gateT_at (G : FVec Ideal Cert.FoxNewRefIdeal.S32x8x16 .f32) (h : Fin 16) (b : Fin 32) (s : Fin 8) (hr : (b * 8 + s : ℕ) < 256) :
    gateT G (ix3 0 h ⟨b * 8 + s, hr⟩) = G (ix3 b s h) := by
  show G (ix3 (seq ⟨b * 8 + s, hr⟩) (tok ⟨b * 8 + s, hr⟩) h) = _
  rw [seq_at, tok_at]

theorem key_turned (P : FVec Ideal Cert.FoxNewRefIdeal.S32x8x3088 .f32) :
    transpose S32x8x16x64 [0, 3, 1, 2] (transpose S32x16x64x8 [2, 0, 1, 3] (shapeCast S16x64x32x8 (keyT P) shapeCasts_S1x1024x256_S16x64x32x8) transposes_S16x64x32x8_S32x16x64x8_2_0_1_3) transposes_S32x16x64x8_S32x8x16x64_0_3_1_2
      = Cert.FoxNewRefIdeal.Stage.key P := by
  funext i
  obtain ⟨b, s, h, d, rfl⟩ : ∃ (b : Fin 32) (s : Fin 8) (h : Fin 16) (d : Fin 64), i = ix4 b s h d := ⟨i 0, i 1, i 2, i 3, eq_ix4 i⟩
  rw [Cert.FoxNewRefIdeal.Stage.key_at]
  pointwise! [keyT_at]

theorem value_turned (P : FVec Ideal Cert.FoxNewRefIdeal.S32x8x3088 .f32) :
    transpose S32x8x16x64 [0, 3, 1, 2] (transpose S32x16x64x8 [2, 0, 1, 3] (shapeCast S16x64x32x8 (valueT P) shapeCasts_S1x1024x256_S16x64x32x8) transposes_S16x64x32x8_S32x16x64x8_2_0_1_3) transposes_S32x16x64x8_S32x8x16x64_0_3_1_2
      = Cert.FoxNewRefIdeal.Stage.value P := by
  funext i
  obtain ⟨b, s, h, d, rfl⟩ : ∃ (b : Fin 32) (s : Fin 8) (h : Fin 16) (d : Fin 64), i = ix4 b s h d := ⟨i 0, i 1, i 2, i 3, eq_ix4 i⟩
  rw [Cert.FoxNewRefIdeal.Stage.value_at]
  pointwise! [valueT_at]

theorem gate_turned (G : FVec Ideal Cert.FoxNewRefIdeal.S32x8x16 .f32) :
    transpose S32x8x16 [0, 2, 1] (transpose S32x16x8 [1, 0, 2] (shapeCast S16x32x8 (gateT G) shapeCasts_S1x16x256_S16x32x8) transposes_S16x32x8_S32x16x8_1_0_2) transposes_S32x16x8_S32x8x16_0_2_1 = G := by
  funext i
  obtain ⟨b, s, h, rfl⟩ : ∃ (b : Fin 32) (s : Fin 8) (h : Fin 16), i = ix3 b s h := ⟨i 0, i 1, i 2, eq_ix3 i⟩
  pointwise! [gateT_at]

end Cert.FoxNewIdeal.Stage

end
-- ==== Proof.FoxNewTail.lean ====
/- The projection of the forgetting attention over the sample group: what the host lines after the call leave in the results. -/
module

public import proofs.«01_k».proof.Proof.FoxNewStores
public import proofs.«01_k».proof.Proof.FoxNewRef
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FoxNewIdeal.Stage
open Cert.FoxNewIdeal Cert.FoxNewIdeal.Gen

theorem tail_key (X : Valuation τ sig (Elt Ideal)) : StableHlo.after (List.flatten [hostOps1 (F := Ideal)]) X (Proc.devRef .tc main_v272)
    = transpose S32x8x16x64 [0, 3, 1, 2] (transpose S32x16x64x8 [2, 0, 1, 3] (shapeCast S16x64x32x8 (X (Proc.devRef .tc main_v265_1)) shapeCasts_S1x1024x256_S16x64x32x8) transposes_S16x64x32x8_S32x16x64x8_2_0_1_3) transposes_S32x16x64x8_S32x8x16x64_0_3_1_2 := by
  after_reads_simp
  rfl

theorem tail_value (X : Valuation τ sig (Elt Ideal)) : StableHlo.after (List.flatten [hostOps1 (F := Ideal)]) X (Proc.devRef .tc main_v273)
    = transpose S32x8x16x64 [0, 3, 1, 2] (transpose S32x16x64x8 [2, 0, 1, 3] (shapeCast S16x64x32x8 (X (Proc.devRef .tc main_v265_2)) shapeCasts_S1x1024x256_S16x64x32x8) transposes_S16x64x32x8_S32x16x64x8_2_0_1_3) transposes_S32x16x64x8_S32x8x16x64_0_3_1_2 := by
  after_reads_simp
  rfl

theorem tail_gate (X : Valuation τ sig (Elt Ideal)) : StableHlo.after (List.flatten [hostOps1 (F := Ideal)]) X (Proc.devRef .tc main_v274)
    = transpose S32x8x16 [0, 2, 1] (transpose S32x16x8 [1, 0, 2] (shapeCast S16x32x8 (X (Proc.devRef .tc main_v265_5)) shapeCasts_S1x16x256_S16x32x8) transposes_S16x32x8_S32x16x8_1_0_2) transposes_S32x16x8_S32x8x16_0_2_1 := by
  after_reads_simp
  rfl

end Cert.FoxNewIdeal.Stage

end
-- ==== Proof.FoxNewValue.lean ====
/- The projection of the forgetting attention over the sample group: the keys, the values and the log forget gates the kernel writes are the plain reference's. -/
module

public import proofs.«01_k».proof.Proof.FoxNewStores
public import proofs.«01_k».proof.Proof.FoxNewBlocks
public import proofs.«01_k».proof.Proof.FoxNewTurn
public import proofs.«01_k».proof.Proof.FoxNewTail
public import proofs.«01_k».proof.Proof.FoxNewRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FoxNewIdeal.Stage
open Cert.FoxNewIdeal Cert.FoxNewIdeal.Gen

variable (m : (ℓ : Loc nD τ sig) → Buf (Elt Ideal) ℓ)

/-- The reference's projection over the kernel's argument arrays. -/
abbrev refProj (c : Dev nD) :=
  Cert.FoxNewRefIdeal.Stage.proj (Cert.FoxNewRefIdeal.Stage.normed (m ((c : Thread nD τ).loc main_arg0)) (m ((c : Thread nD τ).loc main_arg1))
    (m ((c : Thread nD τ).loc main_arg2)) (m ((c : Thread nD τ).loc main_arg3))) (m ((c : Thread nD τ).loc main_arg4))

/-- A turned column of the matrix times a row of the normalised block is the projection's entry. -/
theorem proj_col (c : Dev nD) (t : Fin cfg0.N) (r : Fin 256) (b : Fin 32) (s : Fin 8) (hr : (r : ℕ) = b * 8 + s)
    (j : Fin 3088) (w : Fin 1024 → EReal) (hw : ∀ k, w k = m ((c : Thread nD τ).loc main_arg4) (ix2 k j)) :
    ∑ k : Fin 1024, w k * (show EReal from rows m c t (ix2 r k)) = refProj m c (ix3 b s j) := by
  refine Eq.trans ?_ (Cert.FoxNewRefIdeal.Stage.proj_at _ _ b s j).symm
  exact Finset.sum_congr rfl fun k _ => (congrArg₂ (fun x y : EReal => x * y) (hw k) (normed_row m c t r k b s hr)).trans
    (mul_comm (G := EReal) _ _)

theorem key_final (c : Dev nD) : (dats m 0 c).arrAt 16 (cfgs 0).N = keyT (refProj m c) := by
  refine (dats m 0 c).arrAt_eq_of_covers 16 _ (by decide +kernel) fun t _ y => ?_
  blk_simp
  rw [after0_16, key_block]
  obtain ⟨y0, y1, y2, rfl⟩ : ∃ (y0 : Fin 1) (y1 : Fin 1024) (y2 : Fin 256), y = ix3 y0 y1 y2 := ⟨y 0, y 1, y 2, eq_ix3 y⟩
  have hr : (y2 : ℕ) = (seq y2 : ℕ) * 8 + (tok y2 : ℕ) := by show (y2 : ℕ) = (y2 : ℕ) / 8 * 8 + (y2 : ℕ) % 8; omega
  obtain rfl : y0 = 0 := Subsingleton.elim _ _
  refine (key_at _ _ y1 y2).trans ((proj_col m c t y2 (seq y2) (tok y2) hr
    ⟨1024 + y1, by omega⟩ _ fun k => blk5 m c t y1 k).trans ?_)
  show keyT (refProj m c) (ix3 (0 : Fin 1) y1 y2) = _
  congr 1
  blk_ext [idx t]

theorem value_final (c : Dev nD) : (dats m 0 c).arrAt 17 (cfgs 0).N = valueT (refProj m c) := by
  refine (dats m 0 c).arrAt_eq_of_covers 17 _ (by decide +kernel) fun t _ y => ?_
  blk_simp
  rw [after0_17, value_block]
  obtain ⟨y0, y1, y2, rfl⟩ : ∃ (y0 : Fin 1) (y1 : Fin 1024) (y2 : Fin 256), y = ix3 y0 y1 y2 := ⟨y 0, y 1, y 2, eq_ix3 y⟩
  have hr : (y2 : ℕ) = (seq y2 : ℕ) * 8 + (tok y2 : ℕ) := by show (y2 : ℕ) = (y2 : ℕ) / 8 * 8 + (y2 : ℕ) % 8; omega
  obtain rfl : y0 = 0 := Subsingleton.elim _ _
  refine (value_at _ _ y1 y2).trans ((proj_col m c t y2 (seq y2) (tok y2) hr
    ⟨2048 + y1, by omega⟩ _ fun k => blk6 m c t y1 k).trans ?_)
  show valueT (refProj m c) (ix3 (0 : Fin 1) y1 y2) = _
  congr 1
  blk_ext [idx t]

/-- The reference's log forget gates over the kernel's argument arrays. -/
abbrev refGate (c : Dev nD) :=
  Cert.FoxNewRefIdeal.Stage.gate (Cert.FoxNewRefIdeal.Stage.gateArg (refProj m c) (m ((c : Thread nD τ).loc main_arg5)))

theorem gate_final (c : Dev nD) : (dats m 0 c).arrAt 20 (cfgs 0).N = gateT (refGate m c) := by
  refine (dats m 0 c).arrAt_eq_of_covers 20 _ (by decide +kernel) fun t _ y => ?_
  blk_simp
  rw [after0_20, gate_block]
  obtain ⟨y0, y1, y2, rfl⟩ : ∃ (y0 : Fin 1) (y1 : Fin 16) (y2 : Fin 256), y = ix3 y0 y1 y2 := ⟨y 0, y 1, y 2, eq_ix3 y⟩
  have hr : (y2 : ℕ) = (seq y2 : ℕ) * 8 + (tok y2 : ℕ) := by show (y2 : ℕ) = (y2 : ℕ) / 8 * 8 + (y2 : ℕ) % 8; omega
  obtain rfl : y0 = 0 := Subsingleton.elim _ _
  have e : k0_pay15 (F := Ideal) (rows m c t) (iblk m c 8 t) (iblk m c 10 t) (ix2 y1 y2)
      = Cert.FoxNewRefIdeal.Stage.gateArg (refProj m c) (m ((c : Thread nD τ).loc main_arg5)) (ix3 (seq y2) (tok y2) y1) := by
    refine (gateArg_at _ _ _ y1 y2).trans (Eq.trans ?_ (Cert.FoxNewRefIdeal.Stage.gateArg_at _ _ _ _ y1).symm)
    exact congrArg₂ (fun x y : EReal => x + y) (proj_col m c t y2 (seq y2) (tok y2) hr
      ⟨3072 + y1, by omega⟩ _ fun k => blk8 m c t y1 k) (blk10 m c t y1)
  have f := Cert.FoxNewRefIdeal.Stage.gate_at (Cert.FoxNewRefIdeal.Stage.gateArg (refProj m c) (m ((c : Thread nD τ).loc main_arg5)))
    (seq y2) (tok y2) y1
  rw [← e] at f
  refine (gate_at _ _ _ y1 y2).trans ((Cert.GateMath.softplus_eq _).trans (f.symm.trans ?_))
  show gateT (refGate m c) (ix3 (0 : Fin 1) y1 y2) = _
  congr 1
  blk_ext [idx t]

/-- The buffers the lines after the call start from. -/
abbrev exit (c : Dev nD) : Valuation τ sig (Elt Ideal) :=
  Pipeline.withArrays (cfgs 0).spec c (V0 m c) fun w => (dats m 0 c).arrAt w (cfgs 0).N

theorem exit_key (c : Dev nD) : exit m c (Proc.devRef .tc main_v265_1) = keyT (refProj m c) :=
  (Pipeline.withArrays_arr (cfgs 0).spec (by decide) c (V0 m c) _ 16).trans (key_final m c)

theorem exit_value (c : Dev nD) : exit m c (Proc.devRef .tc main_v265_2) = valueT (refProj m c) :=
  (Pipeline.withArrays_arr (cfgs 0).spec (by decide) c (V0 m c) _ 17).trans (value_final m c)

theorem exit_gate (c : Dev nD) : exit m c (Proc.devRef .tc main_v265_5) = gateT (refGate m c) :=
  (Pipeline.withArrays_arr (cfgs 0).spec (by decide) c (V0 m c) _ 20).trans (gate_final m c)

/-- The kernel's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v272) = Cert.FoxNewRefIdeal.Stage.key (refProj m c)
      ∧ r.2.mem ((c.tc : Thread nD τ).loc main_v273) = Cert.FoxNewRefIdeal.Stage.value (refProj m c)
      ∧ r.2.mem ((c.tc : Thread nD τ).loc main_v274) = refGate m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Idealize.ShloMosaic.θ_run_mono (Idealize.ShloMosaic.θ_run_and (run_main m ρ) (unchanged m ρ)) fun r h c =>
    ⟨((h.1 c).2 main_v272 (Pipeline.mem_restRefs_of main_v272 (by decide) (by decide))).trans
        ((tail_key (exit m c)).trans ((congrArg (fun K => transpose S32x8x16x64 [0, 3, 1, 2] (transpose S32x16x64x8 [2, 0, 1, 3] (shapeCast S16x64x32x8 K shapeCasts_S1x1024x256_S16x64x32x8) transposes_S16x64x32x8_S32x16x64x8_2_0_1_3) transposes_S32x16x64x8_S32x8x16x64_0_3_1_2) (exit_key m c)).trans (key_turned _))),
      ((h.1 c).2 main_v273 (Pipeline.mem_restRefs_of main_v273 (by decide) (by decide))).trans
        ((tail_value (exit m c)).trans ((congrArg (fun K => transpose S32x8x16x64 [0, 3, 1, 2] (transpose S32x16x64x8 [2, 0, 1, 3] (shapeCast S16x64x32x8 K shapeCasts_S1x1024x256_S16x64x32x8) transposes_S16x64x32x8_S32x16x64x8_2_0_1_3) transposes_S32x16x64x8_S32x8x16x64_0_3_1_2) (exit_value m c)).trans (value_turned _))),
      ((h.1 c).2 main_v274 (Pipeline.mem_restRefs_of main_v274 (by decide) (by decide))).trans
        ((tail_gate (exit m c)).trans ((congrArg (fun K => transpose S32x8x16 [0, 2, 1] (transpose S32x16x8 [1, 0, 2] (shapeCast S16x32x8 K shapeCasts_S1x16x256_S16x32x8) transposes_S16x32x8_S32x16x8_1_0_2) transposes_S32x16x8_S32x8x16_0_2_1) (exit_gate m c)).trans (gate_turned _))),
      h.2 c⟩

end Cert.FoxNewIdeal.Stage

end
-- ==== Proof.MlpValue.lean ====
/- The feed-forward kernel's result array is the plain reference's, block by block. -/
module

public import proofs.«01_k».proof.Proof.Gen.MlpIdeal.Frame
public import proofs.«01_k».proof.Proof.MlpTile
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.Stage
open Cert.MlpIdeal Cert.MlpIdeal.Gen Cert.MlpMath

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![t.val / 4, 0, 0]
    ∧ win0_5.index t = ![0, 0] ∧ win0_6.index t = ![0, 0] ∧ win0_7.index t = ![0, 0]
    ∧ win0_8.index t = ![t.val / 4, t.val % 4, 0] ∧ t.val / 4 < 16 :=
  (by decide +kernel : ∀ t : Fin grid0.N, _)

/-- The reference's stages over the kernel's argument arrays. -/
abbrev refNormed (c : Dev nD) :=
  Cert.MlpRefIdeal.Stage.normed (m ((c : Thread nD τ).loc main_arg0)) (m ((c : Thread nD τ).loc main_arg1))
    (m ((c : Thread nD τ).loc main_arg2)) (m ((c : Thread nD τ).loc main_arg3))

abbrev refHid (c : Dev nD) := Cert.MlpRefIdeal.Stage.hid (refNormed m c) (m ((c : Thread nD τ).loc main_arg5))

abbrev refResid (c : Dev nD) :=
  Cert.MlpRefIdeal.Stage.resid (m ((c : Thread nD τ).loc main_arg0)) (m ((c : Thread nD τ).loc main_arg4)) (refHid m c)
    (m ((c : Thread nD τ).loc main_arg6))

/-! Each input block read at an index is its argument array read at the block's place. -/

theorem blk0 (c : Dev nD) (t : Fin cfg0.N) (r : Fin 512) (k : Fin 1024) (b : Fin 16) (s : Fin 2048)
    (hb : (b : ℕ) = t.val / 4) (hs : (s : ℕ) = t.val % 4 * 512 + r) :
    (iblk m c 0 t : FVec Ideal S1x512x1024 .f32) (ix3 0 r k) = m ((c : Thread nD τ).loc main_arg0) (ix3 b s k) := by
  blk_ext [iblk, V, idx t]

theorem blk1 (c : Dev nD) (t : Fin cfg0.N) (k : Fin 1024) :
    (iblk m c 1 t : FVec Ideal S1x1024 .f32) (ix2 0 k) = m ((c : Thread nD τ).loc main_arg1) (ix1 k) := by
  blk_point [iblk, idx t]

theorem blk2 (c : Dev nD) (t : Fin cfg0.N) (k : Fin 1024) (b : Fin 16) (hb : (b : ℕ) = t.val / 4) :
    (iblk m c 2 t : FVec Ideal S1x1x1024 .f32) (ix3 0 0 k) = m ((c : Thread nD τ).loc main_arg2) (ix3 b 0 k) := by
  blk_ext [iblk, V, idx t]

theorem blk3 (c : Dev nD) (t : Fin cfg0.N) (k : Fin 1024) (b : Fin 16) (hb : (b : ℕ) = t.val / 4) :
    (iblk m c 3 t : FVec Ideal S1x1x1024 .f32) (ix3 0 0 k) = m ((c : Thread nD τ).loc main_arg3) (ix3 b 0 k) := by
  blk_ext [iblk, V, idx t]

theorem blk4 (c : Dev nD) (t : Fin cfg0.N) (k : Fin 1024) (b : Fin 16) (hb : (b : ℕ) = t.val / 4) :
    (iblk m c 4 t : FVec Ideal S1x1x1024 .f32) (ix3 0 0 k) = m ((c : Thread nD τ).loc main_arg4) (ix3 b 0 k) := by
  blk_ext [iblk, V, idx t]

theorem blk5 (c : Dev nD) (t : Fin cfg0.N) (k : Fin 1024) (f : Fin 4096) :
    (iblk m c 5 t : FVec Ideal S1024x4096 .bf16) (ix2 k f) = m ((c : Thread nD τ).loc main_arg5) (ix2 k f) := by
  blk_point [iblk, idx t]

theorem blk6 (c : Dev nD) (t : Fin cfg0.N) (f : Fin 4096) (k : Fin 1024) :
    (iblk m c 6 t : FVec Ideal S4096x1024 .bf16) (ix2 f k) = m ((c : Thread nD τ).loc main_arg6) (ix2 f k) := by
  blk_point [iblk, idx t]

theorem blk7 (c : Dev nD) (t : Fin cfg0.N) (k : Fin 1024) :
    (iblk m c 7 t : FVec Ideal S1x1024 .f32) (ix2 0 k) = m ((c : Thread nD τ).loc main_arg7) (ix1 k) := by
  blk_point [iblk, idx t]

theorem row (c : Dev nD) (t : Fin cfg0.N) (r : Fin 512) (b : Fin 16) (s : Fin 2048) (hb : (b : ℕ) = t.val / 4) (hs : (s : ℕ) = t.val % 4 * 512 + r) :
    Row (iblk m c 0 t) (iblk m c 1 t) (iblk m c 2 t) (iblk m c 3 t) (m ((c : Thread nD τ).loc main_arg0)) (m ((c : Thread nD τ).loc main_arg1))
      (m ((c : Thread nD τ).loc main_arg2)) (m ((c : Thread nD τ).loc main_arg3)) b s r :=
  ⟨fun k => blk0 m c t r k b s hb hs, blk1 m c t, fun k => blk2 m c t k b hb, fun k => blk3 m c t k b hb⟩

/-- The accumulated product of the body at one place, from the loaded tiles. -/
abbrev accum (c : Dev nD) (t : Fin cfg0.N) : FVec Ideal S512x1024 .f32 :=
  accumOf (iblk m c 0 t) (iblk m c 1 t) (iblk m c 2 t) (iblk m c 3 t) (iblk m c 5 t) (iblk m c 6 t)

/-- The body's gated residual sum at a place is the reference's. -/
theorem resid_blk (c : Dev nD) (t : Fin cfg0.N) (r : Fin 512) (k : Fin 1024) (b : Fin 16) (s : Fin 2048)
    (hb : (b : ℕ) = t.val / 4) (hs : (s : ℕ) = t.val % 4 * 512 + r) :
    k0_pay2 (F := Ideal) (iblk m c 0 t) (ix2 r k) + (show EReal from (iblk m c 4 t : FVec Ideal S1x1x1024 .f32) (ix3 0 0 k)) * accum m c t (ix2 r k)
      = refResid m c (ix3 b s k) :=
  resid_row (row m c t r b s hb hs) (fun k => blk4 m c t k b hb) (blk5 m c t) (blk6 m c t) k

theorem point (c : Dev nD) (t : Fin cfg0.N) (r : Fin 512) (k : Fin 1024) (b : Fin 16) (s : Fin 2048)
    (hb : (b : ℕ) = t.val / 4) (hs : (s : ℕ) = t.val % 4 * 512 + r) :
    k0_pay1 (F := Ideal) (k0_pay2 (iblk m c 0 t)) (accum m c t) (iblk m c 4 t) (iblk m c 7 t) (ix3 0 r k)
    = Cert.MlpRefIdeal.Stage.finish (refResid m c) (m ((c : Thread nD τ).loc main_arg7)) (ix3 b s k) := by
  refine (finish_at _ _ _ _ r k).trans (Eq.trans ?_ (Cert.MlpRefIdeal.Stage.finish_at _ _ b s k).symm)
  refine congrArg₂ (· * ·) (congrArg₂ (· * ·) (resid_blk m c t r k b s hb hs) (congrArg scaleOf ?_)) (blk7 m c t k)
  funext k
  exact resid_blk m c t r k b s hb hs

theorem final (c : Dev nD) : (dats m 0 c).arrAt 8 (cfgs 0).N
    = Cert.MlpRefIdeal.Stage.finish (refResid m c) (m ((c : Thread nD τ).loc main_arg7)) := by
  refine (dats m 0 c).arrAt_eq_of_covers 8 _ (by decide +kernel) fun t _ y => ?_
  blk_simp
  rw [after0_8]
  frame_out
  obtain ⟨y0, y1, y2, rfl⟩ : ∃ (y0 : Fin 1) (y1 : Fin 512) (y2 : Fin 1024), y = ix3 y0 y1 y2 := ⟨y 0, y 1, y 2, eq_ix3 y⟩
  have h16 : t.val / 4 < 16 := (idx t).2.2.2.2.2.2.2.2.2
  obtain rfl : y0 = 0 := Subsingleton.elim _ _
  refine (point m c t y1 y2 ⟨t.val / 4, h16⟩ ⟨t.val % 4 * 512 + y1, by omega⟩ rfl rfl).trans ?_
  congr 1
  blk_ext [idx t]

end Cert.MlpIdeal.Stage

end
-- ==== Proof.MidValue.lean ====
/- The feed-forward kernel without the final normalisation: its result array is the plain reference's gated residual sum. The body is the
   other kernel's up to that sum, so the lemmas over one grid point's blocks are the same. -/
module

public import proofs.«01_k».proof.Proof.Gen.MidIdeal.Frame
public import proofs.«01_k».proof.Proof.MlpTile
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidIdeal.Stage
open Cert.MidIdeal Cert.MidIdeal.Gen

/-- The payload of the result: the gated residual sum, read at a place. -/
theorem sum_at (X A : FVec Ideal S512x1024 .f32) (Ga : FVec Ideal S1x1x1024 .f32) (r : Fin 512) (k : Fin 1024) :
    k0_pay1 (F := Ideal) X A Ga (ix3 0 r k) = X (ix2 r k) + Ga (ix3 0 0 k) * A (ix2 r k) := by
  pointwise! [k0_pay1]

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![t.val / 4, 0, 0]
    ∧ win0_5.index t = ![0, 0] ∧ win0_6.index t = ![0, 0] ∧ win0_8.index t = ![t.val / 4, t.val % 4, 0] ∧ t.val / 4 < 16 :=
  (by decide +kernel : ∀ t : Fin grid0.N, _)

/-- The reference's result over the kernel's argument arrays. -/
abbrev refResid (c : Dev nD) :=
  Cert.MlpRefIdeal.Stage.resid (m ((c : Thread nD τ).loc main_arg0)) (m ((c : Thread nD τ).loc main_arg4))
    (Cert.MlpIdeal.Stage.hidOf (m ((c : Thread nD τ).loc main_arg0)) (m ((c : Thread nD τ).loc main_arg1)) (m ((c : Thread nD τ).loc main_arg2))
      (m ((c : Thread nD τ).loc main_arg3)) (m ((c : Thread nD τ).loc main_arg5))) (m ((c : Thread nD τ).loc main_arg6))

/-- Each input block's row is its argument array's row. -/
theorem row (c : Dev nD) (t : Fin cfg0.N) (r : Fin 512) (b : Fin 16) (s : Fin 2048) (hb : (b : ℕ) = t.val / 4) (hs : (s : ℕ) = t.val % 4 * 512 + r) :
    Cert.MlpIdeal.Stage.Row (iblk m c 0 t) (iblk m c 1 t) (iblk m c 2 t) (iblk m c 3 t) (m ((c : Thread nD τ).loc main_arg0))
      (m ((c : Thread nD τ).loc main_arg1)) (m ((c : Thread nD τ).loc main_arg2)) (m ((c : Thread nD τ).loc main_arg3)) b s r where
  x k := show (iblk m c 0 t : FVec Ideal S1x512x1024 .f32) (ix3 0 r k) = _ by blk_ext [iblk, V, idx t]
  g k := show (iblk m c 1 t : FVec Ideal S1x1024 .f32) (ix2 0 k) = _ by blk_point [iblk, idx t]
  sh k := show (iblk m c 2 t : FVec Ideal S1x1x1024 .f32) (ix3 0 0 k) = _ by blk_ext [iblk, V, idx t]
  sc k := show (iblk m c 3 t : FVec Ideal S1x1x1024 .f32) (ix3 0 0 k) = _ by blk_ext [iblk, V, idx t]

theorem blk4 (c : Dev nD) (t : Fin cfg0.N) (k : Fin 1024) (b : Fin 16) (hb : (b : ℕ) = t.val / 4) :
    (iblk m c 4 t : FVec Ideal S1x1x1024 .f32) (ix3 0 0 k) = m ((c : Thread nD τ).loc main_arg4) (ix3 b 0 k) := by
  blk_ext [iblk, V, idx t]

theorem blk5 (c : Dev nD) (t : Fin cfg0.N) (k : Fin 1024) (f : Fin 4096) :
    (iblk m c 5 t : FVec Ideal S1024x4096 .bf16) (ix2 k f) = m ((c : Thread nD τ).loc main_arg5) (ix2 k f) := by
  blk_point [iblk, idx t]

theorem blk6 (c : Dev nD) (t : Fin cfg0.N) (f : Fin 4096) (k : Fin 1024) :
    (iblk m c 6 t : FVec Ideal S4096x1024 .bf16) (ix2 f k) = m ((c : Thread nD τ).loc main_arg6) (ix2 f k) := by
  blk_point [iblk, idx t]

theorem final (c : Dev nD) : (dats m 0 c).arrAt 8 (cfgs 0).N = refResid m c := by
  refine (dats m 0 c).arrAt_eq_of_covers 8 _ (by decide +kernel) fun t _ y => ?_
  blk_simp
  rw [after0_8]
  frame_out
  obtain ⟨y0, y1, y2, rfl⟩ : ∃ (y0 : Fin 1) (y1 : Fin 512) (y2 : Fin 1024), y = ix3 y0 y1 y2 := ⟨y 0, y 1, y 2, eq_ix3 y⟩
  have h16 : t.val / 4 < 16 := (idx t).2.2.2.2.2.2.2.2
  obtain rfl : y0 = 0 := Subsingleton.elim _ _
  refine (sum_at _ _ _ y1 y2).trans ((Cert.MlpIdeal.Stage.resid_row
    (row m c t y1 ⟨t.val / 4, h16⟩ ⟨t.val % 4 * 512 + y1, by omega⟩ rfl rfl) (fun k => blk4 m c t k _ rfl) (blk5 m c t) (blk6 m c t) y2).trans ?_)
  congr 1
  blk_ext [idx t]

end Cert.MidIdeal.Stage

end
-- ==== Proof.ProjValue.lean ====
/- The output projection of the attention and its gated residual sum: the kernel's result array is the plain reference's. -/
module

public import proofs.«01_k».proof.Proof.Gen.ProjIdeal.Frame
public import proofs.«01_k».proof.Proof.Gen.ProjRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjRefIdeal.Stage
open Cert.ProjRefIdeal Cert.ProjRefIdeal.Gen

/-- The reference over its four arrays. -/
def whole (O : FVec Ideal S16x2048x1024 .bf16) (W : FVec Ideal S1024x1024 .f32) (X : FVec Ideal S16x2048x1024 .f32) (Ga : FVec Ideal S16x1x1024 .f32) :
    FVec Ideal S16x2048x1024 .f32 :=
  addf X (mulf (broadcastInDim S16x2048x1024 ![0, 1, 2] bcast_S16x1x1024_S16x2048x1024_0_1_2 Ga)
    (Host.dotGeneral dot_S16x2048x1024_S1024x1024_S16x2048x1024_2_0_01_1_n_n none (extf .f32 O (by decide)) W))

theorem whole_at (O : FVec Ideal S16x2048x1024 .bf16) (W : FVec Ideal S1024x1024 .f32) (X : FVec Ideal S16x2048x1024 .f32) (Ga : FVec Ideal S16x1x1024 .f32)
    (b : Fin 16) (s : Fin 2048) (k : Fin 1024) :
    whole O W X Ga (ix3 b s k) = X (ix3 b s k) + Ga (ix3 b 0 k) * ∑ j : Fin 1024, O (ix3 b s j) * W (ix2 j k) := by
  pointwise! [whole]

end Cert.ProjRefIdeal.Stage

namespace Cert.ProjIdeal.Stage
open Cert.ProjIdeal Cert.ProjIdeal.Gen

theorem sum_at (O : FVec Ideal S1x512x1024 .bf16) (W : FVec Ideal S1024x1024 .bf16) (X : FVec Ideal S1x512x1024 .f32) (Ga : FVec Ideal S1x1x1024 .f32)
    (r : Fin 512) (k : Fin 1024) :
    k0_pay1 (F := Ideal) O W X Ga (ix3 0 r k) = X (ix3 0 r k) + Ga (ix3 0 0 k) * ∑ j : Fin 1024, O (ix3 0 r j) * W (ix2 j k) := by
  pointwise! [k0_pay1]

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, t.val % 4, 0] ∧ win0_3.index t = ![t.val / 4, 0, 0] ∧ win0_4.index t = ![t.val / 4, t.val % 4, 0] ∧ t.val / 4 < 16 :=
  (by decide +kernel : ∀ t : Fin grid0.N, _)

theorem blk0 (c : Dev nD) (t : Fin cfg0.N) (r : Fin 512) (k : Fin 1024) (b : Fin 16) (s : Fin 2048)
    (hb : (b : ℕ) = t.val / 4) (hs : (s : ℕ) = t.val % 4 * 512 + r) :
    (iblk m c 0 t : FVec Ideal S1x512x1024 .bf16) (ix3 0 r k) = m ((c : Thread nD τ).loc main_arg0) (ix3 b s k) := by
  blk_ext [iblk, V, idx t]

theorem blk1 (c : Dev nD) (t : Fin cfg0.N) (j k : Fin 1024) :
    (iblk m c 1 t : FVec Ideal S1024x1024 .bf16) (ix2 j k) = m ((c : Thread nD τ).loc main_arg1) (ix2 j k) := by
  blk_point [iblk, idx t]

theorem blk2 (c : Dev nD) (t : Fin cfg0.N) (r : Fin 512) (k : Fin 1024) (b : Fin 16) (s : Fin 2048)
    (hb : (b : ℕ) = t.val / 4) (hs : (s : ℕ) = t.val % 4 * 512 + r) :
    (iblk m c 2 t : FVec Ideal S1x512x1024 .f32) (ix3 0 r k) = m ((c : Thread nD τ).loc main_arg2) (ix3 b s k) := by
  blk_ext [iblk, V, idx t]

theorem blk3 (c : Dev nD) (t : Fin cfg0.N) (k : Fin 1024) (b : Fin 16) (hb : (b : ℕ) = t.val / 4) :
    (iblk m c 3 t : FVec Ideal S1x1x1024 .f32) (ix3 0 0 k) = m ((c : Thread nD τ).loc main_arg3) (ix3 b 0 k) := by
  blk_ext [iblk, V, idx t]

/-- One block of the result, read at a place, is the reference's entry there. -/
theorem point (c : Dev nD) (t : Fin cfg0.N) (r : Fin 512) (k : Fin 1024) (b : Fin 16) (s : Fin 2048)
    (hb : (b : ℕ) = t.val / 4) (hs : (s : ℕ) = t.val % 4 * 512 + r) :
    k0_pay1 (F := Ideal) (iblk m c 0 t) (iblk m c 1 t) (iblk m c 2 t) (iblk m c 3 t) (ix3 0 r k)
      = Cert.ProjRefIdeal.Stage.whole (m ((c : Thread nD τ).loc main_arg0)) (m ((c : Thread nD τ).loc main_arg1))
          (m ((c : Thread nD τ).loc main_arg2)) (m ((c : Thread nD τ).loc main_arg3)) (ix3 b s k) := by
  refine (sum_at _ _ _ _ r k).trans (Eq.trans ?_ (Cert.ProjRefIdeal.Stage.whole_at _ _ _ _ b s k).symm)
  refine congrArg₂ (· + ·) (blk2 m c t r k b s hb hs) (congrArg₂ (fun x y : EReal => x * y) (blk3 m c t k b hb) ?_)
  exact Finset.sum_congr rfl fun j _ => congrArg₂ (fun x y : EReal => x * y) (blk0 m c t r j b s hb hs) (blk1 m c t j k)

theorem final (c : Dev nD) : (dats m 0 c).arrAt 4 (cfgs 0).N
    = Cert.ProjRefIdeal.Stage.whole (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨y0, y1, y2, rfl⟩ : ∃ (y0 : Fin 1) (y1 : Fin 512) (y2 : Fin 1024), y = ix3 y0 y1 y2 := ⟨y 0, y 1, y 2, eq_ix3 y⟩
  have h16 : t.val / 4 < 16 := (idx t).2.2.2.2.2
  obtain rfl : y0 = 0 := Subsingleton.elim _ _
  refine (point m c t y1 y2 ⟨t.val / 4, h16⟩ ⟨t.val % 4 * 512 + y1, by omega⟩ rfl rfl).trans ?_
  congr 1
  blk_ext [idx t]

end Cert.ProjIdeal.Stage

end
-- ==== Proof.AbInBody.lean ====
/- What the input projection's body computes at one grid point, each stored block read at an index over arbitrary loaded blocks. -/
module

public import proofs.«01_k».proof.Proof.Gen.AbInIdeal.Frame
public import proofs.«01_k».proof.Proof.MlpTile
public import Idealize.ShloMosaic.Lib.Pointwise

@[expose] public section

set_option maxRecDepth 16384

noncomputable section

open Idealize.ShloMosaic Idealize.ShloMosaic.TcCoe Idealize.SL.Sem

namespace Cert.AbInIdeal.Stage
open Cert.AbInIdeal Cert.AbInIdeal.Gen

theorem query_at (X : FVec Ideal S1x512x1024 .f32) (G : FVec Ideal S1x1024 .f32) (Sh Sc : FVec Ideal S1x1x1024 .f32) (W : FVec Ideal S1024x1536 .bf16)
    (r : Fin 512) (j : Fin 1536) :
    k0_pay5 (F := Ideal) X G Sh Sc W (ix3 0 r j)
      = (∑ k : Fin 1024, k0_pay3 (F := Ideal) X G Sh Sc (ix2 r k) * W (ix2 k j)) * Ideal.ofBits .f32 0x3E000000#32 := by
  pointwise! [k0_pay5, k0_pay4]

theorem near_at (N : FVec Ideal S512x1024 .bf16) (W : FVec Ideal S1024x1024 .bf16) (r : Fin 512) (j : Fin 1024) :
    k0_pay105 (F := Ideal) N W (ix3 0 r j) = ∑ k : Fin 1024, N (ix2 r k) * W (ix2 k j) := by
  pointwise! [k0_pay105]

theorem far_at (N : FVec Ideal S512x1024 .bf16) (W : FVec Ideal S1024x1024 .bf16) (r : Fin 512) (j : Fin 1024) :
    k0_pay156 (F := Ideal) N W (ix3 0 r j) = ∑ k : Fin 1024, N (ix2 r k) * W (ix2 k j) := by
  pointwise! [k0_pay156, k0_pay155]

theorem mixer_at (N : FVec Ideal S512x1024 .bf16) (W : FVec Ideal S1024x1536 .bf16) (r : Fin 512) (j : Fin 1536) :
    k0_pay1 (F := Ideal) N W (ix3 0 r j) = ∑ k : Fin 1024, N (ix2 r k) * W (ix2 k j) := by
  pointwise! [k0_pay1]

/-- The gate's argument at a place. -/
def gateArg (N : FVec Ideal S512x1024 .bf16) (W : FVec Ideal S1024x16 .bf16) (A : FVec Ideal S16x256 .bf16) (B : FVec Ideal S1x256 .f32)
    (r : Fin 512) (j : Fin 256) : EReal :=
  (∑ l : Fin 16, (∑ k : Fin 1024, N (ix2 r k) * W (ix2 k l)) * A (ix2 l j)) + B (ix2 0 j)

theorem gate_at (N : FVec Ideal S512x1024 .bf16) (W : FVec Ideal S1024x16 .bf16) (A : FVec Ideal S16x256 .bf16) (B : FVec Ideal S1x256 .f32)
    (r : Fin 512) (j : Fin 256) :
    k0_pay2 (F := Ideal) N W A B (ix3 0 r j)
      = (min (gateArg N W A B r j) 0 - Ideal.log1p (Ideal.exp (0 - max (gateArg N W A B r j) (-gateArg N W A B r j)))) * Ideal.ofBits .f32 0x3D800000#32 := by
  unfold gateArg
  pointwise [k0_pay2]
  rw [Ideal.absf_def]

end Cert.AbInIdeal.Stage

end
-- ==== Proof.AbInHost.lean ====
/- The weight matrices the host slices and lays side by side for the input projection, read at an index of the argument they come from. -/
module

public import proofs.«01_k».proof.Proof.Gen.AbInIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AbInIdeal.Stage
open Cert.AbInIdeal Cert.AbInIdeal.Gen

/-- The key columns of the whole matrix. -/
def keys (W : FVec Ideal S1024x6160 .f32) : FVec Ideal S1024x1536 .f32 := extractStridedSlice S1024x1536 ![0, 1536] W slices_S1024x6160_S1024x1536_0_1536

/-- The value columns of the whole matrix. -/
def values (W : FVec Ideal S1024x6160 .f32) : FVec Ideal S1024x1536 .f32 := extractStridedSlice S1024x1536 ![0, 3072] W slices_S1024x6160_S1024x1536_0_3072

/-- The first branch's key and value columns, side by side. -/
def nearW (W : FVec Ideal S1024x6160 .f32) : FVec Ideal S1024x1024 .bf16 :=
  truncf .bf16 (concatenate S1024x1024 1 [⟨S1024x512, extractStridedSlice S1024x512 ![0, 0] (keys W) slices_S1024x1536_S1024x512_0_0⟩,
    ⟨S1024x512, extractStridedSlice S1024x512 ![0, 0] (values W) slices_S1024x1536_S1024x512_0_0⟩] concatenates_S1024x512_S1024x512_S1024x1024_d1) bitsLt_bf16_f32

/-- The third branch's key and value columns, side by side. -/
def farW (W : FVec Ideal S1024x6160 .f32) : FVec Ideal S1024x1024 .bf16 :=
  truncf .bf16 (concatenate S1024x1024 1 [⟨S1024x512, extractStridedSlice S1024x512 ![0, 1024] (keys W) slices_S1024x1536_S1024x512_0_1024⟩,
    ⟨S1024x512, extractStridedSlice S1024x512 ![0, 1024] (values W) slices_S1024x1536_S1024x512_0_1024⟩] concatenates_S1024x512_S1024x512_S1024x1024_d1) bitsLt_bf16_f32

/-- The second mixer's four groups of columns, side by side. -/
def mixerW (W : FVec Ideal S1024x6160 .f32) : FVec Ideal S1024x1536 .bf16 :=
  truncf .bf16 (concatenate S1024x1536 1 [⟨S1024x256, extractStridedSlice S1024x256 ![0, 4608] W slices_S1024x6160_S1024x256_0_4608⟩,
    ⟨S1024x256, extractStridedSlice S1024x256 ![0, 4864] W slices_S1024x6160_S1024x256_0_4864⟩,
    ⟨S1024x512, extractStridedSlice S1024x512 ![0, 5120] W slices_S1024x6160_S1024x512_0_5120⟩,
    ⟨S1024x512, extractStridedSlice S1024x512 ![0, 5632] W slices_S1024x6160_S1024x512_0_5632⟩] concatenates_S1024x256_S1024x256_S1024x512_S1024x512_S1024x1536_d1) bitsLt_bf16_f32

theorem nearW_at (W : FVec Ideal S1024x6160 .f32) (k j : Fin 1024) :
    nearW W (ix2 k j) = if h : (j : ℕ) < 512 then W (ix2 k ⟨1536 + j, by omega⟩) else W (ix2 k ⟨3072 + (j - 512), by omega⟩) := by
  pointwise! [nearW, keys, values]

theorem farW_at (W : FVec Ideal S1024x6160 .f32) (k j : Fin 1024) :
    farW W (ix2 k j) = if h : (j : ℕ) < 512 then W (ix2 k ⟨1536 + (1024 + j), by omega⟩) else W (ix2 k ⟨3072 + (1024 + (j - 512)), by omega⟩) := by
  pointwise! [farW, keys, values]

theorem mixerW_at (W : FVec Ideal S1024x6160 .f32) (k : Fin 1024) (j : Fin 1536) :
    mixerW W (ix2 k j) = W (ix2 k ⟨4608 + j, by omega⟩) := by
  pointwise [mixerW]
  split_ifs <;> congr 2 <;> (apply Fin.ext; show _ = _; dsimp only; omega)

variable (m : (ℓ : Loc nD τ sig) → Buf (Elt Ideal) ℓ)

theorem host_near (c : Dev nD) : V m c main_v18 = nearW (m ((c : Thread nD τ).loc main_arg4)) := by
  unfold V
  after_results_simp <;> rfl

theorem host_far (c : Dev nD) : V m c main_v26 = farW (m ((c : Thread nD τ).loc main_arg4)) := by
  unfold V
  after_results_simp <;> rfl

theorem host_mixer (c : Dev nD) : V m c main_v11 = mixerW (m ((c : Thread nD τ).loc main_arg4)) := by
  unfold V
  after_results_simp <;> rfl

end Cert.AbInIdeal.Stage

end
-- ==== Proof.AbInRef.lean ====
/- What the plain input projection computes, one result at a time, each read at an index. -/
module

public import proofs.«01_k».proof.Proof.Gen.AbInRefIdeal.Run
public import proofs.«01_k».proof.Proof.MlpRef
public import proofs.«01_k».proof.Proof.GateMath

@[expose] public section

set_option maxRecDepth 16384

noncomputable section

open Idealize.ShloMosaic Idealize.ShloMosaic.TcCoe Idealize.SL.Sem

namespace Cert.AbInRefIdeal.Stage
open Cert.AbInRefIdeal Cert.AbInRefIdeal.Gen

/-- The projection of the normalised rows by the whole matrix. -/
def proj (N : FVec Ideal S16x2048x1024 .f32) (W : FVec Ideal S1024x6160 .f32) : FVec Ideal S16x2048x6160 .f32 :=
  Host.dotGeneral dot_S16x2048x1024_S1024x6160_S16x2048x6160_2_0_01_1_n_n none N W

/-- The scaled queries. -/
def query (P : FVec Ideal S16x2048x6160 .f32) : FVec Ideal S16x2048x1536 .bf16 :=
  truncf .bf16 (mulf (extractStridedSlice S16x2048x1536 ![0, 0, 0] P slices_S16x2048x6160_S16x2048x1536_0_0_0) (broadcastInDim S16x2048x1536 ![] bcast_S_S16x2048x1536 (constant S_ .f32 0x3E000000#32))) bitsLt_bf16_f32

/-- The keys and the values of the first branch, side by side. -/
def near (P : FVec Ideal S16x2048x6160 .f32) : FVec Ideal S16x2048x1024 .f32 :=
  concatenate S16x2048x1024 2 [⟨S16x2048x512, (extractStridedSlice S16x2048x512 ![0, 0, 0] (extractStridedSlice S16x2048x1536 ![0, 0, 1536] P slices_S16x2048x6160_S16x2048x1536_0_0_1536) slices_S16x2048x1536_S16x2048x512_0_0_0)⟩,
    ⟨S16x2048x512, (extractStridedSlice S16x2048x512 ![0, 0, 0] (extractStridedSlice S16x2048x1536 ![0, 0, 3072] P slices_S16x2048x6160_S16x2048x1536_0_0_3072) slices_S16x2048x1536_S16x2048x512_0_0_0)⟩] concatenates_S16x2048x512_S16x2048x512_S16x2048x1024_d2

/-- The keys and the values of the third branch, side by side. -/
def far (P : FVec Ideal S16x2048x6160 .f32) : FVec Ideal S16x2048x1024 .f32 :=
  concatenate S16x2048x1024 2 [⟨S16x2048x512, (extractStridedSlice S16x2048x512 ![0, 0, 1024] (extractStridedSlice S16x2048x1536 ![0, 0, 1536] P slices_S16x2048x6160_S16x2048x1536_0_0_1536) slices_S16x2048x1536_S16x2048x512_0_0_1024)⟩,
    ⟨S16x2048x512, (extractStridedSlice S16x2048x512 ![0, 0, 1024] (extractStridedSlice S16x2048x1536 ![0, 0, 3072] P slices_S16x2048x6160_S16x2048x1536_0_0_3072) slices_S16x2048x1536_S16x2048x512_0_0_1024)⟩] concatenates_S16x2048x512_S16x2048x512_S16x2048x1024_d2

/-- The second mixer's queries, keys, values and output gate. -/
def mixer (P : FVec Ideal S16x2048x6160 .f32) : FVec Ideal S16x2048x1536 .f32 :=
  extractStridedSlice S16x2048x1536 ![0, 0, 4608] P slices_S16x2048x6160_S16x2048x1536_0_0_4608

/-- The gate's argument: the low rank columns brought up, plus the bias. -/
def gateArg (P : FVec Ideal S16x2048x6160 .f32) (A : FVec Ideal S16x256 .f32) (B : FVec Ideal S256 .f32) : FVec Ideal S16x2048x256 .f32 :=
  addf (Host.dotGeneral dot_S16x2048x16_S16x256_S16x2048x256_2_0_01_1_n_n none (extractStridedSlice S16x2048x16 ![0, 0, 6144] P slices_S16x2048x6160_S16x2048x16_0_0_6144) A)
    (broadcastInDim S16x2048x256 ![0, 1, 2] bcast_S1x1x256_S16x2048x256_0_1_2 (broadcastInDim S1x1x256 ![2] bcast_S256_S1x1x256_2 B))

theorem proj_at (N : FVec Ideal S16x2048x1024 .f32) (W : FVec Ideal S1024x6160 .f32) (b : Fin 16) (s : Fin 2048) (j : Fin 6160) :
    proj N W (ix3 b s j) = ∑ k : Fin 1024, N (ix3 b s k) * W (ix2 k j) := by
  pointwise! [proj]

theorem query_at (P : FVec Ideal S16x2048x6160 .f32) (b : Fin 16) (s : Fin 2048) (j : Fin 1536) :
    query P (ix3 b s j) = P (ix3 b s ⟨j, by omega⟩) * Ideal.ofBits .f32 0x3E000000#32 := by
  pointwise! [query]

theorem near_at (P : FVec Ideal S16x2048x6160 .f32) (b : Fin 16) (s : Fin 2048) (j : Fin 1024) :
    near P (ix3 b s j) = if h : (j : ℕ) < 512 then P (ix3 b s ⟨1536 + j, by omega⟩) else P (ix3 b s ⟨3072 + (j - 512), by omega⟩) := by
  pointwise! [near]

theorem far_at (P : FVec Ideal S16x2048x6160 .f32) (b : Fin 16) (s : Fin 2048) (j : Fin 1024) :
    far P (ix3 b s j) = if h : (j : ℕ) < 512 then P (ix3 b s ⟨1536 + (1024 + j), by omega⟩) else P (ix3 b s ⟨3072 + (1024 + (j - 512)), by omega⟩) := by
  pointwise! [far]

theorem mixer_at (P : FVec Ideal S16x2048x6160 .f32) (b : Fin 16) (s : Fin 2048) (j : Fin 1536) :
    mixer P (ix3 b s j) = P (ix3 b s ⟨4608 + j, by omega⟩) := by
  pointwise! [mixer]

theorem gateArg_at (P : FVec Ideal S16x2048x6160 .f32) (A : FVec Ideal S16x256 .f32) (B : FVec Ideal S256 .f32) (b : Fin 16) (s : Fin 2048) (j : Fin 256) :
    gateArg P A B (ix3 b s j) = (∑ k : Fin 16, P (ix3 b s ⟨6144 + k, by omega⟩) * A (ix2 k j)) + B (ix1 j) := by
  pointwise! [gateArg]

/-- The negative softplus of a real, as the reference spells it, over its temperature. -/
def gate (Z : FVec Ideal S16x2048x256 .f32) : FVec Ideal S16x2048x256 .f32 :=
  Host.divf (Host.negf (select (cmpf .une (subf (Host.negf Z) (broadcastInDim S16x2048x256 ![] bcast_S_S16x2048x256 (constant S_ .f32 0x00000000#32))) (subf (Host.negf Z) (broadcastInDim S16x2048x256 ![] bcast_S_S16x2048x256 (constant S_ .f32 0x00000000#32))))
    (addf (Host.negf Z) (broadcastInDim S16x2048x256 ![] bcast_S_S16x2048x256 (constant S_ .f32 0x00000000#32)))
    (addf (maximumf (Host.negf Z) (broadcastInDim S16x2048x256 ![] bcast_S_S16x2048x256 (constant S_ .f32 0x00000000#32)))
      (Host.log1p (Host.exp (Host.negf (Host.absf (subf (Host.negf Z) (broadcastInDim S16x2048x256 ![] bcast_S_S16x2048x256 (constant S_ .f32 0x00000000#32)))))))))) (broadcastInDim S16x2048x256 ![] bcast_S_S16x2048x256 (constant S_ .f32 0x41800000#32))

theorem gate_at (Z : FVec Ideal S16x2048x256 .f32) (b : Fin 16) (s : Fin 2048) (j : Fin 256) :
    gate Z (ix3 b s j) = Ideal.div (-(max (-Z (ix3 b s j)) 0 + Ideal.log1p (Ideal.exp (-max (-Z (ix3 b s j)) (- -Z (ix3 b s j))))))
      (Ideal.ofBits .f32 0x41800000#32) := by
  pointwise [gate]
  rw [if_neg (fun h => h rfl), Ideal.absf_def]

variable (m : (ℓ : Loc nD τ sig) → Buf (Elt Ideal) ℓ)

/-- The reference's projection over its argument arrays. -/
abbrev projOf (c : Dev nD) : FVec Ideal S16x2048x6160 .f32 :=
  proj (Cert.MlpRefIdeal.Stage.normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v27) = query (projOf m c)
      ∧ r.2.mem ((c.tc : Thread nD τ).loc main_v37) = near (projOf m c)
      ∧ r.2.mem ((c.tc : Thread nD τ).loc main_v40) = far (projOf m c)
      ∧ r.2.mem ((c.tc : Thread nD τ).loc main_v23) = mixer (projOf m c)
      ∧ r.2.mem ((c.tc : Thread nD τ).loc main_v34) = gate (gateArg (projOf m c) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans rfl, (h c).2.1.trans rfl, (h c).2.2.1.trans rfl, (h c).2.2.2.1.trans rfl, (h c).2.2.2.2.1.trans rfl, (h c).2.2.2.2.2⟩)
    (Cert.AbInRefIdeal.Value.run (F := Ideal) m ρ)

end Cert.AbInRefIdeal.Stage

end
-- ==== Proof.AbInValue.lean ====
/- The input projection of the two interleaved mixers: five of the kernel's result arrays are the plain reference's. -/
module

public import proofs.«01_k».proof.Proof.AbInBody
public import proofs.«01_k».proof.Proof.AbInHost
public import proofs.«01_k».proof.Proof.AbInRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AbInIdeal.Stage
open Cert.AbInIdeal Cert.AbInIdeal.Gen

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![0, 0]
    ∧ win0_5.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 4, t.val % 4, 0] ∧ win0_15.index t = ![t.val / 4, t.val % 4, 0]
    ∧ win0_17.index t = ![t.val / 4, t.val % 4, 0]
    ∧ win0_19.index t = ![t.val / 4, t.val % 4, 0] ∧ win0_20.index t = ![t.val / 4, t.val % 4, 0] :=
  (by decide +kernel : ∀ t : Fin grid0.N, _)

theorem batch_lt : ∀ t : Fin cfg0.N, t.val / 4 < 16 := (by decide +kernel : ∀ t : Fin grid0.N, _)

/-- Each input block's row is its argument array's row. -/
theorem row (c : Dev nD) (t : Fin cfg0.N) (r : Fin 512) (b : Fin 16) (s : Fin 2048) (hb : (b : ℕ) = t.val / 4) (hs : (s : ℕ) = t.val % 4 * 512 + r) :
    Cert.MlpIdeal.Stage.Row (iblk m c 0 t) (iblk m c 1 t) (iblk m c 2 t) (iblk m c 3 t) (m ((c : Thread nD τ).loc main_arg0))
      (m ((c : Thread nD τ).loc main_arg1)) (m ((c : Thread nD τ).loc main_arg2)) (m ((c : Thread nD τ).loc main_arg3)) b s r where
  x k := show (iblk m c 0 t : FVec Ideal S1x512x1024 .f32) (ix3 0 r k) = _ by blk_ext [iblk, V, idx t]
  g k := show (iblk m c 1 t : FVec Ideal S1x1024 .f32) (ix2 0 k) = _ by blk_point [iblk, idx t]
  sh k := show (iblk m c 2 t : FVec Ideal S1x1x1024 .f32) (ix3 0 0 k) = _ by blk_ext [iblk, V, idx t]
  sc k := show (iblk m c 3 t : FVec Ideal S1x1x1024 .f32) (ix3 0 0 k) = _ by blk_ext [iblk, V, idx t]

theorem blk4 (c : Dev nD) (t : Fin cfg0.N) (k : Fin 1024) (j : Fin 1536) :
    (iblk m c 4 t : FVec Ideal S1024x1536 .bf16) (ix2 k j) = m ((c : Thread nD τ).loc main_arg4) (ix2 k ⟨j, by omega⟩) := by
  blk_point [iblk, idx t]

theorem blk5 (c : Dev nD) (t : Fin cfg0.N) (k : Fin 1024) (j : Fin 1024) :
    (iblk m c 5 t : FVec Ideal S1024x1024 .bf16) (ix2 k j) = if h : (j : ℕ) < 512 then m ((c : Thread nD τ).loc main_arg4) (ix2 k ⟨1536 + j, by omega⟩)
      else m ((c : Thread nD τ).loc main_arg4) (ix2 k ⟨3072 + (j - 512), by omega⟩) := by
  have e : (iblk m c 5 t : FVec Ideal S1024x1024 .bf16) (ix2 k j) = V m c main_v18 (ix2 k j) := by
    blk_ext [iblk, idx t]
  rw [e, host_near]
  exact nearW_at _ k j

theorem blk7 (c : Dev nD) (t : Fin cfg0.N) (k : Fin 1024) (j : Fin 1024) :
    (iblk m c 7 t : FVec Ideal S1024x1024 .bf16) (ix2 k j) = if h : (j : ℕ) < 512 then m ((c : Thread nD τ).loc main_arg4) (ix2 k ⟨1536 + (1024 + j), by omega⟩)
      else m ((c : Thread nD τ).loc main_arg4) (ix2 k ⟨3072 + (1024 + (j - 512)), by omega⟩) := by
  have e : (iblk m c 7 t : FVec Ideal S1024x1024 .bf16) (ix2 k j) = V m c main_v26 (ix2 k j) := by
    blk_ext [iblk, idx t]
  rw [e, host_far]
  exact farW_at _ k j

theorem blk8 (c : Dev nD) (t : Fin cfg0.N) (k : Fin 1024) (j : Fin 1536) :
    (iblk m c 8 t : FVec Ideal S1024x1536 .bf16) (ix2 k j) = m ((c : Thread nD τ).loc main_arg4) (ix2 k ⟨4608 + j, by omega⟩) := by
  have e : (iblk m c 8 t : FVec Ideal S1024x1536 .bf16) (ix2 k j) = V m c main_v11 (ix2 k j) := by
    blk_ext [iblk, idx t]
  rw [e, host_mixer]
  exact mixerW_at _ k j

theorem blk9 (c : Dev nD) (t : Fin cfg0.N) (k : Fin 1024) (j : Fin 16) :
    (iblk m c 9 t : FVec Ideal S1024x16 .bf16) (ix2 k j) = m ((c : Thread nD τ).loc main_arg4) (ix2 k ⟨6144 + j, by omega⟩) := by
  blk_point [iblk, idx t]

theorem blk10 (c : Dev nD) (t : Fin cfg0.N) (k : Fin 16) (j : Fin 256) :
    (iblk m c 10 t : FVec Ideal S16x256 .bf16) (ix2 k j) = m ((c : Thread nD τ).loc main_arg5) (ix2 k j) := by
  blk_point [iblk, idx t]

theorem blk11 (c : Dev nD) (t : Fin cfg0.N) (j : Fin 256) :
    (iblk m c 11 t : FVec Ideal S1x256 .f32) (ix2 0 j) = m ((c : Thread nD τ).loc main_arg6) (ix1 j) := by
  blk_point [iblk, idx t]

/-- The reference's projection over the kernel's argument arrays. -/
abbrev refProj (c : Dev nD) :=
  Cert.AbInRefIdeal.Stage.proj (Cert.MlpRefIdeal.Stage.normed (m ((c : Thread nD τ).loc main_arg0)) (m ((c : Thread nD τ).loc main_arg1))
    (m ((c : Thread nD τ).loc main_arg2)) (m ((c : Thread nD τ).loc main_arg3))) (m ((c : Thread nD τ).loc main_arg4))

/-- A row of the normalised block times a column of the matrix is the projection's entry. -/
theorem proj_col (c : Dev nD) (t : Fin cfg0.N) (r : Fin 512) (b : Fin 16) (s : Fin 2048) (hb : (b : ℕ) = t.val / 4) (hs : (s : ℕ) = t.val % 4 * 512 + r)
    (j : Fin 6160) (w : Fin 1024 → EReal) (hw : ∀ k, w k = m ((c : Thread nD τ).loc main_arg4) (ix2 k j)) :
    ∑ k : Fin 1024, (show EReal from k0_pay3 (F := Ideal) (iblk m c 0 t) (iblk m c 1 t) (iblk m c 2 t) (iblk m c 3 t) (ix2 r k)) * w k = refProj m c (ix3 b s j) := by
  refine Eq.trans ?_ (Cert.AbInRefIdeal.Stage.proj_at _ _ b s j).symm
  exact Finset.sum_congr rfl fun k _ => congrArg₂ (fun x y : EReal => x * y) (Cert.MlpIdeal.Stage.normed_row (row m c t r b s hb hs) k) (hw k)

theorem query_final (c : Dev nD) : (dats m 0 c).arrAt 12 (cfgs 0).N = Cert.AbInRefIdeal.Stage.query (refProj m c) := by
  refine (dats m 0 c).arrAt_eq_of_covers 12 _ (by decide +kernel) fun t _ y => ?_
  blk_simp
  rw [after0_12]
  unfold outsAt0
  frame_out
  obtain ⟨y0, y1, y2, rfl⟩ : ∃ (y0 : Fin 1) (y1 : Fin 512) (y2 : Fin 1536), y = ix3 y0 y1 y2 := ⟨y 0, y 1, y 2, eq_ix3 y⟩
  have h16 := batch_lt t
  obtain rfl : y0 = 0 := Subsingleton.elim _ _
  refine (query_at _ _ _ _ _ y1 y2).trans (Eq.trans (Eq.trans (congrArg (fun x : EReal => x * _) (proj_col m c t y1 ⟨t.val / 4, h16⟩ ⟨t.val % 4 * 512 + y1, by omega⟩ rfl rfl
    ⟨y2, by omega⟩ _ fun k => blk4 m c t k y2)) (Cert.AbInRefIdeal.Stage.query_at _ _ _ y2).symm) ?_)
  congr 1
  blk_ext [idx t]

/-- The keys and values of one branch at a place, from the two halves of its columns. -/
theorem half_point (c : Dev nD) (t : Fin cfg0.N) (r : Fin 512) (b : Fin 16) (s : Fin 2048) (hb : (b : ℕ) = t.val / 4) (hs : (s : ℕ) = t.val % 4 * 512 + r)
    (p : Prop) [Decidable p] (j : p → Fin 6160) (j' : ¬p → Fin 6160) (w : Fin 1024 → EReal)
    (hw : ∀ k, w k = if h : p then m ((c : Thread nD τ).loc main_arg4) (ix2 k (j h)) else m ((c : Thread nD τ).loc main_arg4) (ix2 k (j' h))) :
    ∑ k : Fin 1024, (show EReal from k0_pay3 (F := Ideal) (iblk m c 0 t) (iblk m c 1 t) (iblk m c 2 t) (iblk m c 3 t) (ix2 r k)) * w k
      = if h : p then refProj m c (ix3 b s (j h)) else refProj m c (ix3 b s (j' h)) := by
  by_cases h : p
  · rw [dif_pos h]
    exact proj_col m c t r b s hb hs _ w fun k => (hw k).trans (dif_pos h)
  · rw [dif_neg h]
    exact proj_col m c t r b s hb hs _ w fun k => (hw k).trans (dif_neg h)

theorem near_final (c : Dev nD) : (dats m 0 c).arrAt 15 (cfgs 0).N = Cert.AbInRefIdeal.Stage.near (refProj m c) := by
  refine (dats m 0 c).arrAt_eq_of_covers 15 _ (by decide +kernel) fun t _ y => ?_
  blk_simp
  rw [after0_15]
  frame_out
  obtain ⟨y0, y1, y2, rfl⟩ : ∃ (y0 : Fin 1) (y1 : Fin 512) (y2 : Fin 1024), y = ix3 y0 y1 y2 := ⟨y 0, y 1, y 2, eq_ix3 y⟩
  have h16 := batch_lt t
  obtain rfl : y0 = 0 := Subsingleton.elim _ _
  refine (near_at _ _ y1 y2).trans (Eq.trans (Eq.trans (half_point m c t y1 ⟨t.val / 4, h16⟩ ⟨t.val % 4 * 512 + y1, by omega⟩ rfl rfl
    _ _ _ _ fun k => blk5 m c t k y2) (Cert.AbInRefIdeal.Stage.near_at _ _ _ y2).symm) ?_)
  congr 1
  blk_ext [idx t]

theorem far_final (c : Dev nD) : (dats m 0 c).arrAt 17 (cfgs 0).N = Cert.AbInRefIdeal.Stage.far (refProj m c) := by
  refine (dats m 0 c).arrAt_eq_of_covers 17 _ (by decide +kernel) fun t _ y => ?_
  blk_simp
  rw [after0_17]
  frame_out
  obtain ⟨y0, y1, y2, rfl⟩ : ∃ (y0 : Fin 1) (y1 : Fin 512) (y2 : Fin 1024), y = ix3 y0 y1 y2 := ⟨y 0, y 1, y 2, eq_ix3 y⟩
  have h16 := batch_lt t
  obtain rfl : y0 = 0 := Subsingleton.elim _ _
  refine (far_at _ _ y1 y2).trans (Eq.trans (Eq.trans (half_point m c t y1 ⟨t.val / 4, h16⟩ ⟨t.val % 4 * 512 + y1, by omega⟩ rfl rfl
    _ _ _ _ fun k => blk7 m c t k y2) (Cert.AbInRefIdeal.Stage.far_at _ _ _ y2).symm) ?_)
  congr 1
  blk_ext [idx t]

theorem mixer_final (c : Dev nD) : (dats m 0 c).arrAt 19 (cfgs 0).N = Cert.AbInRefIdeal.Stage.mixer (refProj m c) := by
  refine (dats m 0 c).arrAt_eq_of_covers 19 _ (by decide +kernel) fun t _ y => ?_
  blk_simp
  rw [after0_19]
  frame_out
  obtain ⟨y0, y1, y2, rfl⟩ : ∃ (y0 : Fin 1) (y1 : Fin 512) (y2 : Fin 1536), y = ix3 y0 y1 y2 := ⟨y 0, y 1, y 2, eq_ix3 y⟩
  have h16 := batch_lt t
  obtain rfl : y0 = 0 := Subsingleton.elim _ _
  refine (mixer_at _ _ y1 y2).trans (Eq.trans (Eq.trans (proj_col m c t y1 ⟨t.val / 4, h16⟩ ⟨t.val % 4 * 512 + y1, by omega⟩ rfl rfl
    ⟨4608 + y2, by omega⟩ _ fun k => blk8 m c t k y2) (Cert.AbInRefIdeal.Stage.mixer_at _ _ _ y2).symm) ?_)
  congr 1
  blk_ext [idx t]

theorem gate_final (c : Dev nD) : (dats m 0 c).arrAt 20 (cfgs 0).N
    = Cert.AbInRefIdeal.Stage.gate (Cert.AbInRefIdeal.Stage.gateArg (refProj m c) (m ((c : Thread nD τ).loc main_arg5)) (m ((c : Thread nD τ).loc main_arg6))) := by
  refine (dats m 0 c).arrAt_eq_of_covers 20 _ (by decide +kernel) fun t _ y => ?_
  blk_simp
  rw [after0_20]
  frame_out
  obtain ⟨y0, y1, y2, rfl⟩ : ∃ (y0 : Fin 1) (y1 : Fin 512) (y2 : Fin 256), y = ix3 y0 y1 y2 := ⟨y 0, y 1, y 2, eq_ix3 y⟩
  have h16 := batch_lt t
  obtain rfl : y0 = 0 := Subsingleton.elim _ _
  refine (gate_at _ _ _ _ y1 y2).trans ((Cert.GateMath.gate_eq _).trans (Eq.trans (Eq.trans ?_
    (Cert.AbInRefIdeal.Stage.gate_at (Cert.AbInRefIdeal.Stage.gateArg (refProj m c) (m ((c : Thread nD τ).loc main_arg5)) (m ((c : Thread nD τ).loc main_arg6))) ⟨t.val / 4, h16⟩ ⟨t.val % 4 * 512 + y1, by omega⟩ y2).symm) ?_))
  · rw [Cert.AbInRefIdeal.Stage.gateArg_at]
    have e : gateArg (k0_pay3 (F := Ideal) (iblk m c 0 t) (iblk m c 1 t) (iblk m c 2 t) (iblk m c 3 t)) (iblk m c 9 t) (iblk m c 10 t) (iblk m c 11 t) y1 y2
        = (∑ l : Fin 16, refProj m c (ix3 ⟨t.val / 4, h16⟩ ⟨t.val % 4 * 512 + y1, by omega⟩ ⟨6144 + l, by omega⟩)
            * (show EReal from m ((c : Thread nD τ).loc main_arg5) (ix2 l y2))) + (show EReal from m ((c : Thread nD τ).loc main_arg6) (ix1 y2)) := by
      unfold gateArg
      refine congrArg₂ (fun x y : EReal => x + y) (Finset.sum_congr rfl fun l _ => congrArg₂ (fun x y : EReal => x * y) ?_ (blk10 m c t l y2)) (blk11 m c t y2)
      exact proj_col m c t y1 _ _ rfl rfl _ _ fun k => blk9 m c t k l
    exact congrArg (fun z : EReal => Ideal.div (-(max (-z) 0 + Ideal.log1p (Ideal.exp (-max (-z) (- -z))))) (Ideal.ofBits .f32 0x41800000#32)) e
  congr 1
  blk_ext [idx t]

/-- The kernel's run, the five results named. -/
theorem run (ρ : Dev nD → PrngReg) :
    θ_run defs (onTc (τ := τ) (main (F := Ideal))) ⟨m, fun _ => 0, ρ⟩ fun r => ∀ c : Dev nD,
      r.2.mem ((c.tc : Thread nD τ).loc main_v27_0) = Cert.AbInRefIdeal.Stage.query (refProj m c)
      ∧ r.2.mem ((c.tc : Thread nD τ).loc main_v27_3) = Cert.AbInRefIdeal.Stage.near (refProj m c)
      ∧ r.2.mem ((c.tc : Thread nD τ).loc main_v27_5) = Cert.AbInRefIdeal.Stage.far (refProj m c)
      ∧ r.2.mem ((c.tc : Thread nD τ).loc main_v27_7) = Cert.AbInRefIdeal.Stage.mixer (refProj m c)
      ∧ r.2.mem ((c.tc : Thread nD τ).loc main_v27_8)
          = Cert.AbInRefIdeal.Stage.gate (Cert.AbInRefIdeal.Stage.gateArg (refProj m c) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Idealize.ShloMosaic.θ_run_mono (Idealize.ShloMosaic.θ_run_and (run_main m ρ) (unchanged m ρ)) fun r h c =>
    ⟨((h.1 c).1 12).trans (query_final m c), ((h.1 c).1 15).trans (near_final m c), ((h.1 c).1 17).trans (far_final m c),
      ((h.1 c).1 19).trans (mixer_final m c), ((h.1 c).1 20).trans (gate_final m c), h.2 c⟩

end Cert.AbInIdeal.Stage

end
-- ==== Proof.FoxBitsCases.lean ====
/- The attention kernel's body, at the machine's floats, on any staging buffers: whichever of its branches a grid point
   takes, it runs to the end, leaves the three inputs as they were and gives every other buffer back. -/
module

public import proofs.«01_k».proof.Proof.Gen.Kernel.Frame
public import proofs.«01_k».proof.Proof.Gen.Kernel.Skeleton

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The first branch: the point starts a row of key blocks, so the running maximum and sums are reset. -/
abbrev Starts (i : grid0.Coords) : Prop := (Scalar.cmpi .ne (Scalar.extui (Scalar.cmpi .eq (BitVec.ofNat 32 (i 2).val) 0#32)) 0#32) = 1#1
/-- The second branch: the key block lies wholly before the query block. -/
abbrev Past (i : grid0.Coords) : Prop := (Scalar.cmpi .ne (Scalar.extui (Scalar.cmpi .slt (BitVec.ofNat 32 (i 2).val) (BitVec.ofNat 32 (i 1).val))) 0#32) = 1#1
/-- The third branch: the key block is the query block's own. -/
abbrev Diagonal (i : grid0.Coords) : Prop := k0_cond3 i = 1#1

/-- No point takes both the second and the third branch. -/
theorem past_or_diagonal : ∀ t : Fin cfg0.N, Past (grid0.coords t) → ¬Diagonal (grid0.coords t) :=
  (by decide +kernel : ∀ t : Fin grid0.N, Past (grid0.coords t) → ¬Diagonal (grid0.coords t))

variable (c : Dev nD) (i : grid0.Coords)
  (arg3 : Memref sig .tc .vmem S1x512x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x512x1024 .bf16) (harg6 : arg6.IsWhole)
  (arg7 : Memref sig .tc .vmem S16x512x128 .f32) (harg7 : arg7.IsWhole)
  (arg8 : Memref sig .tc .vmem S512x2048 .f32) (harg8 : arg8.IsWhole)
  (x0 : Vec F S1x512x2048 .bf16) (x1 : Vec F S1x2048x512 .bf16) (x2 : Vec F S1x2048x512 .bf16)

/-- The body runs from the inputs at their contents and the other buffers at any contents, and hands all of them back so. -/
def Safe : Prop := ∀ (E : Set ℕ) (K : PUnit → sProp 𝕄),
  iprop(owns (c : Thread nD τ) arg3 fullShare x0 ∗ owns (c : Thread nD τ) arg4 fullShare x1 ∗ owns (c : Thread nD τ) arg5 fullShare x2
      ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg3 fullShare x0 ∗ owns (c : Thread nD τ) arg4 fullShare x1 ∗ owns (c : Thread nD τ) arg5 fullShare x2
          ∗ (∃ d, owns (c : Thread nD τ) arg6 fullShare d) ∗ (∃ d, owns (c : Thread nD τ) arg7 fullShare d) ∗ (∃ d, owns (c : Thread nD τ) arg8 fullShare d)) -∗ K ⟨⟩))
    ⊢ wp frame (wpE (defs₀ (F := F)) Variants.none c none) E (cc0_fox_prompt i arg3 harg3 arg4 harg4 arg5 harg5 arg6 harg6 arg7 harg7 arg8 harg8) K

set_option maxHeartbeats 4000000 in
theorem safe (hx : Past i → ¬Diagonal i) :
    Safe c i arg3 harg3 arg4 harg4 arg5 harg5 arg6 harg6 arg7 harg7 arg8 harg8 x0 x1 x2 := by
  unfold Safe; intro E K
  simp only [cc0_fox_prompt_eq_skeleton]; unfold cc0_fox_prompt_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg3.eq_unread hf0; obtain rfl := harg4.eq_unread hf1; obtain rfl := harg5.eq_unread hf2
  by_cases hp : Past i
  all_goals by_cases hs : Starts i
  on_goal 1 => have hd : ¬Diagonal i := hx hp
  on_goal 2 => have hd : ¬Diagonal i := hx hp
  on_goal 3 => by_cases hd : Diagonal i
  on_goal 5 => by_cases hd : Diagonal i
  all_goals
    sl_exec (disch := first | sl_exact hs | sl_exact hp | sl_exact hd)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Fox

end
-- ==== Proof.FoxBitsFrame.lean ====
/- The attention kernel's frame at the machine's floats: every run ends, the arguments are as they were and every
   counter is back at zero. Nothing is said of the result array, so the window it is staged through is forgotten. -/
module

public import proofs.«01_k».proof.Proof.FoxBitsCases

@[expose] public section

set_option maxRecDepth 16384

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers at a point, and the two scratch buffers. -/
abbrev st0 (t : Fin cfg0.N) : Memref sig .tc .vmem S1x512x2048 .bf16 := win0_0.stage (cfg0.slots t 0)
abbrev st1 (t : Fin cfg0.N) : Memref sig .tc .vmem S1x2048x512 .bf16 := win0_1.stage (cfg0.slots t 1)
abbrev st2 (t : Fin cfg0.N) : Memref sig .tc .vmem S1x2048x512 .bf16 := win0_2.stage (cfg0.slots t 2)
abbrev st3 (t : Fin cfg0.N) : Memref sig .tc .vmem S1x512x1024 .bf16 := win0_3.stage (cfg0.slots t 3)
abbrev scMax : Memref sig .tc .vmem S16x512x128 .f32 := Memref.whole cc0_scratch0
abbrev scAcc : Memref sig .tc .vmem S512x2048 .f32 := Memref.whole cc0_scratch1

/-- What the pipeline holds beside the windows: the two scratch buffers at some contents and the generator register. -/
theorem invariant_eq (c : Dev nD) : (Pipeline.ΦA spec0 c : sProp 𝕄)
    = iprop(iprop((∃ d, owns (c : Thread nD τ) scMax fullShare d) ∗ (∃ d, owns (c : Thread nD τ) scAcc fullShare d)) ∗ (∃ r, prngReg c r)) := by
  unfold Pipeline.ΦA; rw [scopedRest0_eq]; simp only [scMax, scAcc, owns_whole]; try rfl

/-- The result window is the forgotten one. -/
def forgotten : Fin 4 → Bool := fun w => w.val == 3

/-- The proof data: the arrays as the region finds them, each input left at its block, the result window unnamed. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-- What the body is handed at a point, window by window, -/
def given (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare d))

/-- and what it gives back. -/
def returned (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t
    ∗ (∃ d, owns (c : Thread nD τ) (st3 t) fullShare d))

theorem body_runs (c : Dev nD) (t : Fin cfg0.N) :
    given m c t ⊢ wp frame (wpE (defs₀ (F := F)) Variants.none c none) Set.univ (bodyAt0 t) (fun _ => returned m c t) := by
  unfold given returned bodyAt0
  simp only [before_0, before_1, before_2]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl, invariant_eq]
  rw [show (data m 0 c).leavesExact 0 t = owns (c : Thread nD τ) (st0 t) fullShare ((data m 0 c).after 0 t) from rfl, after_0,
    show (data m 0 c).leavesExact 1 t = owns (c : Thread nD τ) (st1 t) fullShare ((data m 0 c).after 1 t) from rfl, after_1,
    show (data m 0 c).leavesExact 2 t = owns (c : Thread nD τ) (st2 t) fullShare ((data m 0 c).after 2 t) from rfl, after_2]
  iintro ⟨⟨⟨HS0, HS1⟩, Hg⟩, Ho, ⟨%d0, H0⟩, ⟨%d1, H1⟩, ⟨%d2, H2⟩, ⟨%d3, H3⟩⟩
  iapply (safe c (grid0.coords t) _ _ _ _ _ _ _ _ _ _ _ _ (iblk m c 0 t) (iblk m c 1 t) (iblk m c 2 t) (past_or_diagonal t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ forgotten := fun t => by
  rw [bigSep_W0, bigSep_W0, body_row]
  exact triple_restated (body_runs m c t) rfl .rfl fun _ => .rfl

-- the launch theorem's implicit arguments are found by unifying its conclusion with this one
set_option backward.isDefEq.respectTransparency.types false in
theorem run_counters : θ_run defs (onTc (τ := τ) (main (F := F))) (s₀ m ρ)
    (fun r => (Pipeline.RDat.FramePost (cfgs 0) (fun c => (data m 0 c).toRForget forgotten) (V m)) r ∧ r.2.sem = fun _ => 0) :=
  Pipeline.θ_run_frame_track_forget (Q' := _) cfgs (data m) (0 : Fin 1) launch0 defs₀ Variants.none forgotten m ρ main
    (hbody := fun c => (obligation m c).loose) (hshare := fun c => (data m 0 c).share_full fun _ => rfl)
    (howed := fun _ _ => rfl) (V := V m) (hmain := hmain m Variants.none) (hA := data_A m)
    (hin := fun c => .rfl) (hout := fun c => .rfl)

/-- The frame, with the counters. -/
theorem frame_counters : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_counters m ρ)

end Cert.Kernel.Fox

end
-- ==== Proof.FoxCases.lean ====
/- The attention kernel's body over the extended reals' shape of values, on any staging buffers, branch by branch: what
   it stores into the running maximum, the running sums and the result, as lists of stored pieces. -/
module

public import proofs.«01_k».proof.Proof.Gen.KernelIdeal.Frame
public import proofs.«01_k».proof.Proof.Gen.KernelIdeal.Skeleton

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The first branch: the point starts a row of key blocks, so the running maximum and sums are reset. -/
abbrev Starts (i : grid0.Coords) : Prop := (Scalar.cmpi .ne (Scalar.extui (Scalar.cmpi .eq (BitVec.ofNat 32 (i 2).val) 0#32)) 0#32) = 1#1
/-- The second branch: the key block lies wholly before the query block. -/
abbrev Past (i : grid0.Coords) : Prop := (Scalar.cmpi .ne (Scalar.extui (Scalar.cmpi .slt (BitVec.ofNat 32 (i 2).val) (BitVec.ofNat 32 (i 1).val))) 0#32) = 1#1
/-- The third branch: the key block is the query block's own. -/
abbrev Diagonal (i : grid0.Coords) : Prop := k0_cond3 i = 1#1

/-- The branches by the point's place: point `t` is batch `t / 16`, query block `t / 4 % 4`, key block `t % 4`. -/
theorem starts_iff : ∀ t : Fin cfg0.N, Starts (grid0.coords t) ↔ t.val % 4 = 0 :=
  (by decide +kernel : ∀ t : Fin grid0.N, Starts (grid0.coords t) ↔ t.val % 4 = 0)
theorem past_iff : ∀ t : Fin cfg0.N, Past (grid0.coords t) ↔ t.val % 4 < t.val / 4 % 4 :=
  (by decide +kernel : ∀ t : Fin grid0.N, Past (grid0.coords t) ↔ t.val % 4 < t.val / 4 % 4)
theorem diagonal_iff : ∀ t : Fin cfg0.N, Diagonal (grid0.coords t) ↔ t.val % 4 = t.val / 4 % 4 :=
  (by decide +kernel : ∀ t : Fin grid0.N, Diagonal (grid0.coords t) ↔ t.val % 4 = t.val / 4 % 4)

variable (c : Dev nD) (i : grid0.Coords)
  (arg3 : Memref sig .tc .vmem S1x512x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x512x1024 .bf16) (harg6 : arg6.IsWhole)
  (arg7 : Memref sig .tc .vmem S16x512x128 .f32) (harg7 : arg7.IsWhole)
  (arg8 : Memref sig .tc .vmem S512x2048 .f32) (harg8 : arg8.IsWhole)
  (x0 : Vec F S1x512x2048 .bf16) (x1 : Vec F S1x2048x512 .bf16) (x2 : Vec F S1x2048x512 .bf16)
  (xm : Vec F S16x512x128 .f32) (xa : Vec F S512x2048 .f32)

/-- The first branch's stores, then `R`: the running maximum and the running sums set to their start. -/
abbrev resetThen (R : Prog (TpuEff nD τ sig (Elt F) Λ₀ .tc) PUnit) : Prog (TpuEff nD τ sig (Elt F) Λ₀ .tc) PUnit := do
    let v10 : Vec F S16x512x128 .f32 ← Prog.lift (.load arg7 (Rect.unit (s := S16x512x128) ![0, 0, 0] S16x512x128.size inb_S16x512x128_S16x512x128_0_0_0).toLoadRect (View.loadsAt_vmem h_S16x512x128))
    Prog.lift (.store arg7 (Rect.unit (s := S16x512x128) ![0, 0, 0] S16x512x128.size inb_S16x512x128_S16x512x128_0_0_0) (k0_pay1 (F := F)) Finset.univ (View.stores_vmem_bits_univ h_S16x512x128 rfl) (.inl rfl))
    let v14 : Vec F S512x2048 .f32 ← Prog.lift (.load arg8 (Rect.unit (s := S512x2048) ![0, 0] S512x2048.size inb_S512x2048_S512x2048_0_0).toLoadRect (View.loadsAt_vmem h_S512x2048))
    Prog.lift (.store arg8 (Rect.unit (s := S512x2048) ![0, 0] S512x2048.size inb_S512x2048_S512x2048_0_0) (k0_pay2 (F := F)) Finset.univ (View.stores_vmem_bits_univ h_S512x2048 rfl) (.inl rfl))
    R

/-- What the body does after the first branch. -/
def rest : { R : Prog (TpuEff nD τ sig (Elt F) Λ₀ .tc) PUnit //
    cc0_fox_prompt i arg3 harg3 arg4 harg4 arg5 harg5 arg6 harg6 arg7 harg7 arg8 harg8
      = if _h : Starts i then resetThen arg7 arg8 R else R } := by
  refine ⟨?_, ?eq⟩
  case eq =>
    rw [cc0_fox_prompt_eq_skeleton]; unfold cc0_fox_prompt_skel
    exact rfl

/-- The program `prog` runs from the inputs at their contents and the other three buffers at `P6`, `P7`, `P8`, and
    leaves them at `Q6`, `Q7`, `Q8`. -/
abbrev Takes (prog : Prog (TpuEff nD τ sig (Elt F) Λ₀ .tc) PUnit) (P6 P7 P8 Q6 Q7 Q8 : sProp 𝕄) : Prop := ∀ (E : Set ℕ) (K : PUnit → sProp 𝕄),
  iprop(owns (c : Thread nD τ) arg3 fullShare x0 ∗ owns (c : Thread nD τ) arg4 fullShare x1 ∗ owns (c : Thread nD τ) arg5 fullShare x2
      ∗ P6 ∗ P7 ∗ P8
      ∗ (iprop(owns (c : Thread nD τ) arg3 fullShare x0 ∗ owns (c : Thread nD τ) arg4 fullShare x1 ∗ owns (c : Thread nD τ) arg5 fullShare x2
          ∗ Q6 ∗ Q7 ∗ Q8) -∗ K ⟨⟩))
    ⊢ wp frame (wpE (defs₀ (F := F)) Variants.none c none) E prog K

/-- A buffer holding some contents with the pieces `L` stored over them. -/
abbrev stored {s : Shape} {φ : EltTy} (a : Memref sig .tc .vmem s φ) (L : List (View.Piece (Elt F) s φ)) : sProp 𝕄 :=
  iprop(∃ f, a.view.loc (c : Thread nD τ) ↦[a.view.set]{fullShare} a.view.writes (Elt F) f L)

set_option maxHeartbeats 2000000 in
/-- A key block before the query block: the maximum and the sums are carried on. -/
def runPast (hp : Past i) (hd : ¬Diagonal i) :
    Σ' (LM : List (View.Piece (Elt F) S16x512x128 .f32)), { LA : List (View.Piece (Elt F) S512x2048 .f32) //
      ∀ y6, Takes c arg3 arg4 arg5 x0 x1 x2 (rest i arg3 harg3 arg4 harg4 arg5 harg5 arg6 harg6 arg7 harg7 arg8 harg8).1
        (owns (c : Thread nD τ) arg6 fullShare y6) (owns (c : Thread nD τ) arg7 fullShare xm) (owns (c : Thread nD τ) arg8 fullShare xa)
        (owns (c : Thread nD τ) arg6 fullShare y6) (stored c arg7 LM) (stored c arg8 LA) } := by
  refine ⟨?_, ?_, fun y6 E K => ?run⟩
  case run =>
    unfold rest
    dsimp only
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    obtain rfl := harg6.eq_unread hf3
    sl_exec (disch := first | sl_exact hp | sl_exact hd)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

set_option maxHeartbeats 4000000 in
/-- The query block's own key block: the maximum is carried on, and the result is stored; the stored sums stay. -/
def runDiagonal (hp : ¬Past i) (hd : Diagonal i) :
    Σ' (LM : List (View.Piece (Elt F) S16x512x128 .f32)), { LO : List (View.Piece (Elt F) S1x512x1024 .bf16) //
      ∀ y6, Takes c arg3 arg4 arg5 x0 x1 x2 (rest i arg3 harg3 arg4 harg4 arg5 harg5 arg6 harg6 arg7 harg7 arg8 harg8).1
        (owns (c : Thread nD τ) arg6 fullShare y6) (owns (c : Thread nD τ) arg7 fullShare xm) (owns (c : Thread nD τ) arg8 fullShare xa)
        (stored c arg6 LO) (stored c arg7 LM) (owns (c : Thread nD τ) arg8 fullShare xa) } := by
  refine ⟨?_, ?_, fun y6 E K => ?run⟩
  case run =>
    unfold rest
    dsimp only
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | sl_exact hp | sl_exact hd)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; isplitr; · ipureintro; exact harg8.read_unread _
    iexact HS1

/-- A key block after the query block: nothing is touched. -/
theorem runNone (hp : ¬Past i) (hd : ¬Diagonal i) (P6 P7 P8 : sProp 𝕄) :
    Takes c arg3 arg4 arg5 x0 x1 x2 (rest i arg3 harg3 arg4 harg4 arg5 harg5 arg6 harg6 arg7 harg7 arg8 harg8).1 P6 P7 P8 P6 P7 P8 := by
  intro E K
  unfold rest
  dsimp only
  iintro ⟨H0, H1, H2, H3, HS0, HS1, Hk⟩
  sl_exec (disch := first | sl_exact hp | sl_exact hd)
  sl_step
  iapply Hk
  isplitl [H0]; · iexact H0
  isplitl [H1]; · iexact H1
  isplitl [H2]; · iexact H2
  isplitl [H3]; · iexact H3
  isplitl [HS0]; · iexact HS0
  iexact HS1

end Cert.KernelIdeal.Fox

end
-- ==== Proof.FoxHeads.lean ====
/- What the attention kernel's branches store, head by head: every head's stored piece is one function of the head's
   blocks of the queries, keys, values, maximum and sums. -/
module

public import proofs.«01_k».proof.Proof.FoxCases

@[expose] public section

set_option maxRecDepth 16384

noncomputable section

namespace Cert.KernelIdeal.Fox

open Idealize.ShloMosaic Idealize.ShloMosaic.TcCoe Idealize.ShloMosaic.Tactic
open Cert.KernelIdeal.Gen

variable {F : FTy → Type} [FloatOps F] [Named F]

/-- The heads, the last first. -/
abbrev heads : List (Fin 16) := [15, 14, 13, 12, 11, 10, 9, 8, 7, 6, 5, 4, 3, 2, 1, 0]
/-- The pairs of heads, the last first. -/
abbrev pairs : List (Fin 8) := [7, 6, 5, 4, 3, 2, 1, 0]

theorem inbLanes (h : Fin 16) : ∀ a, (![0, 0, 128 * h.val] : Fin 3 → Nat) a + S1x512x128.size a ≤ S1x512x2048.size a := by
  have := h.isLt
  intro a; fin_cases a <;> simp [S1x512x128, S1x512x2048] <;> omega
theorem inbRows (h : Fin 16) : ∀ a, (![0, 128 * h.val, 0] : Fin 3 → Nat) a + S1x128x512.size a ≤ S1x2048x512.size a := by
  have := h.isLt
  intro a; fin_cases a <;> simp [S1x128x512, S1x2048x512] <;> omega
theorem inbHead (h : Fin 16) : ∀ a, (![h.val, 0, 0] : Fin 3 → Nat) a + S1x512x128.size a ≤ S16x512x128.size a := by
  have := h.isLt
  intro a; fin_cases a <;> simp [S1x512x128, S16x512x128] <;> omega
theorem inbSums (h : Fin 16) : ∀ a, (![0, 128 * h.val] : Fin 2 → Nat) a + S512x128.size a ≤ S512x2048.size a := by
  have := h.isLt
  intro a; fin_cases a <;> simp [S512x128, S512x2048] <;> omega
theorem inbPair (p : Fin 8) : ∀ a, (![0, 0, 128 * p.val] : Fin 3 → Nat) a + S1x512x128.size a ≤ S1x512x1024.size a := by
  have := p.isLt
  intro a; fin_cases a <;> simp [S1x512x128, S1x512x1024] <;> omega

/-- Head `h`'s lanes of a block of queries. -/
abbrev lanesRect (h : Fin 16) : Rect S1x512x2048 := Rect.unit (s := S1x512x2048) ![0, 0, 128 * h.val] S1x512x128.size (inbLanes h)
/-- Head `h`'s rows of a block of transposed keys or values. -/
abbrev rowsRect (h : Fin 16) : Rect S1x2048x512 := Rect.unit (s := S1x2048x512) ![0, 128 * h.val, 0] S1x128x512.size (inbRows h)
/-- Head `h`'s part of the running maximum. -/
abbrev headRect (h : Fin 16) : Rect S16x512x128 := Rect.unit (s := S16x512x128) ![h.val, 0, 0] S1x512x128.size (inbHead h)
/-- Head `h`'s lanes of the running sums. -/
abbrev sumsRect (h : Fin 16) : Rect S512x2048 := Rect.unit (s := S512x2048) ![0, 128 * h.val] S512x128.size (inbSums h)
/-- The lanes of the result that hold heads `2 p` and `2 p + 1`. -/
abbrev pairRect (p : Fin 8) : Rect S1x512x1024 := Rect.unit (s := S1x512x1024) ![0, 0, 128 * p.val] S1x512x128.size (inbPair p)

section HeadFunctions

variable (q : Vec F S1x512x128 .bf16) (k v : Vec F S1x128x512 .bf16) (mx : Vec F S1x512x128 .f32) (a : Vec F S512x128 .f32)

/-- One head's next maximum, over a key block before the query block. -/
def pastMax : FVec F S512x128 .f32 := k0_pay12 q k mx
/-- One head's next sums, over a key block before the query block. -/
def pastSums : FVec F S512x128 .f32 :=
  k0_pay127 (k0_pay14 (k0_pay11 mx) (pastMax q k mx)) (k0_pay15 (k0_pay7 q k) (pastMax q k mx)) v a
/-- One head's next maximum, over the query block's own key block. -/
def ownMax : FVec F S512x128 .f32 := k0_pay134 (k0_pay132 q k) (k0_pay133 mx)
/-- One head's next sums, over the query block's own key block. -/
def ownSums : FVec F S512x128 .f32 :=
  k0_pay265 (k0_pay136 (k0_pay132 q k) (k0_pay133 mx)) (k0_pay137 (k0_pay132 q k) (k0_pay133 mx)) v a
/-- One head's result: the sums over their own last lanes. -/
def ownOut : FVec F S512x128 .f32 :=
  k0_pay266 (k0_pay136 (k0_pay132 q k) (k0_pay133 mx)) (k0_pay264 (k0_pay137 (k0_pay132 q k) (k0_pay133 mx)) v) a

end HeadFunctions

variable (c : Dev nD) (i : grid0.Coords)
  (arg3 : Memref sig .tc .vmem S1x512x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x512x1024 .bf16) (harg6 : arg6.IsWhole)
  (arg7 : Memref sig .tc .vmem S16x512x128 .f32) (harg7 : arg7.IsWhole)
  (arg8 : Memref sig .tc .vmem S512x2048 .f32) (harg8 : arg8.IsWhole)
  (x0 : Vec F S1x512x2048 .bf16) (x1 : Vec F S1x2048x512 .bf16) (x2 : Vec F S1x2048x512 .bf16)
  (xm : Vec F S16x512x128 .f32) (xa : Vec F S512x2048 .f32)

/-- A load of head `h`'s lanes of the queries, as the body's load spells it. -/
abbrev qL (h : Fin 16) : Vec F S1x512x128 .bf16 := arg3.view.readAt (Elt F) (lanesRect h).toLoadRect (harg3.unread x0)
/-- A load of head `h`'s rows of the keys or values. -/
abbrev kL (h : Fin 16) : Vec F S1x128x512 .bf16 := arg4.view.readAt (Elt F) (rowsRect h).toLoadRect (harg4.unread x1)
/-- A load of head `h`'s part of the maximum. -/
abbrev mL (h : Fin 16) : Vec F S1x512x128 .f32 := arg7.view.readAt (Elt F) (headRect h).toLoadRect (harg7.unread xm)
/-- A load of head `h`'s lanes of the sums. -/
abbrev aL (h : Fin 16) : Vec F S512x128 .f32 := arg8.view.readAt (Elt F) (sumsRect h).toLoadRect (harg8.unread xa)

set_option maxHeartbeats 4000000 in
/-- The stored maxima over an earlier key block. -/
theorem runPast_max (hp : Past i) (hd : ¬Diagonal i) :
    (runPast c i arg3 harg3 arg4 harg4 arg5 harg5 arg6 harg6 arg7 harg7 arg8 harg8 x0 x1 x2 xm xa hp hd).1
      = heads.map fun h => (⟨headRect h, k0_pay13 (pastMax (qL arg3 harg3 x0 h) (kL arg4 harg4 x1 h) (mL arg7 harg7 xm h))⟩ : View.Piece (Elt F) S16x512x128 .f32) := by
  unfold runPast
  exact rfl

set_option maxHeartbeats 4000000 in
/-- The stored sums over an earlier key block. -/
theorem runPast_sums (hp : Past i) (hd : ¬Diagonal i) :
    (runPast c i arg3 harg3 arg4 harg4 arg5 harg5 arg6 harg6 arg7 harg7 arg8 harg8 x0 x1 x2 xm xa hp hd).2.1
      = heads.map fun h => (⟨sumsRect h, pastSums (qL arg3 harg3 x0 h) (kL arg4 harg4 x1 h) (kL arg5 harg5 x2 h) (mL arg7 harg7 xm h) (aL arg8 harg8 xa h)⟩ : View.Piece (Elt F) S512x2048 .f32) := by
  unfold runPast
  exact rfl

set_option maxHeartbeats 4000000 in
/-- The stored maxima over the query block's own key block. -/
theorem runDiagonal_max (hp : ¬Past i) (hd : Diagonal i) :
    (runDiagonal c i arg3 harg3 arg4 harg4 arg5 harg5 arg6 harg6 arg7 harg7 arg8 harg8 x0 x1 x2 xm xa hp hd).1
      = heads.map fun h => (⟨headRect h, k0_pay13 (ownMax (qL arg3 harg3 x0 h) (kL arg4 harg4 x1 h) (mL arg7 harg7 xm h))⟩ : View.Piece (Elt F) S16x512x128 .f32) := by
  unfold runDiagonal
  exact rfl

/-- The even head of pair `p`. -/
abbrev evenHead (p : Fin 8) : Fin 16 := ⟨2 * p.val, by have := p.isLt; omega⟩
/-- The odd head of pair `p`. -/
abbrev oddHead (p : Fin 8) : Fin 16 := ⟨2 * p.val + 1, by have := p.isLt; omega⟩

set_option maxHeartbeats 4000000 in
/-- The stored results over the query block's own key block. -/
theorem runDiagonal_out (hp : ¬Past i) (hd : Diagonal i) :
    (runDiagonal c i arg3 harg3 arg4 harg4 arg5 harg5 arg6 harg6 arg7 harg7 arg8 harg8 x0 x1 x2 xm xa hp hd).2.1
      = pairs.map fun p => (⟨pairRect p, k0_pay5
          (ownOut (qL arg3 harg3 x0 (evenHead p)) (kL arg4 harg4 x1 (evenHead p)) (kL arg5 harg5 x2 (evenHead p)) (mL arg7 harg7 xm (evenHead p)) (aL arg8 harg8 xa (evenHead p)))
          (ownOut (qL arg3 harg3 x0 (oddHead p)) (kL arg4 harg4 x1 (oddHead p)) (kL arg5 harg5 x2 (oddHead p)) (mL arg7 harg7 xm (oddHead p)) (aL arg8 harg8 xa (oddHead p)))⟩
            : View.Piece (Elt F) S1x512x1024 .bf16) := by
  unfold runDiagonal
  exact rfl

end Cert.KernelIdeal.Fox

end
-- ==== Proof.FoxStep.lean ====
/- One grid point of the attention kernel as a step on three arrays: the running maximum, the running sums and the
   result block. -/
module

public import proofs.«01_k».proof.Proof.FoxHeads
public import Idealize.ShloMosaic.Lib.Pipeline.Value

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- What the kernel carries from point to point. -/
structure Carried (F : FTy → Type) [FloatOps F] [Named F] where
  /-- the running maximum -/
  mx : Vec F S16x512x128 .f32
  /-- the running sums -/
  sums : Vec F S512x2048 .f32
  /-- the result block -/
  out : Vec F S1x512x1024 .bf16

section Arrays
variable (x0 : Vec F S1x512x2048 .bf16) (x1 x2 : Vec F S1x2048x512 .bf16) (xm : Vec F S16x512x128 .f32) (xa : Vec F S512x2048 .f32)

/-- The pieces the stores leave. -/
abbrev pastMaxPieces : List (View.Piece (Elt F) S16x512x128 .f32) :=
  heads.map fun h => ⟨headRect h, k0_pay13 (pastMax (View.ld (Val := Elt F) x0 (lanesRect h)) (View.ld (Val := Elt F) x1 (rowsRect h)) (View.ld (Val := Elt F) xm (headRect h)))⟩
abbrev pastSumsPieces : List (View.Piece (Elt F) S512x2048 .f32) :=
  heads.map fun h => ⟨sumsRect h, pastSums (View.ld (Val := Elt F) x0 (lanesRect h)) (View.ld (Val := Elt F) x1 (rowsRect h)) (View.ld (Val := Elt F) x2 (rowsRect h)) (View.ld (Val := Elt F) xm (headRect h)) (View.ld (Val := Elt F) xa (sumsRect h))⟩
abbrev ownMaxPieces : List (View.Piece (Elt F) S16x512x128 .f32) :=
  heads.map fun h => ⟨headRect h, k0_pay13 (ownMax (View.ld (Val := Elt F) x0 (lanesRect h)) (View.ld (Val := Elt F) x1 (rowsRect h)) (View.ld (Val := Elt F) xm (headRect h)))⟩
/-- One head's result over its blocks of the arrays. -/
abbrev headOut (h : Fin 16) : FVec F S512x128 .f32 :=
  ownOut (View.ld (Val := Elt F) x0 (lanesRect h)) (View.ld (Val := Elt F) x1 (rowsRect h)) (View.ld (Val := Elt F) x2 (rowsRect h)) (View.ld (Val := Elt F) xm (headRect h)) (View.ld (Val := Elt F) xa (sumsRect h))
abbrev outPieces : List (View.Piece (Elt F) S1x512x1024 .bf16) :=
  pairs.map fun p => ⟨pairRect p, k0_pay5 (headOut x0 x1 x2 xm xa (evenHead p)) (headOut x0 x1 x2 xm xa (oddHead p))⟩
end Arrays

/-- Loads of a buffer held at `X` read `X`. -/
theorem load_eq {s : Shape} {e : EltTy} (a : Memref sig .tc .vmem s e) (ha : a.IsWhole) (X : s.Idx → Elt F e) (r : Rect s) :
    a.view.readAt (Elt F) r.toLoadRect (ha.unread X) = View.ld (Val := Elt F) X r := by
  rw [View.readAt_eq_ld, ha.read_unread]

/-! Every index is stored by some piece. -/

theorem mem_heads : ∀ h : Fin 16, h ∈ heads := by decide
theorem mem_pairs : ∀ p : Fin 8, p ∈ pairs := by decide

theorem heads_cover (P : Fin 16 → Vec F S1x512x128 .f32) (y : S16x512x128.Idx) :
    ∃ p ∈ heads.map (fun h => (⟨headRect h, P h⟩ : View.Piece (Elt F) S16x512x128 .f32)), y ∈ p.1.set := by
  refine ⟨_, List.mem_map.2 ⟨y 0, mem_heads _, rfl⟩, ?_⟩
  show y ∈ (headRect (y 0)).set
  rw [Rect.mem_set_unit]
  intro a
  have h1 : (y 1 : Nat) < 512 := (y 1).isLt
  have h2 : (y 2 : Nat) < 128 := (y 2).isLt
  fin_cases a
  · exact ⟨le_refl _, Nat.lt_succ_self _⟩
  · exact ⟨Nat.zero_le _, by simpa using h1⟩
  · exact ⟨Nat.zero_le _, by simpa using h2⟩

theorem sums_cover (P : Fin 16 → Vec F S512x128 .f32) (y : S512x2048.Idx) :
    ∃ p ∈ heads.map (fun h => (⟨sumsRect h, P h⟩ : View.Piece (Elt F) S512x2048 .f32)), y ∈ p.1.set := by
  have h1 : (y 0 : Nat) < 512 := (y 0).isLt
  have h2 : (y 1 : Nat) < 2048 := (y 1).isLt
  refine ⟨_, List.mem_map.2 ⟨⟨(y 1 : Nat) / 128, by omega⟩, mem_heads _, rfl⟩, ?_⟩
  show y ∈ (sumsRect ⟨(y 1 : Nat) / 128, _⟩).set
  rw [Rect.mem_set_unit]
  intro a
  fin_cases a
  · exact ⟨Nat.zero_le _, by simpa using h1⟩
  · constructor
    · show 128 * ((y 1 : Nat) / 128) ≤ (y 1 : Nat); omega
    · show (y 1 : Nat) < 128 * ((y 1 : Nat) / 128) + 128; omega

theorem pairs_cover (P : Fin 8 → Vec F S1x512x128 .bf16) (y : S1x512x1024.Idx) :
    ∃ p ∈ pairs.map (fun h => (⟨pairRect h, P h⟩ : View.Piece (Elt F) S1x512x1024 .bf16)), y ∈ p.1.set := by
  have h0 : (y 0 : Nat) < 1 := (y 0).isLt
  have h1 : (y 1 : Nat) < 512 := (y 1).isLt
  have h2 : (y 2 : Nat) < 1024 := (y 2).isLt
  refine ⟨_, List.mem_map.2 ⟨⟨(y 2 : Nat) / 128, by omega⟩, mem_pairs _, rfl⟩, ?_⟩
  show y ∈ (pairRect ⟨(y 2 : Nat) / 128, _⟩).set
  rw [Rect.mem_set_unit]
  intro a
  fin_cases a
  · exact ⟨Nat.zero_le _, by simpa using h0⟩
  · exact ⟨Nat.zero_le _, by simpa using h1⟩
  · constructor
    · show 128 * ((y 2 : Nat) / 128) ≤ (y 2 : Nat); omega
    · show (y 2 : Nat) < 128 * ((y 2 : Nat) / 128) + 128; omega

/-- The three arrays after the first branch. -/
def reset (i : grid0.Coords) (s : Carried F) : Carried F :=
  if Starts i then ⟨k0_pay1, k0_pay2, s.out⟩ else s

/-- The three arrays after the other two branches. -/
def advance (i : grid0.Coords) (x0 : Vec F S1x512x2048 .bf16) (x1 x2 : Vec F S1x2048x512 .bf16) (s : Carried F) : Carried F :=
  if Past i then ⟨View.canon (pastMaxPieces x0 x1 s.mx), View.canon (pastSumsPieces x0 x1 x2 s.mx s.sums), s.out⟩
  else if Diagonal i then ⟨View.canon (ownMaxPieces x0 x1 s.mx), s.sums, View.canon (outPieces x0 x1 x2 s.mx s.sums)⟩
  else s

variable (c : Dev nD) (i : grid0.Coords)
  (arg3 : Memref sig .tc .vmem S1x512x2048 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S1x512x1024 .bf16) (harg6 : arg6.IsWhole)
  (arg7 : Memref sig .tc .vmem S16x512x128 .f32) (harg7 : arg7.IsWhole)
  (arg8 : Memref sig .tc .vmem S512x2048 .f32) (harg8 : arg8.IsWhole)
  (x0 : Vec F S1x512x2048 .bf16) (x1 : Vec F S1x2048x512 .bf16) (x2 : Vec F S1x2048x512 .bf16)

/-- A buffer written over by pieces that cover it holds the pieces' contents. -/
theorem stored_owns {s : Shape} {φ : EltTy} (a : Memref sig .tc .vmem s φ) (L : List (View.Piece (Elt F) s φ))
    (hL : ∀ y, ∃ p ∈ L, y ∈ p.1.set) : stored c a L ⊢ (owns (c : Thread nD τ) a fullShare (View.canon L) : sProp 𝕄) := by
  unfold owns
  iintro ⟨%f, H⟩
  iexists _
  isplitr
  swap; · iexact H
  ipureintro; exact View.read_writes_eq_canon _ _ _ hL

/-- The earlier key block's run, its pieces spelt over the arrays. -/
theorem past_takes (hp : Past i) (hd : ¬Diagonal i) (xm : Vec F S16x512x128 .f32) (xa : Vec F S512x2048 .f32) (y6) :
    Takes c arg3 arg4 arg5 x0 x1 x2 (rest i arg3 harg3 arg4 harg4 arg5 harg5 arg6 harg6 arg7 harg7 arg8 harg8).1
      (owns (c : Thread nD τ) arg6 fullShare y6) (owns (c : Thread nD τ) arg7 fullShare xm) (owns (c : Thread nD τ) arg8 fullShare xa)
      (owns (c : Thread nD τ) arg6 fullShare y6) (stored c arg7 (pastMaxPieces x0 x1 xm)) (stored c arg8 (pastSumsPieces x0 x1 x2 xm xa)) := by
  have h1 := runPast_max c i arg3 harg3 arg4 harg4 arg5 harg5 arg6 harg6 arg7 harg7 arg8 harg8 x0 x1 x2 xm xa hp hd
  have h2 := runPast_sums c i arg3 harg3 arg4 harg4 arg5 harg5 arg6 harg6 arg7 harg7 arg8 harg8 x0 x1 x2 xm xa hp hd
  revert h1 h2
  generalize runPast c i arg3 harg3 arg4 harg4 arg5 harg5 arg6 harg6 arg7 harg7 arg8 harg8 x0 x1 x2 xm xa hp hd = R
  obtain ⟨LM, LA, hr⟩ := R
  intro h1 h2
  dsimp only at h1 h2
  simp only [qL, kL, mL, aL, load_eq] at h1 h2
  subst h1 h2
  exact hr y6

/-- The own key block's run, its pieces spelt over the arrays. -/
theorem own_takes (hp : ¬Past i) (hd : Diagonal i) (xm : Vec F S16x512x128 .f32) (xa : Vec F S512x2048 .f32) (y6) :
    Takes c arg3 arg4 arg5 x0 x1 x2 (rest i arg3 harg3 arg4 harg4 arg5 harg5 arg6 harg6 arg7 harg7 arg8 harg8).1
      (owns (c : Thread nD τ) arg6 fullShare y6) (owns (c : Thread nD τ) arg7 fullShare xm) (owns (c : Thread nD τ) arg8 fullShare xa)
      (stored c arg6 (outPieces x0 x1 x2 xm xa)) (stored c arg7 (ownMaxPieces x0 x1 xm)) (owns (c : Thread nD τ) arg8 fullShare xa) := by
  have h1 := runDiagonal_max c i arg3 harg3 arg4 harg4 arg5 harg5 arg6 harg6 arg7 harg7 arg8 harg8 x0 x1 x2 xm xa hp hd
  have h2 := runDiagonal_out c i arg3 harg3 arg4 harg4 arg5 harg5 arg6 harg6 arg7 harg7 arg8 harg8 x0 x1 x2 xm xa hp hd
  revert h1 h2
  generalize runDiagonal c i arg3 harg3 arg4 harg4 arg5 harg5 arg6 harg6 arg7 harg7 arg8 harg8 x0 x1 x2 xm xa hp hd = R
  obtain ⟨LM, LO, hr⟩ := R
  intro h1 h2
  dsimp only at h1 h2
  simp only [qL, kL, mL, aL, load_eq] at h1 h2
  subst h1 h2
  exact hr y6

set_option maxHeartbeats 1000000 in
/-- The program after the first branch takes the three arrays one step on. -/
theorem rest_runs (hpd : ¬(Past i ∧ Diagonal i)) (s : Carried F) :
    Takes c arg3 arg4 arg5 x0 x1 x2 (rest i arg3 harg3 arg4 harg4 arg5 harg5 arg6 harg6 arg7 harg7 arg8 harg8).1
      (owns (c : Thread nD τ) arg6 fullShare s.out) (owns (c : Thread nD τ) arg7 fullShare s.mx) (owns (c : Thread nD τ) arg8 fullShare s.sums)
      (owns (c : Thread nD τ) arg6 fullShare (advance i x0 x1 x2 s).out) (owns (c : Thread nD τ) arg7 fullShare (advance i x0 x1 x2 s).mx)
      (owns (c : Thread nD τ) arg8 fullShare (advance i x0 x1 x2 s).sums) := by
  intro E K
  by_cases hp : Past i
  · have hd : ¬Diagonal i := fun h => hpd ⟨hp, h⟩
    rw [show advance i x0 x1 x2 s = _ from if_pos hp]
    refine .trans ?_ (past_takes c i arg3 harg3 arg4 harg4 arg5 harg5 arg6 harg6 arg7 harg7 arg8 harg8 x0 x1 x2 hp hd s.mx s.sums s.out E K)
    iintro ⟨H0, H1, H2, H3, HS0, HS1, Hk⟩
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    iapply Hk
    isplitl [H0]; · iexact H0
    isplitl [H1]; · iexact H1
    isplitl [H2]; · iexact H2
    isplitl [H3]; · iexact H3
    isplitl [HS0]
    · iapply (stored_owns c arg7 _ (heads_cover _)); iexact HS0
    iapply (stored_owns c arg8 _ (sums_cover _)); iexact HS1
  · by_cases hd : Diagonal i
    · rw [show advance i x0 x1 x2 s = _ from (if_neg hp).trans (if_pos hd)]
      refine .trans ?_ (own_takes c i arg3 harg3 arg4 harg4 arg5 harg5 arg6 harg6 arg7 harg7 arg8 harg8 x0 x1 x2 hp hd s.mx s.sums s.out E K)
      iintro ⟨H0, H1, H2, H3, HS0, HS1, Hk⟩
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      iapply Hk
      isplitl [H0]; · iexact H0
      isplitl [H1]; · iexact H1
      isplitl [H2]; · iexact H2
      isplitl [H3]
      · iapply (stored_owns c arg6 _ (pairs_cover _)); iexact H3
      isplitl [HS0]
      · iapply (stored_owns c arg7 _ (heads_cover _)); iexact HS0
      iexact HS1
    · rw [show advance i x0 x1 x2 s = s from (if_neg hp).trans (if_neg hd)]
      exact runNone c i arg3 harg3 arg4 harg4 arg5 harg5 arg6 harg6 arg7 harg7 arg8 harg8 x0 x1 x2 hp hd _ _ _ E K

/-- A whole-buffer store leaves its payload. -/
theorem whole_store {s : Shape} {φ : EltTy} (a : Memref sig .tc .vmem s φ) (off : Fin s.rank → Nat) (hoff : off = fun _ => 0)
    (inb : ∀ k, off k + s.size k ≤ s.size k) (w : s.Idx → Elt F φ) :
    stored c a [⟨Rect.unit off s.size inb, w⟩] ⊢ (owns (c : Thread nD τ) a fullShare w : sProp 𝕄) := by
  refine (stored_owns c a _ fun y => ⟨_, List.mem_singleton.2 rfl, ?_⟩).trans ?_
  · subst hoff
    show y ∈ (Rect.unit (fun _ => 0) s.size inb).set
    rw [Rect.mem_set_unit]
    exact fun k => ⟨Nat.zero_le _, by simpa using (y k).isLt⟩
  · rw [View.canon_unit_zero hoff]

set_option maxHeartbeats 1000000 in
/-- The whole body takes the three arrays one step on; where it resets them, whatever they were. -/
theorem body_steps (hpd : ¬(Past i ∧ Diagonal i)) (s : Carried F) (P7 P8 : sProp 𝕄)
    (h7 : P7 ⊢ iprop(∃ d, ⌜¬Starts i → d = s.mx⌝ ∗ owns (c : Thread nD τ) arg7 fullShare d))
    (h8 : P8 ⊢ iprop(∃ d, ⌜¬Starts i → d = s.sums⌝ ∗ owns (c : Thread nD τ) arg8 fullShare d)) :
    Takes c arg3 arg4 arg5 x0 x1 x2 (cc0_fox_prompt i arg3 harg3 arg4 harg4 arg5 harg5 arg6 harg6 arg7 harg7 arg8 harg8)
      (owns (c : Thread nD τ) arg6 fullShare s.out) P7 P8
      (owns (c : Thread nD τ) arg6 fullShare (advance i x0 x1 x2 (reset i s)).out) (owns (c : Thread nD τ) arg7 fullShare (advance i x0 x1 x2 (reset i s)).mx)
      (owns (c : Thread nD τ) arg8 fullShare (advance i x0 x1 x2 (reset i s)).sums) := by
  intro E K
  rw [(rest i arg3 harg3 arg4 harg4 arg5 harg5 arg6 harg6 arg7 harg7 arg8 harg8).2]
  by_cases hs : Starts i
  · rw [dif_pos hs]
    unfold resetThen
    iintro ⟨H0, H1, H2, H3, HS0, HS1, Hk⟩
    ihave HS0 := h7 $$ HS0
    ihave HS1 := h8 $$ HS1
    icases HS0 with ⟨%d7, -, HS0⟩
    icases HS1 with ⟨%d8, -, HS1⟩
    unfold owns
    icases HS0 with ⟨%f7, %e7, HS0⟩
    icases HS1 with ⟨%f8, %e8, HS1⟩
    sl_exec
    have hr := rest_runs c i arg3 harg3 arg4 harg4 arg5 harg5 arg6 harg6 arg7 harg7 arg8 harg8 x0 x1 x2 hpd (reset i s) E K
    rw [show reset i s = _ from if_pos hs] at hr ⊢
    have hw7 := whole_store (F := F) c arg7 ![0, 0, 0] (by funext k; fin_cases k <;> rfl) inb_S16x512x128_S16x512x128_0_0_0 (k0_pay1 (F := F))
    have hw8 := whole_store (F := F) c arg8 ![0, 0] (by funext k; fin_cases k <;> rfl) inb_S512x2048_S512x2048_0_0 (k0_pay2 (F := F))
    unfold owns at hr hw7 hw8
    iapply hr
    isplitl [H0]; · iexact H0
    isplitl [H1]; · iexact H1
    isplitl [H2]; · iexact H2
    isplitl [H3]; · iexact H3
    isplitl [HS0]
    · iapply hw7; iexists _; iexact HS0
    isplitl [HS1]
    · iapply hw8; iexists _; iexact HS1
    iexact Hk
  · rw [dif_neg hs]
    refine .trans ?_ (rest_runs c i arg3 harg3 arg4 harg4 arg5 harg5 arg6 harg6 arg7 harg7 arg8 harg8 x0 x1 x2 hpd (reset i s) E K)
    rw [show reset i s = s from if_neg hs]
    iintro ⟨H0, H1, H2, H3, HS0, HS1, Hk⟩
    ihave HS0 := h7 $$ HS0
    ihave HS1 := h8 $$ HS1
    icases HS0 with ⟨%d7, %e7, HS0⟩
    icases HS1 with ⟨%d8, %e8, HS1⟩
    obtain rfl := e7 hs
    obtain rfl := e8 hs
    isplitl [H0]; · iexact H0
    isplitl [H1]; · iexact H1
    isplitl [H2]; · iexact H2
    isplitl [H3]; · iexact H3
    isplitl [HS0]; · iexact HS0
    isplitl [HS1]; · iexact HS1
    iexact Hk

end Cert.KernelIdeal.Fox

end
-- ==== Proof.FoxFrame.lean ====
/- The attention kernel over the extended reals: what it carries from point to point, and that every run ends with the
   arguments as they were, the counters at zero and the result array made of the blocks carried out. -/
module

public import proofs.«01_k».proof.Proof.FoxStep
public import Idealize.ShloMosaic.Lib.Pipeline.TableIdle

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers at a point, and the two scratch buffers. -/
abbrev st0 (t : Fin cfg0.N) : Memref sig .tc .vmem S1x512x2048 .bf16 := win0_0.stage (cfg0.slots t 0)
abbrev st1 (t : Fin cfg0.N) : Memref sig .tc .vmem S1x2048x512 .bf16 := win0_1.stage (cfg0.slots t 1)
abbrev st2 (t : Fin cfg0.N) : Memref sig .tc .vmem S1x2048x512 .bf16 := win0_2.stage (cfg0.slots t 2)
abbrev st3 (t : Fin cfg0.N) : Memref sig .tc .vmem S1x512x1024 .bf16 := win0_3.stage (cfg0.slots t 3)
abbrev scMax : Memref sig .tc .vmem S16x512x128 .f32 := Memref.whole cc0_scratch0
abbrev scAcc : Memref sig .tc .vmem S512x2048 .f32 := Memref.whole cc0_scratch1

/-- What the kernel takes from one point to the next: the three arrays before point `n`. -/
def before (c : Dev nD) : ℕ → Carried F
  | 0 => ⟨k0_pay1, k0_pay2, fun _ => Scalar.ofBits .bf16 0x0000#16⟩
  | n + 1 => if h : n < cfg0.N then
      advance (grid0.coords ⟨n, h⟩) (iblk m c 0 ⟨n, h⟩) (iblk m c 1 ⟨n, h⟩) (iblk m c 2 ⟨n, h⟩) (reset (grid0.coords ⟨n, h⟩) (before c n))
    else before c n

theorem before_succ (c : Dev nD) (t : Fin cfg0.N) : before m c (t.val + 1)
    = advance (grid0.coords t) (iblk m c 0 t) (iblk m c 1 t) (iblk m c 2 t) (reset (grid0.coords t) (before m c t.val)) := by
  conv_lhs => unfold before
  rw [dif_pos t.isLt]

/-- The two scratch buffers before point `n`: at anything before the first point. -/
def scratch (c : Dev nD) (n : ℕ) : sProp 𝕄 :=
  iprop(iprop((∃ d, ⌜n ≠ 0 → d = (before m c n).mx⌝ ∗ owns (c : Thread nD τ) scMax fullShare d)
    ∗ (∃ d, ⌜n ≠ 0 → d = (before m c n).sums⌝ ∗ owns (c : Thread nD τ) scAcc fullShare d)) ∗ (∃ r, prngReg c r))

/-- What the pipeline holds beside the windows: the two scratch buffers at some contents and the generator register. -/
theorem invariant_eq (c : Dev nD) : (Pipeline.ΦA spec0 c : sProp 𝕄)
    = iprop(iprop((∃ d, owns (c : Thread nD τ) scMax fullShare d) ∗ (∃ d, owns (c : Thread nD τ) scAcc fullShare d)) ∗ (∃ r, prngReg c r)) := by
  unfold Pipeline.ΦA; rw [scopedRest0_eq]; simp only [scMax, scAcc, owns_whole]; try rfl

theorem scratch_in (c : Dev nD) : (Pipeline.ΦA spec0 c : sProp 𝕄) ⊢ scratch m c 0 := by
  rw [invariant_eq]; unfold scratch
  iintro ⟨⟨⟨%d0, H0⟩, ⟨%d1, H1⟩⟩, Hg⟩
  isplitl [H0 H1]
  · isplitl [H0]
    · iexists d0; isplitr; · ipureintro; exact fun h => absurd rfl h
      iexact H0
    iexists d1; isplitr; · ipureintro; exact fun h => absurd rfl h
    iexact H1
  iexact Hg

theorem scratch_out (c : Dev nD) (n : ℕ) : scratch m c n ⊢ (Pipeline.ΦA spec0 c : sProp 𝕄) := by
  rw [invariant_eq]; unfold scratch
  iintro ⟨⟨⟨%d0, -, H0⟩, ⟨%d1, -, H1⟩⟩, Hg⟩
  isplitl [H0 H1]
  · isplitl [H0]
    · iexists d0; iexact H0
    iexists d1; iexact H1
  iexact Hg

/-- The proof data: the arrays as the region finds them, each input left at its block, the result block as carried. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (before m c (t.val + 1)).out
  Φ t := scratch m c t.val
  q _ := fullShare
  owed _ := 0

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = (before m c (t.val + 1)).out := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-! The result window: stored at the own key block, kept at the later ones. -/

theorem idle_iff (t : Fin cfg0.N) : cfg0.idle 3 (cfg0.grid.coords t) = true ↔ ¬Diagonal (grid0.coords t) := by
  show (!(k0_cond3 (grid0.coords t) == 1#1)) = true ↔ _
  simp [Diagonal]

theorem step_out_keep (i : grid0.Coords) (x0 : Vec F S1x512x2048 .bf16) (x1 x2 : Vec F S1x2048x512 .bf16) (s : Carried F)
    (hd : ¬Diagonal i) : (advance i x0 x1 x2 s).out = s.out := by
  unfold advance; split
  · rfl
  · rfl

theorem out_kept (c : Dev nD) (t : Fin cfg0.N) (h : ¬Diagonal (grid0.coords t)) : (before m c (t.val + 1)).out = (before m c t.val).out := by
  rw [before_succ, step_out_keep _ _ _ _ _ h]
  unfold reset; split <;> rfl

theorem fresh_eq (n : ℕ) (h : n ≤ cfg0.N) : cfg0.fresh 3 n = decide (n % 4 ≤ n / 4 % 4) :=
  cfg0.fresh_tab 3 (fun n => decide (n % 4 ≤ n / 4 % 4)) rfl (fun t => by
    have hN : t.val < 256 := lt_of_lt_of_eq t.isLt (show cfg0.N = 256 from N_0)
    have hf := flush0_3 t
    have hi := idle_iff t
    rw [diagonal_iff] at hi
    rw [Bool.eq_iff_iff, Bool.or_eq_true, Bool.and_eq_true, hf, hi]
    simp only [decide_eq_true_eq]
    have hq : (t.val % 4 = 3 ∧ (t.val + 1) / 4 = t.val / 4 + 1 ∧ (t.val + 1) % 4 = 0)
        ∨ (t.val % 4 < 3 ∧ (t.val + 1) / 4 = t.val / 4 ∧ (t.val + 1) % 4 = t.val % 4 + 1) := by omega
    rcases hq with ⟨h1, h2, h3⟩ | ⟨h1, h2, h3⟩ <;> rw [h2, h3] <;> omega) n h

theorem before_3 (c : Dev nD) (t : Fin cfg0.N) (d) :
    (data m 0 c).before 3 t d = if cfg0.fresh 3 t.val then d else (before m c t.val).out := by
  rw [(data m 0 c).before_out_traj 3 rfl (fun _ _ => rfl) (fun t ht hi hf => by
    rw [after_3, after_3, out_kept m c t ((idle_iff t).1 hi)]
    congr 2; simp only; omega) t.val t rfl d]
  cases hf : cfg0.fresh 3 t.val
  · rw [if_neg Bool.false_ne_true, if_neg Bool.false_ne_true, after_3]
    have hz : t.val ≠ 0 := fun h => by rw [h] at hf; exact Bool.false_ne_true hf.symm
    congr 2; simp only; omega
  · rfl

/-- What the body is handed at a point, window by window, -/
def given (c : Dev nD) (t : Fin cfg0.N) : sProp 𝕄 :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d)))

/-- and what it gives back. -/
def returned (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t
    ∗ (data m 0 c).leavesExact 3 t)

/-- The result's buffer after the body is what the pipeline is owed of it. -/
theorem result_left (c : Dev nD) (t : Fin cfg0.N) (d) (y : Vec F S1x512x1024 .bf16)
    (hy : y = (data m 0 c).before 3 t d) (z : Vec F S1x512x1024 .bf16)
    (hdiag : Diagonal (grid0.coords t) → z = (before m c (t.val + 1)).out) (hkeep : ¬Diagonal (grid0.coords t) → z = y) :
    owns (c : Thread nD τ) (st3 t) fullShare z ⊢ (data m 0 c).leavesExact 3 t := by
  by_cases hd : Diagonal (grid0.coords t)
  · have hi : cfg0.idle 3 (cfg0.grid.coords t) = false := by
      rw [← Bool.not_eq_true, idle_iff]; exact fun h => h hd
    unfold Dat.leavesExact
    rw [hi, after_3, ← hdiag hd]
  · have hi : cfg0.idle 3 (cfg0.grid.coords t) = true := (idle_iff t).2 hd
    cases hf : (cfg0.win 3).flush t
    · rw [Dat.leavesExact_idle (data m 0 c) 3 t hi hf, hkeep hd, hy]
      iintro H; iexists d; iexact H
    · unfold Dat.leavesExact
      rw [hi, hf, after_3, out_kept m c t hd, hkeep hd, hy, before_3, fresh_eq _ (le_of_lt t.isLt)]
      have h3 := (flush0_3 t).1 hf
      rw [diagonal_iff] at hd
      rw [if_neg (by simp only [decide_eq_true_eq]; omega)]

theorem past_not_diagonal (t : Fin cfg0.N) : ¬(Past (grid0.coords t) ∧ Diagonal (grid0.coords t)) := by
  rw [past_iff, diagonal_iff]; omega

theorem step_out_diag (i : grid0.Coords) (x0 : Vec F S1x512x2048 .bf16) (x1 x2 : Vec F S1x2048x512 .bf16) (s s' : Carried F)
    (hm : s.mx = s'.mx) (ha : s.sums = s'.sums) (hpd : ¬(Past i ∧ Diagonal i)) (hd : Diagonal i) :
    (advance i x0 x1 x2 s).out = (advance i x0 x1 x2 s').out := by
  have hp : ¬Past i := fun h => hpd ⟨h, hd⟩
  unfold advance; rw [if_neg hp, if_neg hp, if_pos hd, if_pos hd, hm, ha]

theorem step_mx (i : grid0.Coords) (x0 : Vec F S1x512x2048 .bf16) (x1 x2 : Vec F S1x2048x512 .bf16) (s s' : Carried F)
    (hm : s.mx = s'.mx) : (advance i x0 x1 x2 s).mx = (advance i x0 x1 x2 s').mx := by
  unfold advance; split
  · rw [hm]
  · split
    · rw [hm]
    · exact hm

theorem step_sums (i : grid0.Coords) (x0 : Vec F S1x512x2048 .bf16) (x1 x2 : Vec F S1x2048x512 .bf16) (s s' : Carried F)
    (hm : s.mx = s'.mx) (ha : s.sums = s'.sums) : (advance i x0 x1 x2 s).sums = (advance i x0 x1 x2 s').sums := by
  unfold advance; split
  · rw [hm, ha]
  · split
    · exact ha
    · exact ha

theorem reset_out (i : grid0.Coords) (s : Carried F) (y) : (reset i ⟨s.mx, s.sums, y⟩).mx = (reset i s).mx
    ∧ (reset i ⟨s.mx, s.sums, y⟩).sums = (reset i s).sums ∧ (reset i ⟨s.mx, s.sums, y⟩).out = y := by
  unfold reset; split <;> exact ⟨rfl, rfl, rfl⟩

theorem body_runs (c : Dev nD) (t : Fin cfg0.N) :
    given m c t ⊢ wp frame (wpE (defs₀ (F := F)) Variants.none c none) Set.univ (bodyAt0 t) (fun _ => returned m c t) := by
  unfold given returned bodyAt0
  simp only [before_0, before_1, before_2]
  rw [show (data m 0 c).owesAt () t.succ = (data m 0 c).owesAt () t.castSucc from rfl,
    show (data m 0 c).Φ t.succ = scratch m c (t.val + 1) from rfl, show (data m 0 c).Φ t.castSucc = scratch m c t.val from rfl]
  rw [show (data m 0 c).leavesExact 0 t = owns (c : Thread nD τ) (st0 t) fullShare ((data m 0 c).after 0 t) from rfl, after_0,
    show (data m 0 c).leavesExact 1 t = owns (c : Thread nD τ) (st1 t) fullShare ((data m 0 c).after 1 t) from rfl, after_1,
    show (data m 0 c).leavesExact 2 t = owns (c : Thread nD τ) (st2 t) fullShare ((data m 0 c).after 2 t) from rfl, after_2]
  unfold scratch
  iintro ⟨⟨⟨HS0, HS1⟩, Hg⟩, Ho, ⟨%d0, H0⟩, ⟨%d1, H1⟩, ⟨%d2, H2⟩, ⟨%d3, H3⟩⟩
  have hs : ¬Starts (grid0.coords t) → t.val ≠ 0 := fun h h0 => h ((starts_iff t).2 (by rw [h0]))
  have ho := reset_out (grid0.coords t) (before m c t.val) ((data m 0 c).before 3 t d3)
  have hb := before_succ m c t
  iapply (body_steps c (grid0.coords t) _ _ _ _ _ _ _ _ _ _ _ _ (iblk m c 0 t) (iblk m c 1 t) (iblk m c 2 t) (past_not_diagonal t)
    ⟨(before m c t.val).mx, (before m c t.val).sums, (data m 0 c).before 3 t d3⟩
    iprop(∃ d, ⌜t.val ≠ 0 → d = (before m c t.val).mx⌝ ∗ owns (c : Thread nD τ) scMax fullShare d)
    iprop(∃ d, ⌜t.val ≠ 0 → d = (before m c t.val).sums⌝ ∗ owns (c : Thread nD τ) scAcc fullShare d)
    (by iintro ⟨%d, %h, H⟩; iexists d; isplitr; · ipureintro; exact fun h' => h (hs h')
        iexact H)
    (by iintro ⟨%d, %h, H⟩; iexists d; isplitr; · ipureintro; exact fun h' => h (hs h')
        iexact H) Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexists _; isplitr
        swap; · iexact HS0
        ipureintro; intro _; rw [hb]; exact step_mx _ _ _ _ _ _ ho.1
      iexists _; isplitr
      swap; · iexact HS1
      ipureintro; intro _; rw [hb]; exact step_sums _ _ _ _ _ _ ho.1 ho.2.1
    iexact Hg
  isplitl [Ho]; · iexact Ho
  isplitl [H0]; · iexact H0
  isplitl [H1]; · iexact H1
  isplitl [H2]; · iexact H2
  iapply (result_left m c t d3 _ rfl _ (fun hd => by rw [hb]; exact step_out_diag _ _ _ _ _ _ ho.1 ho.2.1 (past_not_diagonal t) hd)
    (fun hd => (step_out_keep _ _ _ _ _ hd).trans ho.2.2))
  iexact H3

theorem body_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, body_row]
  exact triple_restated (body_runs m c t) rfl .rfl fun _ => .rfl

-- the launch theorem's implicit arguments are found by unifying its conclusion with this one
set_option backward.isDefEq.respectTransparency.types false in
theorem run_counters : θ_run defs (onTc (τ := τ) (main (F := F))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m)
    (hin := fun c => scratch_in m c) (hout := fun c => scratch_out m c _)

/-- The frame, with the counters. -/
theorem frame_counters : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_counters m ρ)

end Cert.KernelIdeal.Fox

end
-- ==== Proof.FoxMath.lean ====
/- The softmax of a row of scores, taken key block by key block: a running maximum and running weighted sums, over the
   extended reals. -/
module

public import Idealize.ShloMosaic.PureOps
public import Idealize.ShloMosaic.PureOps.Ideal.Laws

@[expose] public section

noncomputable section

namespace Cert.FoxMath

open Idealize.ShloMosaic

variable {n : ℕ}

/-- The greatest score of a block. -/
abbrev rowMax (s : Fin n → EReal) : EReal := Finset.univ.fold max ⊥ s

theorem le_rowMax (s : Fin n → EReal) (k : Fin n) : s k ≤ rowMax s :=
  (Finset.le_fold_max _).2 (Or.inr ⟨k, Finset.mem_univ _, le_refl _⟩)

theorem rowMax_lt_top (s : Fin n → EReal) (h : ∀ k, s k < ⊤) : rowMax s < ⊤ :=
  (Finset.fold_max_lt _).2 ⟨bot_lt_top, fun k _ => h k⟩

/-- The weight of a score under a maximum. -/
abbrev weight (s M : EReal) : EReal := Ideal.exp (s - M)

theorem exp_coe (x : ℝ) : Ideal.exp (x : EReal) = (Real.exp x : ℝ) := rfl
theorem exp_bot : Ideal.exp ⊥ = 0 := rfl

/-- A weight is a nonnegative real. -/
theorem weight_real (s M : EReal) (hs : s < ⊤) (hM : M < ⊤) (h : s ≤ M) : ∃ x : ℝ, 0 ≤ x ∧ weight s M = x := by
  induction s with
  | top => exact absurd hs (lt_irrefl _)
  | bot =>
    refine ⟨0, le_refl _, ?_⟩
    show Ideal.exp (⊥ - M) = _
    rw [EReal.bot_sub, exp_bot]; rfl
  | coe s =>
    induction M with
    | top => exact absurd hM (lt_irrefl _)
    | bot => exact absurd h (by simp)
    | coe M => exact ⟨Real.exp (s - M), (Real.exp_pos _).le, rfl⟩

/-- A weight under one maximum, rescaled to a greater one. -/
theorem weight_rescale (s M M' : EReal) (hM : M < ⊤) (hM' : M' < ⊤) (h : s ≤ M) (h' : M ≤ M') :
    weight s M * weight M M' = weight s M' := by
  have hs : s < ⊤ := lt_of_le_of_lt h hM
  induction s with
  | top => exact absurd hs (lt_irrefl _)
  | bot =>
    show Ideal.exp (⊥ - M) * _ = Ideal.exp (⊥ - M')
    rw [EReal.bot_sub, EReal.bot_sub, exp_bot, zero_mul]
  | coe s =>
    induction M with
    | top => exact absurd hM (lt_irrefl _)
    | bot => exact absurd h (by simp)
    | coe M =>
      induction M' with
      | top => exact absurd hM' (lt_irrefl _)
      | bot => exact absurd h' (by simp)
      | coe M' =>
        show ((Real.exp (s - M) : ℝ) : EReal) * (Real.exp (M - M') : ℝ) = (Real.exp (s - M') : ℝ)
        rw [← EReal.coe_mul, ← Real.exp_add]
        congr 2; ring

/-- Multiplying a sum by a nonnegative real. -/
theorem sum_mul_real {ι : Type*} (S : Finset ι) (f : ι → EReal) (c : ℝ) (hc : 0 ≤ c) :
    (∑ k ∈ S, f k) * (c : EReal) = ∑ k ∈ S, f k * c := by
  classical
  induction S using Finset.induction_on with
  | empty => simp
  | insert a S ha ih =>
    rw [Finset.sum_insert ha, Finset.sum_insert ha,
      EReal.right_distrib_of_nonneg_of_ne_top (EReal.coe_nonneg.2 hc) (EReal.coe_ne_top c), ih]

/-- A sum of reals. -/
theorem coe_sum_real {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The maximum over the first `j` key blocks. -/
def runMax (S : ℕ → Fin n → EReal) : ℕ → EReal
  | 0 => ⊥
  | j + 1 => max (runMax S j) (rowMax (S j))

/-- The weighted sum over the first `j` key blocks, under the maximum `M`. -/
def runSum (S V : ℕ → Fin n → EReal) (M : EReal) (j : ℕ) : EReal :=
  ∑ b ∈ Finset.range j, ∑ c, weight (S b c) M * V b c

theorem runMax_lt_top (S : ℕ → Fin n → EReal) (h : ∀ b c, S b c < ⊤) : ∀ j, runMax S j < ⊤
  | 0 => bot_lt_top
  | j + 1 => max_lt (runMax_lt_top S h j) (rowMax_lt_top _ (h j))

theorem le_runMax (S : ℕ → Fin n → EReal) (c : Fin n) : ∀ j b, b < j → S b c ≤ runMax S j
  | 0, b, h => absurd h (Nat.not_lt_zero b)
  | j + 1, b, h => by
    rcases Nat.lt_succ_iff_lt_or_eq.1 h with h | rfl
    · exact (le_runMax S c j b h).trans (le_max_left _ _)
    · exact (le_rowMax _ c).trans (le_max_right _ _)

/-- One more key block: rescale the sums and add the block's own. -/
theorem runSum_succ (S V : ℕ → Fin n → EReal) (h : ∀ b c, S b c < ⊤) (j : ℕ) :
    runSum S V (runMax S j) j * weight (runMax S j) (runMax S (j + 1)) + ∑ c, weight (S j c) (runMax S (j + 1)) * V j c
      = runSum S V (runMax S (j + 1)) (j + 1) := by
  unfold runSum
  rw [Finset.sum_range_succ]
  congr 1
  have hle : runMax S j ≤ runMax S (j + 1) := le_max_left _ _
  obtain ⟨x, hx, e⟩ := weight_real _ _ (runMax_lt_top S h j) (runMax_lt_top S h (j + 1)) hle
  rw [e, sum_mul_real _ _ _ hx]
  refine Finset.sum_congr rfl fun b hb => ?_
  rw [sum_mul_real _ _ _ hx]
  refine Finset.sum_congr rfl fun c _ => ?_
  rw [mul_right_comm, ← e, weight_rescale _ _ _ (runMax_lt_top S h j) (runMax_lt_top S h (j + 1)) (le_runMax S c j b (Finset.mem_range.1 hb)) hle]

/-- Blocks of nothing but masked scores do not move the maximum. -/
theorem runMax_masked (S : ℕ → Fin n → EReal) (j : ℕ) : ∀ d, (∀ b, j ≤ b → ∀ c, S b c = ⊥) → runMax S (j + d) = runMax S j
  | 0, _ => rfl
  | d + 1, h => by
    show max (runMax S (j + d)) (rowMax (S (j + d))) = _
    rw [runMax_masked S j d h, max_eq_left]
    exact (Finset.fold_max_le _).2 ⟨bot_le, fun c _ => (h _ (Nat.le_add_right _ _) c).trans_le bot_le⟩

/-- Blocks of nothing but masked scores add nothing to the sums. -/
theorem runSum_masked (S V : ℕ → Fin n → EReal) (M : EReal) (j : ℕ) : ∀ d, (∀ b, j ≤ b → ∀ c, S b c = ⊥) →
    runSum S V M (j + d) = runSum S V M j
  | 0, _ => rfl
  | d + 1, h => by
    show ∑ b ∈ Finset.range (j + d + 1), _ = _
    rw [Finset.sum_range_succ]
    show runSum S V M (j + d) + _ = _
    rw [runSum_masked S V M j d h, Finset.sum_eq_zero, add_zero]
    intro c _
    rw [h _ (Nat.le_add_right _ _) c]
    show Ideal.exp (⊥ - M) * _ = 0
    rw [EReal.bot_sub, exp_bot, zero_mul]

/-- The sum of the weights is a positive real as soon as one score is the real maximum. -/
theorem runSum_ones_real (S : ℕ → Fin n → EReal) (h : ∀ b c, S b c < ⊤) (j : ℕ) :
    ∃ x : ℝ, 0 ≤ x ∧ runSum S (fun _ _ => 1) (runMax S j) j = x := by
  have key : ∀ b ∈ Finset.range j, ∃ x : ℝ, 0 ≤ x ∧ (∑ c, weight (S b c) (runMax S j) * (1 : EReal)) = x := by
    intro b hb
    choose f hf e using fun c => weight_real (S b c) (runMax S j) (h b c) (runMax_lt_top S h j) (le_runMax S c j b (Finset.mem_range.1 hb))
    refine ⟨∑ c, f c, Finset.sum_nonneg fun c _ => hf c, ?_⟩
    rw [coe_sum_real]
    exact Finset.sum_congr rfl fun c _ => by rw [mul_one, e]
  choose! f hf e using key
  refine ⟨∑ b ∈ Finset.range j, f b, Finset.sum_nonneg hf, ?_⟩
  rw [coe_sum_real]
  exact Finset.sum_congr rfl e

/-- Where a score is real, the weights add up to a positive real. -/
theorem runSum_ones_pos (S : ℕ → Fin n → EReal) (h : ∀ b c, S b c < ⊤) (j b : ℕ) (hb : b < j) (c : Fin n) (hc : S b c ≠ ⊥) :
    ∃ x : ℝ, 0 < x ∧ runSum S (fun _ _ => 1) (runMax S j) j = x := by
  obtain ⟨x, hx, e⟩ := runSum_ones_real S h j
  refine ⟨x, lt_of_le_of_ne hx fun h0 => ?_, e⟩
  have hnn : ∀ b ∈ Finset.range j, ∀ c, 0 ≤ weight (S b c) (runMax S j) * (1 : EReal) := by
    intro b hb c
    obtain ⟨y, hy, e⟩ := weight_real (S b c) (runMax S j) (h b c) (runMax_lt_top S h j) (le_runMax S c j b (Finset.mem_range.1 hb))
    rw [mul_one, e]; exact EReal.coe_nonneg.2 hy
  have hz : runSum S (fun _ _ => 1) (runMax S j) j = 0 := by rw [e, ← h0]; rfl
  have h1 := (Finset.sum_eq_zero_iff_of_nonneg (fun b hb => Finset.sum_nonneg fun c _ => hnn b hb c)).1 hz b (Finset.mem_range.2 hb)
  have h2 := (Finset.sum_eq_zero_iff_of_nonneg (fun c _ => hnn b (Finset.mem_range.2 hb) c)).1 h1 c (Finset.mem_univ _)
  rw [mul_one] at h2
  have hle := le_runMax S c j b hb
  have hM := runMax_lt_top S h j
  have hs := h b c
  revert h2 hle hM hs hc
  generalize S b c = s
  generalize runMax S j = M
  intro hc h2 hle hM hs
  induction s with
  | top => exact absurd hs (lt_irrefl _)
  | bot => exact hc rfl
  | coe s =>
    induction M with
    | top => exact absurd hM (lt_irrefl _)
    | bot => exact absurd hle (by simp)
    | coe M =>
      have : ((Real.exp (s - M) : ℝ) : EReal) = 0 := h2
      exact absurd (EReal.coe_eq_zero.1 this) (Real.exp_pos _).ne'

/-- Dividing the weighted sum by the sum of the weights is weighting by the divided weights. -/
theorem runSum_div (S V : ℕ → Fin n → EReal) (h : ∀ b c, S b c < ⊤) (j b : ℕ) (hb : b < j) (c : Fin n) (hc : S b c ≠ ⊥) :
    runSum S V (runMax S j) j * Ideal.div 1 (runSum S (fun _ _ => 1) (runMax S j) j)
      = ∑ b ∈ Finset.range j, ∑ c, Ideal.div (weight (S b c) (runMax S j)) (runSum S (fun _ _ => 1) (runMax S j) j) * V b c := by
  obtain ⟨x, hx, e⟩ := runSum_ones_pos S h j b hb c hc
  rw [e]
  have hdiv : ∀ a : EReal, Ideal.div a (x : EReal) = a * ((x⁻¹ : ℝ) : EReal) := by
    intro a
    unfold Ideal.div
    rw [if_neg (by exact_mod_cast hx.ne'), EReal.coe_inv]
  rw [hdiv, one_mul]
  unfold runSum
  rw [sum_mul_real _ _ _ (inv_pos.2 hx).le]
  refine Finset.sum_congr rfl fun b _ => ?_
  rw [sum_mul_real _ _ _ (inv_pos.2 hx).le]
  refine Finset.sum_congr rfl fun c _ => ?_
  rw [hdiv, mul_right_comm]

end Cert.FoxMath

end
-- ==== Proof.FoxHeadsAt.lean ====
/- One head's payloads of the attention kernel, each read at a row and a lane over the extended reals. -/
module

public import proofs.«01_k».proof.Proof.FoxHeads
public import proofs.«01_k».proof.Proof.FoxMath
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Fox

open Idealize.ShloMosaic Idealize.ShloMosaic.TcCoe
open Cert.KernelIdeal.Gen Cert.FoxMath

variable (q : FVec Ideal S1x512x128 .bf16) (k v : FVec Ideal S1x128x512 .bf16) (mx : FVec Ideal S1x512x128 .f32) (a : FVec Ideal S512x128 .f32)

/-- The score of a row and a key. -/
abbrev score (r c : Fin 512) : EReal := ∑ x : Fin 128, q (ix3 0 r x) * k (ix3 0 x c)
/-- The score, masked out for keys after the row. -/
abbrev ownScore (r c : Fin 512) : EReal := if c ≤ r then score q k r c else ⊥

theorem ofBits_low : Ideal.ofBits FTy.f32 0xFF800000#32 = (⊥ : EReal) := by
  simp [Ideal.ofBits, Ideal.ieee]
theorem ofBits_high : Ideal.ofBits FTy.f32 0x7F800000#32 = (⊤ : EReal) := by
  simp [Ideal.ofBits, Ideal.ieee]

theorem named_mask : (Named.named (F := Ideal) (φ := .f32) κ "mask" 0xF149F2CA#32 : EReal) = ⊥ := rfl

theorem pastMax_at (r : Fin 512) (l : Fin 128) :
    pastMax (F := Ideal) q k mx (ix2 r l) = max (mx (ix3 0 r l)) (rowMax (score q k r)) := by
  pointwise [pastMax, k0_pay12, k0_pay11, k0_pay7]
  rw [ofBits_low]

theorem ownScore_at (r c : Fin 512) : k0_pay132 (F := Ideal) q k (ix2 r c) = ownScore q k r c := by
  pointwise [k0_pay132, k0_pay128]
  rw [Idealize.ShloMosaic.WordCmp.cmpi_sge_ofNat (by omega) (by omega)]
  unfold ownScore
  by_cases h : c ≤ r
  · rw [if_pos h, decide_eq_true (show c.val ≤ r.val from h)]; rfl
  · rw [if_neg h, decide_eq_false (show ¬c.val ≤ r.val from h)]; exact named_mask

theorem ownMax_at (r : Fin 512) (l : Fin 128) :
    ownMax (F := Ideal) q k mx (ix2 r l) = max (mx (ix3 0 r l)) (rowMax (ownScore q k r)) := by
  pointwise [ownMax, k0_pay134, k0_pay133]
  rw [ofBits_low]
  simp only [ownScore_at]

/-- Every lane of the row's maximum holds `M`: the next sums are the old ones rescaled, plus the block's own. -/
theorem pastSums_at (r : Fin 512) (l : Fin 128) (M : EReal) (hM : ∀ l, mx (ix3 0 r l) = M) :
    pastSums (F := Ideal) q k v mx a (ix2 r l)
      = a (ix2 r l) * weight M (max M (rowMax (score q k r)))
        + ∑ c, weight (score q k r c) (max M (rowMax (score q k r))) * v (ix3 0 l c) := by
  pointwise [pastSums, k0_pay127, k0_pay14, k0_pay11, k0_pay15, k0_pay7]
  simp only [pastMax_at, hM, dite_eq_ite, ite_self]

/-- The sums over the query block's own key block. -/
abbrev ownSum (r : Fin 512) (l : Fin 128) (M : EReal) : EReal :=
  a (ix2 r l) * weight M (max M (rowMax (ownScore q k r)))
    + ∑ c, weight (ownScore q k r c) (max M (rowMax (ownScore q k r))) * v (ix3 0 l c)

theorem ownPay_at (r : Fin 512) (l : Fin 128) :
    k0_pay134 (F := Ideal) (k0_pay132 q k) (shapeCast S512x128 mx shapeCasts_S1x512x128_S512x128) (ix2 r l)
      = max (mx (ix3 0 r l)) (rowMax (ownScore q k r)) := ownMax_at q k mx r l

/-- The result of a lane: its sum over the sum 64 lanes on. -/
theorem ownOut_at (r : Fin 512) (l : Fin 128) (M : EReal) (hM : ∀ l, mx (ix3 0 r l) = M) :
    ownOut (F := Ideal) q k v mx a (ix2 r l)
      = ownSum q k v a r l M * Ideal.div 1 (ownSum q k v a r ⟨(l.val + 128 - 64) % 128, Nat.mod_lt _ (by decide)⟩ M) := by
  pointwise [ownOut, k0_pay266, k0_pay264, k0_pay136, k0_pay137, k0_pay133]
  simp only [ownScore_at, ownPay_at, hM, dite_eq_ite, ite_self]

/-- The stored pair of results: the first 64 lanes of both. -/
theorem paired_at (o1 o2 : FVec Ideal S512x128 .f32) (r : Fin 512) (l : Fin 128) :
    k0_pay5 (F := Ideal) o1 o2 (ix3 0 r l)
      = if h : l.val < 64 then o1 (ix2 r l) else o2 (ix2 r ⟨l.val - 64, by omega⟩) := by
  pointwise! [k0_pay5]

end Cert.KernelIdeal.Fox

end
-- ==== Proof.FoxHost.lean ====
/- The attention kernel's operands, as its host lines build them from the layer's arrays. -/
module

public import proofs.«01_k».proof.Proof.Gen.KernelIdeal.Frame
public import Idealize.ShloMosaic.Lib.Pipeline.ValueKit
public import Idealize.ShloMosaic.Lib.StableHlo.RunRead
public import Idealize.ShloMosaic.Lib.Pointwise

@[expose] public section

set_option maxRecDepth 16384

noncomputable section

namespace Cert.KernelIdeal.Fox

open Idealize.ShloMosaic Idealize.ShloMosaic.TcCoe
open Cert.KernelIdeal Cert.KernelIdeal.Gen

section Arrays
variable {F : FTy → Type} [FloatOps F] [Named F]
variable (q k v : FVec F S16x2048x16x64 .f32) (cum : FVec F S16x2048x16 .f32)

/-- The gates' sums, split in three parts. -/
def part1 : FVec F S16x2048x16 .f32 := extf .f32 (truncf .bf16 cum bitsLt_bf16_f32) bitsLt_bf16_f32
def part2 : FVec F S16x2048x16 .f32 := extf .f32 (truncf .bf16 (subf cum (part1 cum)) bitsLt_bf16_f32) bitsLt_bf16_f32
def part3 : FVec F S16x2048x16 .f32 := extf .f32 (truncf .bf16 (subf (subf cum (part1 cum)) (part2 cum)) bitsLt_bf16_f32) bitsLt_bf16_f32
def parts : FVec F S16x2048x16x3 .f32 :=
  concatenate S16x2048x16x3 3 [⟨S16x2048x16x1, broadcastInDim S16x2048x16x1 ![0, 1, 2] bcast_S16x2048x16_S16x2048x16x1_0_1_2 (part1 cum)⟩,
    ⟨S16x2048x16x1, broadcastInDim S16x2048x16x1 ![0, 1, 2] bcast_S16x2048x16_S16x2048x16x1_0_1_2 (part2 cum)⟩,
    ⟨S16x2048x16x1, broadcastInDim S16x2048x16x1 ![0, 1, 2] bcast_S16x2048x16_S16x2048x16x1_0_1_2 (part3 cum)⟩] concatenates_S16x2048x16x1_S16x2048x16x1_S16x2048x16x1_S16x2048x16x3_d3
def ones3 : FVec F S16x2048x16x3 .f32 := broadcastInDim S16x2048x16x3 ![] bcast_S_S16x2048x16x3 (constant S_ .f32 0x3F800000#32)
def zeros58 : FVec F S16x2048x16x58 .f32 := broadcastInDim S16x2048x16x58 ![] bcast_S_S16x2048x16x58 (constant S_ .f32 0x00000000#32)
/-- Four arrays side by side along the head's lanes. -/
def sideBySide (a : FVec F S16x2048x16x64 .f32) (x y : FVec F S16x2048x16x3 .f32) (z : FVec F S16x2048x16x58 .f32) : FVec F S16x2048x16x128 .f32 :=
  concatenate S16x2048x16x128 3 [⟨S16x2048x16x64, a⟩, ⟨S16x2048x16x3, x⟩, ⟨S16x2048x16x3, y⟩, ⟨S16x2048x16x58, z⟩] concatenates_S16x2048x16x64_S16x2048x16x3_S16x2048x16x3_S16x2048x16x58_S16x2048x16x128_d3
/-- The queries, with ones and the gates' sums beside them. -/
def queries : FVec F S16x2048x2048 .bf16 :=
  truncf .bf16 (shapeCast S16x2048x2048 (sideBySide q ones3 (parts cum) zeros58) shapeCasts_S16x2048x16x128_S16x2048x2048) bitsLt_bf16_f32
/-- The keys, with the negated sums and ones beside them, transposed. -/
def keys : FVec F S16x2048x2048 .bf16 :=
  truncf .bf16 (shapeCast S16x2048x2048 (transpose S16x16x128x2048 [0, 2, 3, 1] (sideBySide k (Host.negf (parts cum)) ones3 zeros58)
    transposes_S16x2048x16x128_S16x16x128x2048_0_2_3_1) shapeCasts_S16x16x128x2048_S16x2048x2048) bitsLt_bf16_f32
/-- The values, with ones beside them, transposed. -/
def vals : FVec F S16x2048x2048 .bf16 :=
  truncf .bf16 (shapeCast S16x2048x2048 (transpose S16x16x128x2048 [0, 2, 3, 1]
    (concatenate S16x2048x16x128 3 [⟨S16x2048x16x64, v⟩, ⟨S16x2048x16x64, broadcastInDim S16x2048x16x64 ![] bcast_S_S16x2048x16x64 (constant S_ .f32 0x3F800000#32)⟩]
      concatenates_S16x2048x16x64_S16x2048x16x64_S16x2048x16x128_d3)
    transposes_S16x2048x16x128_S16x16x128x2048_0_2_3_1) shapeCasts_S16x16x128x2048_S16x2048x2048) bitsLt_bf16_f32

variable (m : (ℓ : Loc nD τ sig) → Buf (Elt F) ℓ)

set_option maxHeartbeats 1000000 in
theorem V_queries (c : Dev nD) : V m c main_v17 = queries (m ((c : Thread nD τ).loc main_arg0)) (m ((c : Thread nD τ).loc main_arg3)) := by
  unfold V
  after_reads_simp
  rfl

set_option maxHeartbeats 1000000 in
theorem V_keys (c : Dev nD) : V m c main_v22 = keys (m ((c : Thread nD τ).loc main_arg1)) (m ((c : Thread nD τ).loc main_arg3)) := by
  unfold V
  after_reads_simp
  rfl

set_option maxHeartbeats 1000000 in
theorem V_vals (c : Dev nD) : V m c main_v27 = vals (m ((c : Thread nD τ).loc main_arg2)) := by
  unfold V
  after_reads_simp
  rfl

end Arrays

end Cert.KernelIdeal.Fox

end
-- ==== Proof.FoxScores.lean ====
/- The attention kernel's operands over the extended reals: their products add up to the layer's scores. -/
module

public import proofs.«01_k».proof.Proof.FoxHost
public import proofs.«01_k».proof.Proof.FoxMath

@[expose] public section

set_option maxRecDepth 16384

noncomputable section

namespace Cert.KernelIdeal.Fox

open Idealize.ShloMosaic Idealize.ShloMosaic.TcCoe
open Cert.KernelIdeal Cert.KernelIdeal.Gen

variable (q k v : FVec Ideal S16x2048x16x64 .f32) (cum : FVec Ideal S16x2048x16 .f32)

/-- Lane `x` of head `h`. -/
abbrev lane (h : Fin 16) (x : Fin 128) : Fin 2048 := ⟨128 * h.val + x.val, by omega⟩

/-- Merging the last two axes of four. -/
theorem merge_last {α : Type} {a b c d n : ℕ} (X : (⟨4, ![a, b, c, d]⟩ : Shape).Idx → α) (h : (⟨4, ![a, b, c, d]⟩ : Shape).ShapeCasts ⟨3, ![a, b, n]⟩)
    (i : Fin a) (j : Fin b) (p : Fin c) (x : Fin d) (k : Fin n) (hn : n = c * d) (hk : k.val = p.val * d + x.val) :
    shapeCast ⟨3, ![a, b, n]⟩ X h (ix3 i j k) = X (ix4 i j p x) :=
  shapeCast_apply X h _ _ (by
    rw [Shape.rowMajor_val_four, Shape.rowMajor_val_three]
    show ((i.val * b + j.val) * c + p.val) * d + x.val = (i.val * b + j.val) * n + k.val
    rw [hk, hn]; ring)

/-- Merging the middle two axes of four. -/
theorem merge_middle {α : Type} {a b c d n : ℕ} (X : (⟨4, ![a, c, d, b]⟩ : Shape).Idx → α) (h : (⟨4, ![a, c, d, b]⟩ : Shape).ShapeCasts ⟨3, ![a, n, b]⟩)
    (i : Fin a) (j : Fin b) (p : Fin c) (x : Fin d) (k : Fin n) (hn : n = c * d) (hk : k.val = p.val * d + x.val) :
    shapeCast ⟨3, ![a, n, b]⟩ X h (ix3 i k j) = X (ix4 i p x j) :=
  shapeCast_apply X h _ _ (by
    rw [Shape.rowMajor_val_four, Shape.rowMajor_val_three]
    show ((i.val * c + p.val) * d + x.val) * b + j.val = (i.val * n + k.val) * b + j.val
    rw [hk, hn]; ring)

theorem lane_eq (h : Fin 16) (x : Fin 128) : (lane h x).val = h.val * 128 + x.val := by
  show 128 * h.val + x.val = _
  rw [Nat.mul_comm]

/-- A narrowing is the identity. -/
theorem narrow_eq {s : Shape} (X : FVec Ideal s .f32) : (truncf .bf16 X bitsLt_bf16_f32 : s.Idx → EReal) = X := rfl

theorem split_at (X : FVec Ideal S16x2048x16x128 .f32) (b : Fin 16) (s : Fin 2048) (h : Fin 16) (x : Fin 128) :
    shapeCast S16x2048x2048 X shapeCasts_S16x2048x16x128_S16x2048x2048 (ix3 b s (lane h x)) = X (ix4 b s h x) :=
  merge_last (a := 16) (b := 2048) (c := 16) (d := 128) (n := 2048) X shapeCasts_S16x2048x16x128_S16x2048x2048 b s h x (lane h x) (by norm_num) (lane_eq h x)

theorem split_transposed_at (X : FVec Ideal S16x2048x16x128 .f32) (b : Fin 16) (s : Fin 2048) (h : Fin 16) (x : Fin 128) :
    shapeCast S16x2048x2048 (transpose S16x16x128x2048 [0, 2, 3, 1] X transposes_S16x2048x16x128_S16x16x128x2048_0_2_3_1)
      shapeCasts_S16x16x128x2048_S16x2048x2048 (ix3 b (lane h x) s) = X (ix4 b s h x) := by
  refine (merge_middle (a := 16) (b := 2048) (c := 16) (d := 128) (n := 2048) _ shapeCasts_S16x16x128x2048_S16x2048x2048 b s h x (lane h x) (by norm_num) (lane_eq h x)).trans ?_
  pointwise

theorem queries_at (b : Fin 16) (s : Fin 2048) (h : Fin 16) (x : Fin 128) :
    (show EReal from queries (F := Ideal) q cum (ix3 b s (lane h x))) = sideBySide q ones3 (parts cum) zeros58 (ix4 b s h x) :=
  (congrFun (narrow_eq _) _).trans (split_at _ b s h x)

theorem keys_at (b : Fin 16) (s : Fin 2048) (h : Fin 16) (x : Fin 128) :
    (show EReal from keys (F := Ideal) k cum (ix3 b (lane h x) s)) = sideBySide k (Host.negf (parts cum)) ones3 zeros58 (ix4 b s h x) :=
  (congrFun (narrow_eq _) _).trans (split_transposed_at _ b s h x)

/-- The values' operand: the values on a head's first 64 lanes, ones on the others. -/
theorem vals_at (b : Fin 16) (s : Fin 2048) (h : Fin 16) (x : Fin 128) :
    (show EReal from vals (F := Ideal) v (ix3 b (lane h x) s)) = if hx : x.val < 64 then v (ix4 b s h ⟨x.val, hx⟩) else 1 := by
  refine (congrFun (narrow_eq _) _).trans ((split_transposed_at _ b s h x).trans ?_)
  pointwise

theorem sideBySide_at (a : FVec Ideal S16x2048x16x64 .f32) (x y : FVec Ideal S16x2048x16x3 .f32) (z : FVec Ideal S16x2048x16x58 .f32)
    (b : Fin 16) (s : Fin 2048) (h : Fin 16) (l : Fin 128) : sideBySide a x y z (ix4 b s h l) =
      if h0 : l.val < 64 then a (ix4 b s h ⟨l.val, h0⟩) else if h1 : l.val - 64 < 3 then x (ix4 b s h ⟨l.val - 64, h1⟩)
      else if h2 : l.val - 64 - 3 < 3 then y (ix4 b s h ⟨l.val - 64 - 3, h2⟩) else z (ix4 b s h ⟨l.val - 64 - 3 - 3, by omega⟩) := by
  pointwise [sideBySide]

theorem side_sum (a a' : FVec Ideal S16x2048x16x64 .f32) (x x' y y' : FVec Ideal S16x2048x16x3 .f32) (z z' : FVec Ideal S16x2048x16x58 .f32)
    (b : Fin 16) (s s' : Fin 2048) (h : Fin 16) :
    (∑ l : Fin 128, sideBySide a x y z (ix4 b s h l) * sideBySide a' x' y' z' (ix4 b s' h l) : EReal)
      = (∑ l : Fin 64, a (ix4 b s h l) * a' (ix4 b s' h l)) + ((∑ l : Fin 3, x (ix4 b s h l) * x' (ix4 b s' h l))
        + ((∑ l : Fin 3, y (ix4 b s h l) * y' (ix4 b s' h l)) + ∑ l : Fin 58, z (ix4 b s h l) * z' (ix4 b s' h l))) := by
  refine (Fin.sum_univ_add (a := 64) (b := 64) fun l : Fin (64 + 64) => (sideBySide a x y z (ix4 b s h l) * sideBySide a' x' y' z' (ix4 b s' h l) : EReal)).trans ?_
  refine congrArg₂ (· + ·) (Finset.sum_congr rfl fun l _ => ?_) ((Fin.sum_univ_add (a := 3) (b := 61) _).trans
    (congrArg₂ (· + ·) (Finset.sum_congr rfl fun l _ => ?_) ((Fin.sum_univ_add (a := 3) (b := 58) _).trans
      (congrArg₂ (· + ·) (Finset.sum_congr rfl fun l _ => ?_) (Finset.sum_congr rfl fun l _ => ?_)))))
  · have hl : l.val < 64 := l.isLt
    rw [sideBySide_at, sideBySide_at]
    simp only [Fin.val_castAdd, hl, dif_pos]
  · have hl : l.val < 3 := l.isLt
    rw [sideBySide_at, sideBySide_at]
    simp only [Fin.val_castAdd, Fin.val_natAdd, show ¬(64 + l.val < 64) by omega, show 64 + l.val - 64 = l.val by omega, hl, dif_pos, dif_neg, not_false_eq_true]
  · have hl : l.val < 3 := l.isLt
    rw [sideBySide_at, sideBySide_at]
    simp only [Fin.val_castAdd, Fin.val_natAdd, show ¬(64 + (3 + l.val) < 64) by omega, show 64 + (3 + l.val) - 64 = 3 + l.val by omega,
      show ¬(3 + l.val < 3) by omega, show 3 + l.val - 3 = l.val by omega, hl, dif_pos, dif_neg, not_false_eq_true]
  · have hl : l.val < 58 := l.isLt
    rw [sideBySide_at, sideBySide_at]
    simp only [Fin.val_castAdd, Fin.val_natAdd, show ¬(64 + (3 + (3 + l.val)) < 64) by omega, show 64 + (3 + (3 + l.val)) - 64 = 3 + (3 + l.val) by omega,
      show ¬(3 + (3 + l.val) < 3) by omega, show 3 + (3 + l.val) - 3 = 3 + l.val by omega, show 3 + l.val - 3 = l.val by omega, show ¬(3 + l.val < 3) by omega, dif_neg, not_false_eq_true]

theorem parts_at (b : Fin 16) (s : Fin 2048) (h : Fin 16) (hc : ∃ x : ℝ, cum (ix3 b s h) = (x : EReal)) (l : Fin 3) :
    (show EReal from parts (F := Ideal) cum (ix4 b s h l)) = if l = 0 then cum (ix3 b s h) else 0 := by
  obtain ⟨x, e⟩ := hc
  have hx : (cum (ix3 b s h) : EReal) - cum (ix3 b s h) = 0 := by
    rw [e, ← EReal.coe_sub, sub_self]; rfl
  have h2 : (show EReal from part2 (F := Ideal) cum (ix3 b s h)) = 0 := by
    pointwise [part2, part1]
    exact hx
  have h3 : (show EReal from part3 (F := Ideal) cum (ix3 b s h)) = 0 := by
    pointwise [part3, part2, part1]
    rw [hx]
    exact sub_zero _
  fin_cases l
  · pointwise [parts, part1]
  · pointwise [parts]
    exact h2
  · pointwise [parts]
    exact h3

/-- The layer's score of a query and a key: their product, moved by the gates' sums. -/
def scoreOf (b h : Fin 16) (s s' : Fin 2048) : EReal :=
  (∑ d : Fin 64, q (ix4 b s h d) * k (ix4 b s' h d)) + cum (ix3 b s h) - cum (ix3 b s' h)

/-- The operands' product over a head's lanes is the layer's score. -/
theorem head_score (b h : Fin 16) (s s' : Fin 2048) (hc : ∀ j, ∃ x : ℝ, cum j = (x : EReal)) :
    (∑ x : Fin 128, (show EReal from queries (F := Ideal) q cum (ix3 b s (lane h x))) * (show EReal from keys (F := Ideal) k cum (ix3 b (lane h x) s')) : EReal)
      = scoreOf q k cum b h s s' := by
  simp only [queries_at, keys_at]
  rw [side_sum]
  have n_at : ∀ l : Fin 3, (show EReal from Host.negf (parts (F := Ideal) cum) (ix4 b s' h l)) = if l = 0 then -cum (ix3 b s' h) else 0 := by
    intro l
    have := parts_at cum b s' h (hc _) l
    have e : (show EReal from Host.negf (parts (F := Ideal) cum) (ix4 b s' h l)) = -(show EReal from parts (F := Ideal) cum (ix4 b s' h l)) := by pointwise
    rw [e, this]
    split_ifs
    · rfl
    · exact neg_zero
  have o_at : ∀ (s : Fin 2048) (l : Fin 3), (show EReal from ones3 (F := Ideal) (ix4 b s h l)) = 1 := by intro s l; pointwise [ones3]
  have z_at : ∀ (s : Fin 2048) (l : Fin 58), (show EReal from zeros58 (F := Ideal) (ix4 b s h l)) = 0 := by intro s l; pointwise [zeros58]
  have e1 : (∑ l : Fin 3, (show EReal from ones3 (F := Ideal) (ix4 b s h l)) * (show EReal from Host.negf (parts (F := Ideal) cum) (ix4 b s' h l)) : EReal) = -cum (ix3 b s' h) := by
    simp only [n_at, o_at, one_mul]
    rw [Fin.sum_univ_three]
    show (-cum (ix3 b s' h) + 0 + 0 : EReal) = _
    rw [add_zero, add_zero]
  have e2 : (∑ l : Fin 3, (show EReal from parts (F := Ideal) cum (ix4 b s h l)) * (show EReal from ones3 (F := Ideal) (ix4 b s' h l)) : EReal) = cum (ix3 b s h) := by
    simp only [parts_at cum b s h (hc _), o_at, mul_one]
    rw [Fin.sum_univ_three]
    show (cum (ix3 b s h) + 0 + 0 : EReal) = _
    rw [add_zero, add_zero]
  have e3 : (∑ l : Fin 58, (show EReal from zeros58 (F := Ideal) (ix4 b s h l)) * (show EReal from zeros58 (F := Ideal) (ix4 b s' h l)) : EReal) = 0 := by
    simp only [z_at, mul_zero]
    exact Finset.sum_const_zero
  refine (congrArg₂ (· + ·) rfl (congrArg₂ (· + ·) e1 (congrArg₂ (· + ·) e2 e3))).trans ?_
  unfold scoreOf
  rw [add_zero, sub_eq_add_neg, add_assoc, add_comm (-cum (ix3 b s' h) : EReal)]

/-- Where queries, keys and sums are real, so is every score. -/
theorem scoreOf_real (b h : Fin 16) (s s' : Fin 2048) (hq : ∀ j, ∃ x : ℝ, q j = (x : EReal)) (hk : ∀ j, ∃ x : ℝ, k j = (x : EReal))
    (hc : ∀ j, ∃ x : ℝ, cum j = (x : EReal)) : ∃ x : ℝ, scoreOf q k cum b h s s' = x := by
  choose fq eq using hq
  choose fk ek using hk
  choose fc ec using hc
  refine ⟨(∑ d : Fin 64, fq (ix4 b s h d) * fk (ix4 b s' h d)) + fc (ix3 b s h) - fc (ix3 b s' h), ?_⟩
  unfold scoreOf
  rw [EReal.coe_sub, EReal.coe_add, Cert.FoxMath.coe_sum_real, ec, ec]
  refine congrArg₂ (· - ·) (congrArg₂ (· + ·) (Finset.sum_congr rfl fun d _ => ?_) rfl) rfl
  rw [eq, ek, EReal.coe_mul]

end Cert.KernelIdeal.Fox

end
-- ==== Proof.FoxRead.lean ====
/- One grid point's stores read back over the extended reals: what every head's part of the three arrays holds after them. -/
module

public import proofs.«01_k».proof.Proof.FoxStep
public import proofs.«01_k».proof.Proof.FoxHeadsAt
public import proofs.«01_k».proof.Proof.FoxScores

@[expose] public section

set_option maxRecDepth 16384

noncomputable section

namespace Cert.KernelIdeal.Fox

open Idealize.ShloMosaic Idealize.ShloMosaic.TcCoe
open Cert.KernelIdeal.Gen Cert.FoxMath

variable (x0 : FVec Ideal S1x512x2048 .bf16) (x1 x2 : FVec Ideal S1x2048x512 .bf16)
  (xm : FVec Ideal S16x512x128 .f32) (xa : FVec Ideal S512x2048 .f32)

/-- Head `h`'s score of a block's row and a block's key. -/
abbrev blockScore (h : Fin 16) (r c : Fin 512) : EReal := ∑ x : Fin 128, x0 (ix3 0 r (lane h x)) * x1 (ix3 0 (lane h x) c)

/-- A head's blocks of the arrays. -/
abbrev ldQ (h : Fin 16) : FVec Ideal S1x512x128 .bf16 := View.ld (Val := Elt Ideal) (e' := .bf16) x0 (lanesRect h)
abbrev ldK (h : Fin 16) : FVec Ideal S1x128x512 .bf16 := View.ld (Val := Elt Ideal) (e' := .bf16) x1 (rowsRect h)
abbrev ldM (h : Fin 16) : FVec Ideal S1x512x128 .f32 := View.ld (Val := Elt Ideal) (e' := .f32) xm (headRect h)
abbrev ldA (h : Fin 16) : FVec Ideal S512x128 .f32 := View.ld (Val := Elt Ideal) (e' := .f32) xa (sumsRect h)

theorem ld_lanes (h : Fin 16) (r : Fin 512) (x : Fin 128) :
    ldQ x0 h (ix3 0 r x) = x0 (ix3 0 r (lane h x)) :=
  View.ld_unit_apply_of _ _ _ _ _ _ fun a => by fin_cases a <;> simp [lane]
theorem ld_rows (h : Fin 16) (x : Fin 128) (r : Fin 512) :
    ldK x1 h (ix3 0 x r) = x1 (ix3 0 (lane h x) r) :=
  View.ld_unit_apply_of _ _ _ _ _ _ fun a => by fin_cases a <;> simp [lane]
theorem ld_head (h : Fin 16) (r : Fin 512) (l : Fin 128) :
    ldM xm h (ix3 0 r l) = xm (ix3 h r l) :=
  View.ld_unit_apply_of _ _ _ _ _ _ fun a => by fin_cases a <;> simp
theorem ld_sums (h : Fin 16) (r : Fin 512) (x : Fin 128) :
    ldA xa h (ix2 r x) = xa (ix2 r (lane h x)) :=
  View.ld_unit_apply_of _ _ _ _ _ _ fun a => by fin_cases a <;> simp [lane]

theorem ld_rows_sum (h : Fin 16) (l : Fin 128) (w : Fin 512 → EReal) :
    ∑ c, w c * (show EReal from ldK x1 h (ix3 0 l c)) = ∑ c, w c * x1 (ix3 0 (lane h l) c) :=
  Finset.sum_congr rfl fun c _ => congrArg (w c * ·) (ld_rows x1 h l c)

/-- One piece a head, read back in a head's part of the maximum. -/
theorem heads_read (P : Fin 16 → Vec Ideal S1x512x128 .f32) (h : Fin 16) (r : Fin 512) (l : Fin 128) :
    View.canon (heads.map fun h => (⟨headRect h, P h⟩ : View.Piece (Elt Ideal) S16x512x128 .f32)) (ix3 h r l) = P h (ix3 0 r l) := by
  refine View.canon_eq_of_allAt _ _ _ (heads_cover _ _) ?_
  intro p hp x hx
  obtain ⟨h', -, rfl⟩ := List.mem_map.1 hp
  have e : ∀ a, (![h'.val, 0, 0] : Fin 3 → ℕ) a + (x a : ℕ) = (ix3 h r l a : ℕ) := fun a =>
    (ValueKit.rect_emb_unit_val (s := S16x512x128) ![h'.val, 0, 0] S1x512x128.size (inbHead h') x a).symm.trans (congrArg (fun y => (y a : ℕ)) hx)
  have b0 : (x 0 : ℕ) < 1 := (x 0).isLt
  have e0 : h'.val + (x 0 : ℕ) = h.val := e 0
  have e1 : 0 + (x 1 : ℕ) = r.val := e 1
  have e2 : 0 + (x 2 : ℕ) = l.val := e 2
  obtain rfl : h' = h := Fin.ext (by omega)
  exact congrArg (P h') (funext fun a => Fin.ext (by
    fin_cases a
    · show (x 0 : ℕ) = 0; omega
    · show (x 1 : ℕ) = r.val; omega
    · show (x 2 : ℕ) = l.val; omega))

/-- One piece a head, read back in a head's lanes of the sums. -/
theorem sums_read (P : Fin 16 → Vec Ideal S512x128 .f32) (h : Fin 16) (r : Fin 512) (l : Fin 128) :
    View.canon (heads.map fun h => (⟨sumsRect h, P h⟩ : View.Piece (Elt Ideal) S512x2048 .f32)) (ix2 r (lane h l)) = P h (ix2 r l) := by
  refine View.canon_eq_of_allAt _ _ _ (sums_cover _ _) ?_
  intro p hp x hx
  obtain ⟨h', -, rfl⟩ := List.mem_map.1 hp
  have e : ∀ a, (![0, 128 * h'.val] : Fin 2 → ℕ) a + (x a : ℕ) = (ix2 r (lane h l) a : ℕ) := fun a =>
    (ValueKit.rect_emb_unit_val (s := S512x2048) ![0, 128 * h'.val] S512x128.size (inbSums h') x a).symm.trans (congrArg (fun y => (y a : ℕ)) hx)
  have b1 : (x 1 : ℕ) < 128 := (x 1).isLt
  have e0 : 0 + (x 0 : ℕ) = r.val := e 0
  have e1 : 128 * h'.val + (x 1 : ℕ) = 128 * h.val + l.val := e 1
  have := l.isLt
  obtain rfl : h' = h := Fin.ext (by omega)
  exact congrArg (P h') (funext fun a => Fin.ext (by
    fin_cases a
    · show (x 0 : ℕ) = r.val; omega
    · show (x 1 : ℕ) = l.val; omega))

/-- The pair a head belongs to. -/
abbrev pairOf (h : Fin 16) : Fin 8 := ⟨h.val / 2, by omega⟩
/-- The pair's lane that holds a head's result `d`. -/
abbrev pairLane (h : Fin 16) (d : Fin 64) : Fin 128 := ⟨h.val % 2 * 64 + d.val, by omega⟩
/-- The result's lane of a head. -/
abbrev outLane (h : Fin 16) (d : Fin 64) : Fin 1024 := ⟨h.val * 64 + d.val, by omega⟩

/-- One piece a pair of heads, read back at a head's result. -/
theorem pairs_read (P : Fin 8 → Vec Ideal S1x512x128 .bf16) (h : Fin 16) (r : Fin 512) (d : Fin 64) :
    View.canon (pairs.map fun p => (⟨pairRect p, P p⟩ : View.Piece (Elt Ideal) S1x512x1024 .bf16)) (ix3 0 r (outLane h d))
      = P (pairOf h) (ix3 0 r (pairLane h d)) := by
  refine View.canon_eq_of_allAt _ _ _ (pairs_cover _ _) ?_
  intro p hp x hx
  obtain ⟨p', -, rfl⟩ := List.mem_map.1 hp
  have e : ∀ a, (![0, 0, 128 * p'.val] : Fin 3 → ℕ) a + (x a : ℕ) = (ix3 (0 : Fin 1) r (outLane h d) a : ℕ) := fun a =>
    (ValueKit.rect_emb_unit_val (s := S1x512x1024) ![0, 0, 128 * p'.val] S1x512x128.size (inbPair p') x a).symm.trans (congrArg (fun y => (y a : ℕ)) hx)
  have b0 : (x 0 : ℕ) < 1 := (x 0).isLt
  have b2 : (x 2 : ℕ) < 128 := (x 2).isLt
  have e1 : 0 + (x 1 : ℕ) = r.val := e 1
  have e2 : 128 * p'.val + (x 2 : ℕ) = h.val * 64 + d.val := e 2
  have := d.isLt
  obtain rfl : p' = pairOf h := Fin.ext (by show p'.val = h.val / 2; omega)
  exact congrArg (P _) (funext fun a => Fin.ext (by
    fin_cases a
    · show (x 0 : ℕ) = 0; omega
    · show (x 1 : ℕ) = r.val; omega
    · show (x 2 : ℕ) = h.val % 2 * 64 + d.val
      have : 128 * (h.val / 2) + (x 2 : ℕ) = h.val * 64 + d.val := e2
      omega))

theorem score_loaded (h : Fin 16) (r c : Fin 512) :
    score (ldQ x0 h) (ldK x1 h) r c = blockScore x0 x1 h r c :=
  Finset.sum_congr rfl fun x _ => congrArg₂ (· * ·) (ld_lanes x0 h r x) (ld_rows x1 h x c)

theorem score_loaded_row (h : Fin 16) (r : Fin 512) :
    score (ldQ x0 h) (ldK x1 h) r = blockScore x0 x1 h r :=
  funext fun c => score_loaded x0 x1 h r c

theorem own_loaded_row (h : Fin 16) (r : Fin 512) :
    ownScore (ldQ x0 h) (ldK x1 h) r
      = fun c => if c ≤ r then blockScore x0 x1 h r c else ⊥ :=
  funext fun c => by unfold ownScore; rw [score_loaded]

/-- The maximum as stored: head by head. -/
theorem stored_max (w : FVec Ideal S512x128 .f32) (r : Fin 512) (l : Fin 128) : k0_pay13 (F := Ideal) w (ix3 0 r l) = w (ix2 r l) := by
  pointwise [k0_pay13]

theorem past_max_read (h : Fin 16) (r : Fin 512) (l : Fin 128) :
    View.canon (pastMaxPieces (F := Ideal) x0 x1 xm) (ix3 h r l) = max (xm (ix3 h r l)) (rowMax (blockScore x0 x1 h r)) := by
  refine (heads_read _ h r l).trans ((stored_max _ r l).trans ((pastMax_at (ldQ x0 h) (ldK x1 h) (ldM xm h) r l).trans ?_))
  rw [ld_head, score_loaded_row]

theorem past_sums_read (h : Fin 16) (r : Fin 512) (l : Fin 128) (M : EReal) (hM : ∀ l, xm (ix3 h r l) = M) :
    View.canon (pastSumsPieces (F := Ideal) x0 x1 x2 xm xa) (ix2 r (lane h l))
      = xa (ix2 r (lane h l)) * weight M (max M (rowMax (blockScore x0 x1 h r)))
        + ∑ c, weight (blockScore x0 x1 h r c) (max M (rowMax (blockScore x0 x1 h r))) * x2 (ix3 0 (lane h l) c) := by
  refine (sums_read _ h r l).trans ((pastSums_at (ldQ x0 h) (ldK x1 h) (ldK x2 h) (ldM xm h) (ldA xa h) r l M fun l' => (ld_head xm h r l').trans (hM l')).trans ?_)
  rw [ld_sums, score_loaded_row]
  exact congrArg (_ + ·) (ld_rows_sum x2 h l _)

/-- A head's sums over the query block's own key block. -/
abbrev diagSum (h : Fin 16) (r : Fin 512) (l : Fin 128) (M : EReal) : EReal :=
  xa (ix2 r (lane h l)) * weight M (max M (rowMax fun c => if c ≤ r then blockScore x0 x1 h r c else ⊥))
    + ∑ c, weight (if c ≤ r then blockScore x0 x1 h r c else ⊥) (max M (rowMax fun c => if c ≤ r then blockScore x0 x1 h r c else ⊥))
        * x2 (ix3 0 (lane h l) c)

theorem head_out_at (h : Fin 16) (r : Fin 512) (d : Fin 64) (M : EReal) (hM : ∀ l, xm (ix3 h r l) = M) :
    headOut (F := Ideal) x0 x1 x2 xm xa h (ix2 r ⟨d.val, by omega⟩)
      = diagSum x0 x1 x2 xa h r ⟨d.val, by omega⟩ M * Ideal.div 1 (diagSum x0 x1 x2 xa h r ⟨d.val + 64, by omega⟩ M) := by
  refine (ownOut_at (ldQ x0 h) (ldK x1 h) (ldK x2 h) (ldM xm h) (ldA xa h) r _ M fun l' => (ld_head xm h r l').trans (hM l')).trans ?_
  have e : (⟨(d.val + 128 - 64) % 128, Nat.mod_lt _ (by decide)⟩ : Fin 128) = ⟨d.val + 64, by omega⟩ := Fin.ext (by
    show (d.val + 128 - 64) % 128 = d.val + 64; omega)
  unfold ownSum diagSum
  rw [e, own_loaded_row, ld_sums, ld_sums]
  exact congrArg₂ (fun x y => x * Ideal.div 1 y) (congrArg (_ + ·) (ld_rows_sum x2 h _ _)) (congrArg (_ + ·) (ld_rows_sum x2 h _ _))

theorem out_read (h : Fin 16) (r : Fin 512) (d : Fin 64) (M : EReal) (hM : ∀ l, xm (ix3 h r l) = M) :
    (show EReal from View.canon (outPieces (F := Ideal) x0 x1 x2 xm xa) (ix3 0 r (outLane h d)))
      = diagSum x0 x1 x2 xa h r ⟨d.val, by omega⟩ M * Ideal.div 1 (diagSum x0 x1 x2 xa h r ⟨d.val + 64, by omega⟩ M) := by
  refine (pairs_read _ h r d).trans ((paired_at _ _ r (pairLane h d)).trans ?_)
  have hd := d.isLt
  rcases Nat.mod_two_eq_zero_or_one h.val with h2 | h2
  · rw [dif_pos (show h.val % 2 * 64 + d.val < 64 by omega)]
    have e1 : evenHead (pairOf h) = h := Fin.ext (by show 2 * (h.val / 2) = h.val; omega)
    have e2 : pairLane h d = ⟨d.val, by omega⟩ := Fin.ext (by show h.val % 2 * 64 + d.val = d.val; omega)
    rw [e1, e2]
    exact head_out_at x0 x1 x2 xm xa h r d M hM
  · rw [dif_neg (show ¬h.val % 2 * 64 + d.val < 64 by omega)]
    have e1 : oddHead (pairOf h) = h := Fin.ext (by show 2 * (h.val / 2) + 1 = h.val; omega)
    have e2 : (⟨(pairLane h d).val - 64, by omega⟩ : Fin 128) = ⟨d.val, by omega⟩ := Fin.ext (by show h.val % 2 * 64 + d.val - 64 = d.val; omega)
    rw [e1, e2]
    exact head_out_at x0 x1 x2 xm xa h r d M hM

end Cert.KernelIdeal.Fox

end
-- ==== Proof.FoxBlocks.lean ====
/- Where the attention kernel's blocks lie in its arrays. -/
module

public import proofs.«01_k».proof.Proof.Gen.KernelIdeal.Frame
public import Idealize.ShloMosaic.Lib.Pipeline.ValueKit

@[expose] public section

set_option maxRecDepth 16384

noncomputable section

namespace Cert.KernelIdeal.Fox

open Idealize.ShloMosaic Idealize.ShloMosaic.TcCoe
open Cert.KernelIdeal Cert.KernelIdeal.Gen

theorem idx : ∀ t : Fin cfg0.N, win0_0.index t = ![t.val / 16, t.val / 4 % 4, 0] ∧ win0_1.index t = ![t.val / 16, 0, min (t.val / 4 % 4) (t.val % 4)]
    ∧ win0_2.index t = ![t.val / 16, 0, min (t.val / 4 % 4) (t.val % 4)]
    ∧ win0_3.index t = ![t.val / 16, t.val / 4 % 4, 0] ∧ t.val / 16 < 16 :=
  (by decide +kernel : ∀ t : Fin grid0.N, _)

/-- A block of queries read at a row and a lane. -/
theorem blk0_at (A : FVec Ideal S16x2048x2048 .bf16) (t : Fin cfg0.N) (r : Fin 512) (k : Fin 2048) (b : Fin 16) (s : Fin 2048)
    (hb : (b : ℕ) = t.val / 16) (hs : (s : ℕ) = t.val / 4 % 4 * 512 + r) :
    (((cfg0.win 0).blk t).view.read (Elt Ideal) (A : S16x2048x2048.Idx → Elt Ideal .bf16) : FVec Ideal S1x512x2048 .bf16) (ix3 0 r k) = A (ix3 b s k) := by
  blk_ext [idx t]

/-- A block of transposed keys read at a lane and a key, at a point that does not pass the query block. -/
theorem blk1_at (A : FVec Ideal S16x2048x2048 .bf16) (t : Fin cfg0.N) (ht : t.val % 4 ≤ t.val / 4 % 4) (k : Fin 2048) (r : Fin 512) (b : Fin 16) (s : Fin 2048)
    (hb : (b : ℕ) = t.val / 16) (hs : (s : ℕ) = t.val % 4 * 512 + r) :
    (((cfg0.win 1).blk t).view.read (Elt Ideal) (A : S16x2048x2048.Idx → Elt Ideal .bf16) : FVec Ideal S1x2048x512 .bf16) (ix3 0 k r) = A (ix3 b k s) := by
  have hmin : min (t.val / 4 % 4) (t.val % 4) = t.val % 4 := min_eq_right ht
  blk_ext [idx t, hmin]

/-- A block of transposed values read at a lane and a key, at a point that does not pass the query block. -/
theorem blk2_at (A : FVec Ideal S16x2048x2048 .bf16) (t : Fin cfg0.N) (ht : t.val % 4 ≤ t.val / 4 % 4) (k : Fin 2048) (r : Fin 512) (b : Fin 16) (s : Fin 2048)
    (hb : (b : ℕ) = t.val / 16) (hs : (s : ℕ) = t.val % 4 * 512 + r) :
    (((cfg0.win 2).blk t).view.read (Elt Ideal) (A : S16x2048x2048.Idx → Elt Ideal .bf16) : FVec Ideal S1x2048x512 .bf16) (ix3 0 k r) = A (ix3 b k s) := by
  have hmin : min (t.val / 4 % 4) (t.val % 4) = t.val % 4 := min_eq_right ht
  blk_ext [idx t, hmin]

end Cert.KernelIdeal.Fox

end
-- ==== Proof.FoxRuns.lean ====
/- The attention kernel's running maximum and sums over the extended reals: before key block `j` they are those of the
   first `j` key blocks, and the stored result is the weighted mean over the key blocks up to the query block's own. -/
module

public import proofs.«01_k».proof.Proof.FoxFrame
public import proofs.«01_k».proof.Proof.FoxRead
public import proofs.«01_k».proof.Proof.FoxBlocks

@[expose] public section

set_option maxRecDepth 16384

noncomputable section

namespace Cert.KernelIdeal.Fox

open Idealize.ShloMosaic Idealize.ShloMosaic.TcCoe
open Cert.KernelIdeal Cert.KernelIdeal.Gen Cert.FoxMath

section Rows

variable (q k v : FVec Ideal S16x2048x16x64 .f32) (cum : FVec Ideal S16x2048x16 .f32)

/-- A query's scores by key block, masked out for keys after the query. -/
def masked (b h : Fin 16) (s : Fin 2048) : ℕ → Fin 512 → EReal := fun j c =>
  if hj : j * 512 + c.val < 2048 then (if j * 512 + c.val ≤ s.val then scoreOf q k cum b h s ⟨j * 512 + c.val, hj⟩ else ⊥) else ⊥

/-- A lane of the values' operand by key block. -/
def valueRow (b h : Fin 16) (l : Fin 128) : ℕ → Fin 512 → EReal := fun j c =>
  if hj : j * 512 + c.val < 2048 then (if hl : l.val < 64 then v (ix4 b ⟨j * 512 + c.val, hj⟩ h ⟨l.val, hl⟩) else 1) else 1

theorem valueRow_ones (b h : Fin 16) (d : Fin 64) : valueRow v b h ⟨d.val + 64, by omega⟩ = fun _ _ => 1 := by
  funext j c
  unfold valueRow
  split
  · exact dif_neg (show ¬d.val + 64 < 64 by omega)
  · rfl

theorem masked_lt_top (hs : ∀ b h s s', ∃ x : ℝ, scoreOf q k cum b h s s' = x) (b h : Fin 16) (s : Fin 2048) (j : ℕ) (c : Fin 512) :
    masked q k cum b h s j c < ⊤ := by
  unfold masked
  split
  · split
    · obtain ⟨x, hx⟩ := hs b h s ⟨j * 512 + c.val, by assumption⟩
      rw [hx]; exact EReal.coe_lt_top x
    · exact bot_lt_top
  · exact bot_lt_top

theorem masked_after (b h : Fin 16) (s : Fin 2048) (j : ℕ) (hj : s.val < j * 512) (c : Fin 512) : masked q k cum b h s j c = ⊥ := by
  unfold masked
  split
  · exact if_neg (by omega)
  · rfl

/-- A row's result: the weighted mean of the values over all key blocks. -/
def meanOf (b h : Fin 16) (s : Fin 2048) (d : Fin 64) : EReal :=
  ∑ j ∈ Finset.range 4, ∑ c, Ideal.div (weight (masked q k cum b h s j c) (runMax (masked q k cum b h s) 4))
    (runSum (masked q k cum b h s) (fun _ _ => 1) (runMax (masked q k cum b h s) 4) 4) * valueRow v b h ⟨d.val, by omega⟩ j c

/-- The sums up to the query's own key block make the mean over all of them. -/
theorem mean_eq (hs : ∀ b h s s', ∃ x : ℝ, scoreOf q k cum b h s s' = x) (b h : Fin 16) (s : Fin 2048) (d : Fin 64) (i : ℕ)
    (hi : i < 4) (r : Fin 512) (hsi : s.val = i * 512 + r.val) :
    runSum (masked q k cum b h s) (valueRow v b h ⟨d.val, by omega⟩) (runMax (masked q k cum b h s) (i + 1)) (i + 1)
      * Ideal.div 1 (runSum (masked q k cum b h s) (fun _ _ => 1) (runMax (masked q k cum b h s) (i + 1)) (i + 1))
      = meanOf q k v cum b h s d := by
  have hm : ∀ j, i + 1 ≤ j → ∀ c, masked q k cum b h s j c = ⊥ := fun j hj c => masked_after q k cum b h s j (by have := r.isLt; omega) c
  have e4 : i + 1 + (3 - i) = 4 := by omega
  have h1 := runMax_masked _ (i + 1) (3 - i) hm
  have h2 := runSum_masked _ (valueRow v b h ⟨d.val, by omega⟩) (runMax (masked q k cum b h s) (i + 1)) (i + 1) (3 - i) hm
  have h3 := runSum_masked _ (fun _ _ => 1) (runMax (masked q k cum b h s) (i + 1)) (i + 1) (3 - i) hm
  rw [e4] at h1 h2 h3
  rw [← h2, ← h3, ← h1]
  refine runSum_div _ _ (masked_lt_top q k cum hs b h s) 4 i hi r ?_
  unfold masked
  rw [dif_pos (show i * 512 + r.val < 2048 by have := r.isLt; omega), if_pos (by omega)]
  obtain ⟨x, hx⟩ := hs b h s ⟨i * 512 + r.val, by have := r.isLt; omega⟩
  rw [hx]; exact EReal.coe_ne_bot x

end Rows

variable (m : (ℓ : Loc nD τ sig) → Buf (Elt Ideal) ℓ) (c : Dev nD)

/-- The program's arguments on a device. -/
abbrev argQ : FVec Ideal S16x2048x16x64 .f32 := m ((c.tc : Thread nD τ).loc main_arg0)
abbrev argK : FVec Ideal S16x2048x16x64 .f32 := m ((c.tc : Thread nD τ).loc main_arg1)
abbrev argV : FVec Ideal S16x2048x16x64 .f32 := m ((c.tc : Thread nD τ).loc main_arg2)
abbrev argCum : FVec Ideal S16x2048x16 .f32 := m ((c.tc : Thread nD τ).loc main_arg3)

/-- The three input blocks of a point. -/
abbrev qBlk (t : Fin cfg0.N) : FVec Ideal S1x512x2048 .bf16 := iblk m c 0 t
abbrev kBlk (t : Fin cfg0.N) : FVec Ideal S1x2048x512 .bf16 := iblk m c 1 t
abbrev vBlk (t : Fin cfg0.N) : FVec Ideal S1x2048x512 .bf16 := iblk m c 2 t

theorem qBlk_at (t : Fin cfg0.N) (r : Fin 512) (x : Fin 2048) (b : Fin 16) (s : Fin 2048)
    (hb : (b : ℕ) = t.val / 16) (hs : (s : ℕ) = t.val / 4 % 4 * 512 + r) :
    qBlk m c t (ix3 0 r x) = queries (argQ m c) (argCum m c) (ix3 b s x) :=
  (blk0_at (V m c main_v17) t r x b s hb hs).trans (congrFun (V_queries m c) _)
theorem kBlk_at (t : Fin cfg0.N) (ht : t.val % 4 ≤ t.val / 4 % 4) (x : Fin 2048) (r : Fin 512) (b : Fin 16) (s : Fin 2048)
    (hb : (b : ℕ) = t.val / 16) (hs : (s : ℕ) = t.val % 4 * 512 + r) :
    kBlk m c t (ix3 0 x r) = keys (argK m c) (argCum m c) (ix3 b x s) :=
  (blk1_at (V m c main_v22) t ht x r b s hb hs).trans (congrFun (V_keys m c) _)
theorem vBlk_at (t : Fin cfg0.N) (ht : t.val % 4 ≤ t.val / 4 % 4) (x : Fin 2048) (r : Fin 512) (b : Fin 16) (s : Fin 2048)
    (hb : (b : ℕ) = t.val / 16) (hs : (s : ℕ) = t.val % 4 * 512 + r) :
    vBlk m c t (ix3 0 x r) = vals (argV m c) (ix3 b x s) :=
  (blk2_at (V m c main_v27) t ht x r b s hb hs).trans (congrFun (V_vals m c) _)

/-- A point's block scores are the layer's. -/
theorem blockScore_eq (hc : ∀ j, ∃ x : ℝ, argCum m c j = x) (t : Fin cfg0.N) (ht : t.val % 4 ≤ t.val / 4 % 4) (h : Fin 16)
    (r x : Fin 512) (b : Fin 16) (s s' : Fin 2048) (hb : (b : ℕ) = t.val / 16) (hs : (s : ℕ) = t.val / 4 % 4 * 512 + r)
    (hs' : (s' : ℕ) = t.val % 4 * 512 + x) :
    blockScore (qBlk m c t) (kBlk m c t) h r x = scoreOf (argQ m c) (argK m c) (argCum m c) b h s s' :=
  (Finset.sum_congr rfl fun y _ => congrArg₂ (· * ·) (qBlk_at m c t r (lane h y) b s hb hs) (kBlk_at m c t ht (lane h y) x b s' hb hs')).trans
    (head_score _ _ _ b h s s' hc)

/-- The values of a point's block. -/
theorem vBlk_row (t : Fin cfg0.N) (ht : t.val % 4 ≤ t.val / 4 % 4) (h : Fin 16) (l : Fin 128) (x : Fin 512) (b : Fin 16)
    (hb : (b : ℕ) = t.val / 16) : vBlk m c t (ix3 0 (lane h l) x) = valueRow (argV m c) b h l (t.val % 4) x := by
  have hj : t.val % 4 * 512 + x.val < 2048 := by have := x.isLt; omega
  refine (vBlk_at m c t ht (lane h l) x b ⟨_, hj⟩ hb rfl).trans ((vals_at _ b ⟨_, hj⟩ h l).trans ?_)
  unfold valueRow
  rw [dif_pos hj]

/-- The masked row of scores of a query. -/
abbrev rowS (b h : Fin 16) (s : Fin 2048) : ℕ → Fin 512 → EReal := masked (argQ m c) (argK m c) (argCum m c) b h s

theorem past_row (hc : ∀ j, ∃ x : ℝ, argCum m c j = x) (t : Fin cfg0.N) (ht : t.val % 4 < t.val / 4 % 4) (h : Fin 16)
    (r : Fin 512) (b : Fin 16) (s : Fin 2048) (hb : (b : ℕ) = t.val / 16) (hs : (s : ℕ) = t.val / 4 % 4 * 512 + r) :
    blockScore (qBlk m c t) (kBlk m c t) h r = rowS m c b h s (t.val % 4) := by
  funext x
  have hj : t.val % 4 * 512 + x.val < 2048 := by have := x.isLt; omega
  rw [blockScore_eq m c hc t ht.le h r x b s ⟨_, hj⟩ hb hs rfl]
  unfold rowS masked
  rw [dif_pos hj, if_pos (by have := x.isLt; omega)]

theorem own_row (hc : ∀ j, ∃ x : ℝ, argCum m c j = x) (t : Fin cfg0.N) (ht : t.val % 4 = t.val / 4 % 4) (h : Fin 16)
    (r : Fin 512) (b : Fin 16) (s : Fin 2048) (hb : (b : ℕ) = t.val / 16) (hs : (s : ℕ) = t.val / 4 % 4 * 512 + r) :
    (fun x => if x ≤ r then blockScore (qBlk m c t) (kBlk m c t) h r x else ⊥) = rowS m c b h s (t.val % 4) := by
  funext x
  have hj : t.val % 4 * 512 + x.val < 2048 := by have := x.isLt; omega
  rw [blockScore_eq m c hc t ht.le h r x b s ⟨_, hj⟩ hb hs rfl]
  unfold rowS masked
  rw [dif_pos hj]
  by_cases hx : x ≤ r
  · rw [if_pos hx, if_pos (by have : x.val ≤ r.val := hx; omega)]
  · rw [if_neg hx, if_neg (by have : ¬x.val ≤ r.val := hx; omega)]

theorem reset_max (h : Fin 16) (r : Fin 512) (l : Fin 128) : k0_pay1 (F := Ideal) (ix3 h r l) = (⊥ : EReal) := by
  pointwise [k0_pay1]
  exact named_mask
theorem reset_sums (r : Fin 512) (l : Fin 2048) : k0_pay2 (F := Ideal) (ix2 r l) = (0 : EReal) := by
  pointwise [k0_pay2]

/-- What a row of the scratch arrays holds over the first `j` key blocks. -/
structure RowHolds (s : Carried Ideal) (S : ℕ → Fin 512 → EReal) (V : Fin 128 → ℕ → Fin 512 → EReal) (h : Fin 16) (r : Fin 512) (j : ℕ) : Prop where
  mx : ∀ l, (show EReal from s.mx (ix3 h r l)) = runMax S j
  sums : ∀ l, (show EReal from s.sums (ix2 r (lane h l))) = runSum S (V l) (runMax S j) j

section Fields
variable (i : grid0.Coords) (x0 : FVec Ideal S1x512x2048 .bf16) (x1 x2 : FVec Ideal S1x2048x512 .bf16) (st : Carried Ideal)
theorem past_mx (hp : Past i) : (advance i x0 x1 x2 st).mx = View.canon (pastMaxPieces (F := Ideal) x0 x1 st.mx) :=
  by unfold advance; rw [if_pos hp]
theorem past_sums (hp : Past i) : (advance i x0 x1 x2 st).sums = View.canon (pastSumsPieces (F := Ideal) x0 x1 x2 st.mx st.sums) :=
  by unfold advance; rw [if_pos hp]
theorem own_out (hp : ¬Past i) (hd : Diagonal i) :
    (advance i x0 x1 x2 st).out = View.canon (outPieces (F := Ideal) x0 x1 x2 st.mx st.sums) :=
  by unfold advance; rw [if_neg hp, if_pos hd]
end Fields

/-- One earlier key block takes a row one block on. -/
theorem row_step (x0 : FVec Ideal S1x512x2048 .bf16) (x1 x2 : FVec Ideal S1x2048x512 .bf16) (st : Carried Ideal)
    (S : ℕ → Fin 512 → EReal) (V : Fin 128 → ℕ → Fin 512 → EReal) (h : Fin 16) (r : Fin 512) (j : ℕ) (i : grid0.Coords) (hp : Past i)
    (hS : ∀ j x, S j x < ⊤) (hrow : blockScore x0 x1 h r = S j) (hv : ∀ l x, x2 (ix3 0 (lane h l) x) = V l j x)
    (I : RowHolds st S V h r j) : RowHolds (advance i x0 x1 x2 st) S V h r (j + 1) := by
  refine ⟨fun l => ?_, fun l => ?_⟩
  · refine (congrFun (past_mx i x0 x1 x2 st hp) _).trans ((past_max_read x0 x1 st.mx h r l).trans ?_)
    rw [hrow]
    exact congrArg (max · _) (I.mx l)
  · refine (congrFun (past_sums i x0 x1 x2 st hp) _).trans ((past_sums_read x0 x1 x2 st.mx st.sums h r l _ I.mx).trans ?_)
    rw [hrow]
    refine Eq.trans ?_ (runSum_succ S (V l) hS j)
    exact congrArg₂ (· + ·) (congrArg (· * _) (I.sums l)) (Finset.sum_congr rfl fun x _ => congrArg (_ * ·) (hv l x))

/-- The query block's own key block stores the ratio of the sums over it and the earlier ones. -/
theorem own_step (x0 : FVec Ideal S1x512x2048 .bf16) (x1 x2 : FVec Ideal S1x2048x512 .bf16) (st : Carried Ideal)
    (S : ℕ → Fin 512 → EReal) (V : Fin 128 → ℕ → Fin 512 → EReal) (h : Fin 16) (r : Fin 512) (j : ℕ) (i : grid0.Coords)
    (hp : ¬Past i) (hd : Diagonal i) (d : Fin 64)
    (hS : ∀ j x, S j x < ⊤) (hrow : (fun x => if x ≤ r then blockScore x0 x1 h r x else ⊥) = S j)
    (hv : ∀ l x, x2 (ix3 0 (lane h l) x) = V l j x) (I : RowHolds st S V h r j) :
    (show EReal from (advance i x0 x1 x2 st).out (ix3 0 r (outLane h d)))
      = runSum S (V ⟨d.val, by omega⟩) (runMax S (j + 1)) (j + 1)
        * Ideal.div 1 (runSum S (V ⟨d.val + 64, by omega⟩) (runMax S (j + 1)) (j + 1)) := by
  refine (congrFun (own_out i x0 x1 x2 st hp hd) _).trans ((out_read x0 x1 x2 st.mx st.sums h r d _ I.mx).trans ?_)
  have key : ∀ l, diagSum x0 x1 x2 st.sums h r l (runMax S j) = runSum S (V l) (runMax S (j + 1)) (j + 1) := fun l => by
    refine Eq.trans ?_ (runSum_succ S (V l) hS j)
    have hx : ∀ x : Fin 512, (if x ≤ r then blockScore x0 x1 h r x else ⊥) = S j x := fun x => congrFun hrow x
    unfold diagSum
    rw [hrow]
    exact congrArg₂ (· + ·) (congrArg (· * _) (I.sums l)) (Finset.sum_congr rfl fun x _ => congrArg₂ (· * ·) (congrArg (weight · _) (hx x)) (hv l x))
  rw [key, key]

theorem row_start (i : grid0.Coords) (h0 : Starts i) (st : Carried Ideal) (S : ℕ → Fin 512 → EReal) (V : Fin 128 → ℕ → Fin 512 → EReal)
    (h : Fin 16) (r : Fin 512) : RowHolds (reset i st) S V h r 0 := by
  rw [show reset i st = _ from if_pos h0]
  exact ⟨fun l => reset_max h r l, fun l => (reset_sums r (lane h l)).trans rfl⟩

theorem reset_later (i : grid0.Coords) (h0 : ¬Starts i) (st : Carried Ideal) : reset i st = st := if_neg h0

/-- Before the body's last two branches at key block `j`, up to the query block's own, a row holds the first `j` key blocks. -/
theorem row_holds (hc : ∀ j, ∃ x : ℝ, argCum m c j = x) (hr : ∀ b h s s', ∃ x : ℝ, scoreOf (argQ m c) (argK m c) (argCum m c) b h s s' = x)
    (b h : Fin 16) (s : Fin 2048) (i : ℕ) (hi : i < 4) (r : Fin 512) (hs : s.val = i * 512 + r.val) :
    ∀ j, j ≤ i → ∀ t : Fin cfg0.N, t.val = b.val * 16 + i * 4 + j →
      RowHolds (reset (grid0.coords t) (before m c t.val)) (rowS m c b h s) (valueRow (argV m c) b h) h r j := by
  intro j
  induction j with
  | zero =>
    intro _ t ht
    exact row_start _ ((starts_iff t).2 (by omega)) _ _ _ h r
  | succ j ih =>
    intro hj t ht
    have hN : t.val < cfg0.N := t.isLt
    have h0 : ¬Starts (grid0.coords t) := fun hh => by have := (starts_iff t).1 hh; omega
    rw [reset_later _ h0]
    obtain ⟨u, hu1⟩ : ∃ u : Fin cfg0.N, t.val = u.val + 1 := ⟨⟨t.val - 1, by omega⟩, by show t.val = t.val - 1 + 1; omega⟩
    have hum : u.val % 4 = j := by omega
    have hub : b.val = u.val / 16 := by omega
    have hui : u.val / 4 % 4 = i := by omega
    have hrow := past_row m c hc u (by omega) h r b s hub (by omega)
    have hv := fun l x => vBlk_row m c u (by omega) h l x b hub
    rw [hum] at hrow hv
    rw [hu1, before_succ]
    exact row_step _ _ _ _ _ _ h r j _ ((past_iff u).2 (by omega)) (masked_lt_top _ _ _ hr b h s) hrow hv
      (ih (by omega) u (by omega))

/-- What the query block's own key block stores. -/
theorem out_holds (hc : ∀ j, ∃ x : ℝ, argCum m c j = x) (hr : ∀ b h s s', ∃ x : ℝ, scoreOf (argQ m c) (argK m c) (argCum m c) b h s s' = x)
    (b h : Fin 16) (s : Fin 2048) (i : ℕ) (hi : i < 4) (r : Fin 512) (hs : s.val = i * 512 + r.val) (d : Fin 64)
    (t : Fin cfg0.N) (ht : t.val = b.val * 16 + i * 4 + i) :
    (show EReal from (before m c (t.val + 1)).out (ix3 0 r (outLane h d))) = meanOf (argQ m c) (argK m c) (argV m c) (argCum m c) b h s d := by
  have I := row_holds m c hc hr b h s i hi r hs i le_rfl t ht
  have htm : t.val % 4 = i := by omega
  have htb : b.val = t.val / 16 := by omega
  have hti : t.val / 4 % 4 = i := by omega
  have hp : ¬Past (grid0.coords t) := fun hh => by have := (past_iff t).1 hh; omega
  have hd : Diagonal (grid0.coords t) := (diagonal_iff t).2 (by omega)
  have hrow := own_row m c hc t (by omega) h r b s htb (by omega)
  have hv := fun l x => vBlk_row m c t (by omega) h l x b htb
  rw [htm] at hrow hv
  rw [before_succ]
  refine (own_step _ _ _ _ _ _ h r i _ hp hd d (masked_lt_top _ _ _ hr b h s) hrow hv I).trans ?_
  rw [valueRow_ones]
  exact mean_eq _ _ _ _ hr b h s d i hi r hs

end Cert.KernelIdeal.Fox

end
-- ==== Proof.FoxRef.lean ====
/- What the plain attention reference computes, one stage at a time, each read at an index. -/
module

public import proofs.«01_k».proof.Proof.Gen.ReferenceIdeal.Run
public import proofs.«01_k».proof.Proof.FoxMath
public import Idealize.ShloMosaic.Lib.Pointwise
public import Idealize.ShloMosaic.Lib.Pipeline.ValueKit
public import Idealize.ShloMosaic.Lib.WordCmp

@[expose] public section

set_option maxRecDepth 16384

noncomputable section

namespace Cert.ReferenceIdeal.Stage

open Idealize.ShloMosaic Idealize.ShloMosaic.TcCoe
open Cert.ReferenceIdeal Cert.ReferenceIdeal.Gen Cert.FoxMath

section Stages

variable {F : FTy → Type} [FloatOps F]
variable (q k v : FVec F S16x2048x16x64 .f32) (cum : FVec F S16x2048x16 .f32)

/-- The scores before the mask. -/
def raw : FVec F S16x16x2048x2048 .f32 :=
  subf (addf (Host.dotGeneral dot_S16x2048x16x64_S16x2048x16x64_S16x16x2048x2048_3_3_1_1_02_02 none q k)
      (broadcastInDim S16x16x2048x2048 ![0, 1, 2, 3] bcast_S16x16x2048x1_S16x16x2048x2048_0_1_2_3 (broadcastInDim S16x16x2048x1 ![0, 1, 2] bcast_S16x16x2048_S16x16x2048x1_0_1_2 (transpose S16x16x2048 [0, 2, 1] cum transposes_S16x2048x16_S16x16x2048_0_2_1))))
    (broadcastInDim S16x16x2048x2048 ![0, 1, 2, 3] bcast_S16x16x1x2048_S16x16x2048x2048_0_1_2_3 (broadcastInDim S16x16x1x2048 ![0, 1, 3] bcast_S16x16x2048_S16x16x1x2048_0_1_3 (transpose S16x16x2048 [0, 2, 1] cum transposes_S16x2048x16_S16x16x2048_0_2_1)))

/-- The scores, masked out for keys after the query. -/
def scores : FVec F S16x16x2048x2048 .f32 :=
  select (broadcastInDim S16x16x2048x2048 ![2, 3] bcast_S2048x2048_S16x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (raw q k cum) (broadcastInDim S16x16x2048x2048 ![] bcast_S_S16x16x2048x2048 (id (constant S_ .f32 0xFF800000#32)))

/-- A row's maximum. -/
def tops (sc : FVec F S16x16x2048x2048 .f32) : FVec F S16x16x2048 .f32 :=
  maximumf (broadcastInDim S16x16x2048 ![] bcast_S_S16x16x2048 (constant S_ .f32 0xFF800000#32))
    (Host.reduce FloatOps.maximumf sc (constant S_ .f32 0xFF800000#32) reducesTo_S16x16x2048x2048_S16x16x2048_d3 h_S_)

/-- The weights before their sum divides them. -/
def expd (sc : FVec F S16x16x2048x2048 .f32) : FVec F S16x16x2048x2048 .f32 :=
  Host.exp (subf sc (broadcastInDim S16x16x2048x2048 ![0, 1, 2, 3] bcast_S16x16x2048x1_S16x16x2048x2048_0_1_2_3 (broadcastInDim S16x16x2048x1 ![0, 1, 2] bcast_S16x16x2048_S16x16x2048x1_0_1_2 (tops sc))))

/-- The weights. -/
def weights (e : FVec F S16x16x2048x2048 .f32) : FVec F S16x16x2048x2048 .f32 :=
  Host.divf e (broadcastInDim S16x16x2048x2048 ![0, 1, 2, 3] bcast_S16x16x2048x1_S16x16x2048x2048_0_1_2_3 (broadcastInDim S16x16x2048x1 ![0, 1, 2] bcast_S16x16x2048_S16x16x2048x1_0_1_2
    (Host.reduceAdd e (constant S_ .f32 0x00000000#32) reducesTo_S16x16x2048x2048_S16x16x2048_d3 h_S_)))

/-- The weighted values, by query, head and component. -/
def mixed (w : FVec F S16x16x2048x2048 .f32) : FVec F S16x2048x16x64 .f32 :=
  transpose S16x2048x16x64 [0, 3, 1, 2] (Host.dotGeneral dot_S16x2048x16x64_S16x16x2048x2048_S16x16x64x2048_1_3_3_2_02_01 none v w) transposes_S16x16x64x2048_S16x2048x16x64_0_3_1_2

/-- The heads side by side. -/
def joined (x : FVec F S16x2048x16x64 .f32) : FVec F S16x2048x1024 .bf16 :=
  truncf .bf16 (shapeCast _ x shapeCasts_S16x2048x16x64_S16x2048x1024) bitsLt_bf16_f32

/-- The whole reference, as its stages. -/
def whole : FVec F S16x2048x1024 .bf16 := joined (mixed v (weights (expd (scores q k cum))))

/-- The unmasked scores of the program's arguments. -/
theorem raw_res (m : (ℓ : Loc nD τ sig) → Buf (Elt F) ℓ) (c : Dev nD) :
    subf (addf (Host.dotGeneral dot_S16x2048x16x64_S16x2048x16x64_S16x16x2048x2048_3_3_1_1_02_02 none (m ((c.tc : Thread nD τ).loc main_arg0)) (m ((c.tc : Thread nD τ).loc main_arg1)))
      (broadcastInDim S16x16x2048x2048 ![0, 1, 2, 3] bcast_S16x16x2048x1_S16x16x2048x2048_0_1_2_3 (broadcastInDim S16x16x2048x1 ![0, 1, 2] bcast_S16x16x2048_S16x16x2048x1_0_1_2 (transpose S16x16x2048 [0, 2, 1] (m ((c.tc : Thread nD τ).loc main_arg3)) transposes_S16x2048x16_S16x16x2048_0_2_1))))
    (broadcastInDim S16x16x2048x2048 ![0, 1, 2, 3] bcast_S16x16x1x2048_S16x16x2048x2048_0_1_2_3 (broadcastInDim S16x16x1x2048 ![0, 1, 3] bcast_S16x16x2048_S16x16x1x2048_0_1_3 (transpose S16x16x2048 [0, 2, 1] (m ((c.tc : Thread nD τ).loc main_arg3)) transposes_S16x2048x16_S16x16x2048_0_2_1)))
     = raw (m ((c.tc : Thread nD τ).loc main_arg0)) (m ((c.tc : Thread nD τ).loc main_arg1)) (m ((c.tc : Thread nD τ).loc main_arg3)) := by
  unfold raw; rfl

theorem res_eq (m : (ℓ : Loc nD τ sig) → Buf (Elt F) ℓ) (c : Dev nD) :
    Cert.ReferenceIdeal.Value.res_main_v29 (F := F) m c
      = whole (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v29
  rw [raw_res]
  unfold whole joined mixed
  refine congrArg (fun x => truncf .bf16 (shapeCast _ (transpose S16x2048x16x64 [0, 3, 1, 2] (Host.dotGeneral dot_S16x2048x16x64_S16x16x2048x2048_S16x16x64x2048_1_3_3_2_02_01 none (m ((c.tc : Thread nD τ).loc main_arg2)) x) transposes_S16x16x64x2048_S16x2048x16x64_0_3_1_2) shapeCasts_S16x2048x16x64_S16x2048x1024) bitsLt_bf16_f32) ?_
  unfold weights expd tops scores
  generalize raw (m ((c.tc : Thread nD τ).loc main_arg0)) (m ((c.tc : Thread nD τ).loc main_arg1)) (m ((c.tc : Thread nD τ).loc main_arg3)) = R
  rfl

end Stages

variable (q k v : FVec Ideal S16x2048x16x64 .f32) (cum : FVec Ideal S16x2048x16 .f32)

theorem raw_at (b h : Fin 16) (s s' : Fin 2048) : raw q k cum (ix4 b h s s')
    = (∑ d : Fin 64, q (ix4 b s h d) * k (ix4 b s' h d)) + cum (ix3 b s h) - cum (ix3 b s' h) := by
  pointwise! [raw]

theorem bits_low : Ideal.ofBits FTy.f32 0xFF800000#32 = (⊥ : EReal) := by
  simp [Ideal.ofBits, Ideal.ieee]

theorem scores_at (b h : Fin 16) (s s' : Fin 2048) : scores q k cum (ix4 b h s s')
    = if s' ≤ s then (∑ d : Fin 64, q (ix4 b s h d) * k (ix4 b s' h d)) + cum (ix3 b s h) - cum (ix3 b s' h) else ⊥ := by
  pointwise [scores]
  rw [Idealize.ShloMosaic.WordCmp.cmpi_sge_ofNat (by omega) (by omega), raw_at]
  by_cases hx : s' ≤ s
  · rw [if_pos hx, decide_eq_true (show s'.val ≤ s.val from hx)]; rfl
  · rw [if_neg hx, decide_eq_false (show ¬s'.val ≤ s.val from hx)]; exact bits_low

/-- A maximum over the last of four axes. -/
theorem hostMax_at {a b c n : ℕ} {u : Shape} (x : FVec Ideal ⟨4, ![a, b, c, n]⟩ .f32) (init : FVec Ideal u .f32)
    (h : (⟨4, ![a, b, c, n]⟩ : Shape).ReducesTo [3] ⟨3, ![a, b, c]⟩) (hu : 0 < u.numel) (i : Fin a) (j : Fin b) (k : Fin c) :
    Host.reduce (FloatOps.maximumf (F := Ideal) (φ := .f32)) x init h hu (ix3 i j k)
      = Finset.univ.fold (max : EReal → EReal → EReal) (init (Shape.Idx.first hu)) (fun l : Fin n => x (ix4 i j k l)) := by
  rw [Host.reduce_eq_fold, h.fold_fiber_r4_a3]
  rfl

theorem tops_at (sc : FVec Ideal S16x16x2048x2048 .f32) (b h : Fin 16) (s : Fin 2048) : tops sc (ix3 b h s) = rowMax fun s' => sc (ix4 b h s s') := by
  have e := hostMax_at (a := 16) (b := 16) (c := 2048) (n := 2048) sc (constant S_ .f32 0xFF800000#32) reducesTo_S16x16x2048x2048_S16x16x2048_d3 h_S_ b h s
  unfold tops
  rw [maximumf_apply, e]
  generalize (fun l : Fin 2048 => sc (ix4 b h s l)) = R
  have e1 : (constant (F := Ideal) S_ .f32 0xFF800000#32 (Shape.Idx.first h_S_) : EReal) = ⊥ := bits_low
  have e2 : (broadcastInDim S16x16x2048 ![] bcast_S_S16x16x2048 (constant (F := Ideal) S_ .f32 0xFF800000#32) (ix3 b h s) : EReal) = ⊥ := bits_low
  rw [e1, e2]
  exact max_eq_right bot_le

theorem expd_at (sc : FVec Ideal S16x16x2048x2048 .f32) (b h : Fin 16) (s s' : Fin 2048) :
    expd sc (ix4 b h s s') = weight (sc (ix4 b h s s')) (rowMax fun s' => sc (ix4 b h s s')) := by
  pointwise [expd]
  rw [tops_at]

theorem weights_at (e : FVec Ideal S16x16x2048x2048 .f32) (b h : Fin 16) (s s' : Fin 2048) :
    weights e (ix4 b h s s') = Ideal.div (e (ix4 b h s s')) (∑ s', e (ix4 b h s s')) := by
  pointwise! [weights]

theorem mixed_at (w : FVec Ideal S16x16x2048x2048 .f32) (b h : Fin 16) (s : Fin 2048) (d : Fin 64) :
    mixed v w (ix4 b s h d) = ∑ s', v (ix4 b s' h d) * w (ix4 b h s s') := by
  pointwise! [mixed]

end Cert.ReferenceIdeal.Stage

end
-- ==== Proof.FoxEqual.lean ====
/- The attention reference's rows are the means the attention kernel's rows end at. -/
module

public import proofs.«01_k».proof.Proof.FoxRuns
public import proofs.«01_k».proof.Proof.FoxRef

@[expose] public section

set_option maxRecDepth 16384

noncomputable section

namespace Cert.KernelIdeal.Fox

open Idealize.ShloMosaic Idealize.ShloMosaic.TcCoe
open Cert.FoxMath

/-! A row of 2048 keys as four blocks of 512. -/

/-- A row by key block. -/
def blocked (R : Fin 2048 → EReal) (z : EReal) : ℕ → Fin 512 → EReal := fun j c =>
  if hj : j * 512 + c.val < 2048 then R ⟨j * 512 + c.val, hj⟩ else z

theorem blocked_of (R : Fin 2048 → EReal) (z : EReal) (s : Fin 2048) : R s = blocked R z (s.val / 512) ⟨s.val % 512, Nat.mod_lt _ (by decide)⟩ := by
  have e : s.val / 512 * 512 + s.val % 512 = s.val := by omega
  unfold blocked
  rw [dif_pos (by show s.val / 512 * 512 + s.val % 512 < 2048; omega)]
  exact congrArg R (Fin.ext e.symm)

theorem runMax_le {n : ℕ} (S : ℕ → Fin n → EReal) (X : EReal) : ∀ j, (∀ b, b < j → ∀ c, S b c ≤ X) → runMax S j ≤ X
  | 0, _ => bot_le
  | j + 1, h => max_le (runMax_le S X j fun b hb => h b (by omega))
      ((Finset.fold_max_le _).2 ⟨bot_le, fun c _ => h j (by omega) c⟩)

/-- The row's maximum is the running maximum over its blocks. -/
theorem rowMax_blocked (R : Fin 2048 → EReal) : rowMax R = runMax (blocked R ⊥) 4 := by
  refine le_antisymm ((Finset.fold_max_le _).2 ⟨bot_le, fun s _ => ?_⟩) (runMax_le _ _ 4 fun b hb c => ?_)
  · rw [blocked_of R ⊥ s]
    exact le_runMax _ _ 4 _ (by omega)
  · unfold blocked
    split
    · exact le_rowMax R _
    · exact bot_le

/-- A sum over the row is the sum over its blocks. -/
theorem sum_blocked (f : Fin 2048 → EReal) (g : ℕ → Fin 512 → EReal)
    (h : ∀ j c (hj : j * 512 + c.val < 2048), f ⟨j * 512 + c.val, hj⟩ = g j c) : ∑ s, f s = ∑ j ∈ Finset.range 4, ∑ c, g j c := by
  rw [Fin.sum_univ_tiles 4 512 (by norm_num) f, Finset.sum_range]
  exact Finset.sum_congr rfl fun j _ => Finset.sum_congr rfl fun c _ => h j.val c _

section Rows

variable (q k v : FVec Ideal KernelIdeal.S16x2048x16x64 .f32) (cum : FVec Ideal KernelIdeal.S16x2048x16 .f32)

/-- A query's masked scores. -/
abbrev maskedRow (b h : Fin 16) (s : Fin 2048) : Fin 2048 → EReal := fun s' => if s' ≤ s then scoreOf q k cum b h s s' else ⊥

theorem masked_eq (b h : Fin 16) (s : Fin 2048) : blocked (maskedRow q k cum b h s) ⊥ = masked q k cum b h s := by
  funext j c
  unfold blocked masked
  split
  · rfl
  · rfl

/-- The weighted mean over all keys is the mean by key block. -/
theorem mean_whole (b h : Fin 16) (s : Fin 2048) (d : Fin 64) :
    ∑ s', v (ix4 b s' h d) * Ideal.div (weight (maskedRow q k cum b h s s') (rowMax (maskedRow q k cum b h s)))
      (∑ s', weight (maskedRow q k cum b h s s') (rowMax (maskedRow q k cum b h s))) = meanOf q k v cum b h s d := by
  have hr : ∀ j c (hj : j * 512 + c.val < 2048), maskedRow q k cum b h s ⟨j * 512 + c.val, hj⟩ = masked q k cum b h s j c := fun j c hj => by
    rw [← masked_eq]; unfold blocked; rw [dif_pos hj]
  rw [rowMax_blocked, masked_eq]
  have hsum : ∑ s', weight (maskedRow q k cum b h s s') (runMax (masked q k cum b h s) 4)
      = runSum (masked q k cum b h s) (fun _ _ => 1) (runMax (masked q k cum b h s) 4) 4 :=
    sum_blocked _ _ fun j c hj => by rw [hr j c hj, mul_one]
  rw [hsum]
  refine sum_blocked _ _ fun j c hj => ?_
  rw [hr j c hj, mul_comm]
  refine congrArg₂ (fun x y : EReal => x * y) rfl ?_
  unfold valueRow
  rw [dif_pos hj, dif_pos d.isLt]

end Rows

end Cert.KernelIdeal.Fox

namespace Cert.ReferenceIdeal.Stage

open Idealize.ShloMosaic Idealize.ShloMosaic.TcCoe
open Cert.ReferenceIdeal Cert.ReferenceIdeal.Gen Cert.FoxMath Cert.KernelIdeal.Fox

variable (q k v : FVec Ideal S16x2048x16x64 .f32) (cum : FVec Ideal S16x2048x16 .f32)

theorem joined_at (x : FVec Ideal S16x2048x16x64 .f32) (b : Fin 16) (s : Fin 2048) (h : Fin 16) (d : Fin 64) :
    (show EReal from joined (F := Ideal) x (ix3 b s (outLane h d))) = x (ix4 b s h d) :=
  merge_last (a := 16) (b := 2048) (c := 16) (d := 64) (n := 1024) x shapeCasts_S16x2048x16x64_S16x2048x1024 b s h d (outLane h d) (by norm_num) rfl

/-- The reference, at a query, a head and a component. -/
theorem whole_at (b h : Fin 16) (s : Fin 2048) (d : Fin 64) :
    (show EReal from whole (F := Ideal) q k v cum (ix3 b s (outLane h d))) = meanOf q k v cum b h s d := by
  refine (joined_at _ b s h d).trans ((mixed_at v _ b h s d).trans (Eq.trans ?_ (mean_whole q k v cum b h s d)))
  refine Finset.sum_congr rfl fun s' _ => congrArg₂ (fun x y : EReal => x * y) rfl ?_
  rw [weights_at]
  simp only [expd_at, scores_at]
  rfl

end Cert.ReferenceIdeal.Stage

end
-- ==== Proof.FoxFinal.lean ====
/- The attention kernel's result array over the extended reals, for finite queries, keys and sums: the reference's. -/
module

public import proofs.«01_k».proof.Proof.FoxEqual
public import proofs.«01_k».proof.Pre_finite

@[expose] public section

set_option maxRecDepth 16384

noncomputable section

namespace Cert.KernelIdeal.Fox

open Idealize.ShloMosaic Idealize.ShloMosaic.TcCoe Idealize.ShloMosaic.ValueKit Idealize.SL.Sem
open Cert.KernelIdeal Cert.KernelIdeal.Gen

variable (m : (ℓ : Loc nD τ sig) → Buf (Elt Ideal) ℓ) (c : Dev nD)

/-- The stored result stays until the query block's last point. -/
theorem out_stays (b i : ℕ) (hb : b < 16) (hi : i < 4) : ∀ n, i + n < 4 →
    (before m c (b * 16 + i * 4 + i + n + 1)).out = (before m c (b * 16 + i * 4 + i + 1)).out
  | 0, _ => rfl
  | n + 1, hn => by
    have hN : cfg0.N = 256 := N_0
    have ht : b * 16 + i * 4 + i + (n + 1) < cfg0.N := by omega
    refine (out_kept m c ⟨b * 16 + i * 4 + i + (n + 1), ht⟩ fun hd => ?_).trans (out_stays b i hb hi n (by omega))
    have := (diagonal_iff _).1 hd
    dsimp only at this
    have h4 : (b * 16 + i * 4 + i + (n + 1)) / 4 = 4 * b + i := by omega
    rw [h4] at this
    omega

/-- What a query block's last point holds. -/
theorem last_holds (hc : ∀ j, ∃ x : ℝ, argCum m c j = x) (hr : ∀ b h s s', ∃ x : ℝ, scoreOf (argQ m c) (argK m c) (argCum m c) b h s s' = x)
    (t : Fin cfg0.N) (ht : t.val % 4 = 3) (r : Fin 512) (l : Fin 1024) (b : Fin 16) (s : Fin 2048)
    (hb : (b : ℕ) = t.val / 16) (hs : (s : ℕ) = t.val / 4 % 4 * 512 + r) :
    (show EReal from (before m c (t.val + 1)).out (ix3 0 r l))
      = Cert.ReferenceIdeal.Stage.whole (F := Ideal) (argQ m c) (argK m c) (argV m c) (argCum m c) (ix3 b s l) := by
  have hN : t.val < 256 := lt_of_lt_of_eq t.isLt (show cfg0.N = 256 from N_0)
  have hi : t.val / 4 % 4 < 4 := Nat.mod_lt _ (by decide)
  have hl : l = outLane ⟨l.val / 64, by omega⟩ ⟨l.val % 64, Nat.mod_lt _ (by decide)⟩ := Fin.ext (by show l.val = l.val / 64 * 64 + l.val % 64; omega)
  have e := out_stays m c b.val (t.val / 4 % 4) b.isLt hi (3 - t.val / 4 % 4) (by omega)
  rw [show b.val * 16 + t.val / 4 % 4 * 4 + t.val / 4 % 4 + (3 - t.val / 4 % 4) + 1 = t.val + 1 by omega] at e
  rw [hl, e]
  have ht' : b.val * 16 + t.val / 4 % 4 * 4 + t.val / 4 % 4 < cfg0.N := lt_of_lt_of_eq (by omega : _ < 256) (show cfg0.N = 256 from N_0).symm
  exact (out_holds m c hc hr b _ s (t.val / 4 % 4) hi r hs _ ⟨_, ht'⟩ rfl).trans
    (Cert.ReferenceIdeal.Stage.whole_at (argQ m c) (argK m c) (argV m c) (argCum m c) b _ s _).symm

theorem final (hc : ∀ j, ∃ x : ℝ, argCum m c j = x) (hr : ∀ b h s s', ∃ x : ℝ, scoreOf (argQ m c) (argK m c) (argCum m c) b h s s' = x) :
    (data m 0 c).arrAt 3 (cfgs 0).N = Cert.ReferenceIdeal.Stage.whole (F := Ideal) (argQ m c) (argK m c) (argV m c) (argCum m c) := by
  refine (data m 0 c).arrAt_eq_of_covers 3 _ (by decide +kernel) fun t hf y => ?_
  have ht : t.val % 4 = 3 := (flush0_3 t).1 hf
  generalize hG : Cert.ReferenceIdeal.Stage.whole (F := Ideal) (argQ m c) (argK m c) (argV m c) (argCum m c) = G
  blk_simp
  rw [after_3]
  frame_out
  obtain ⟨y0, y1, y2, rfl⟩ : ∃ (y0 : Fin 1) (y1 : Fin 512) (y2 : Fin 1024), y = ix3 y0 y1 y2 := ⟨y 0, y 1, y 2, eq_ix3 y⟩
  obtain rfl : y0 = 0 := Subsingleton.elim _ _
  have hN : t.val < 256 := lt_of_lt_of_eq t.isLt (show cfg0.N = 256 from N_0)
  have key := last_holds m c hc hr t ht y1 y2 ⟨t.val / 16, by omega⟩ ⟨t.val / 4 % 4 * 512 + y1, by omega⟩ rfl rfl
  rw [hG] at key
  refine key.trans ?_
  congr 1
  blk_ext [idx t]

/-! The precondition. -/

instance preFacts : Cert.Pre_finite.Facts where
  bcast_S_S16x2048x16x64 := by decide
  bcast_S_S16x2048x16 := by decide

theorem real_of_lt (a : EReal) (h : max a (-a) < ⊤) : ∃ x : ℝ, a = x := by
  induction a with
  | top => exact absurd h (by simp)
  | bot => exact absurd h (by simp)
  | coe x => exact ⟨x, rfl⟩

/-- Where an entry's absolute value is below infinity the entry is a real. -/
theorem real_of_abs_lt {s : Shape} (A B : FVec Ideal s .f32) (hB : ∀ j, (B j : EReal) = ⊤) (h : cmpf .olt (Host.absf A) B = fun _ => 1#1) (j : s.Idx) :
    ∃ x : ℝ, (A j : EReal) = x := by
  have h1 := congrFun h j
  have h2 : (max (A j : EReal) (-(A j : EReal))) < ⊤ := by
    by_contra hn
    have h3 : cmpf .olt (Host.absf A) B j = BitVec.ofBool (decide ((max (A j : EReal) (-(A j : EReal))) < B j)) := rfl
    rw [h3, hB j, decide_eq_false hn] at h1
    exact absurd h1 (by decide)
  exact real_of_lt _ h2

/-- The precondition says that every query, key and sum is a real. -/
theorem finite_reals (q k v : FVec Ideal S16x2048x16x64 .f32) (cum : FVec Ideal S16x2048x16 .f32)
    (h : (Cert.Pre_finite.fn (F := Ideal) q k v cum).1 = (fun _ => 1#1) ∧ (Cert.Pre_finite.fn (F := Ideal) q k v cum).2.1 = (fun _ => 1#1)
      ∧ (Cert.Pre_finite.fn (F := Ideal) q k v cum).2.2 = (fun _ => 1#1)) :
    (∀ j, ∃ x : ℝ, (q j : EReal) = x) ∧ (∀ j, ∃ x : ℝ, (k j : EReal) = x) ∧ ∀ j, ∃ x : ℝ, (cum j : EReal) = x :=
  ⟨real_of_abs_lt q _ (fun _ => ofBits_high) h.1, real_of_abs_lt k _ (fun _ => ofBits_high) h.2.1, real_of_abs_lt cum _ (fun _ => ofBits_high) h.2.2⟩

/-- The result array, where the precondition holds. -/
theorem final_finite (h : (Cert.Pre_finite.fn (F := Ideal) (argQ m c) (argK m c) (argV m c) (argCum m c)).1 = (fun _ => 1#1)
      ∧ (Cert.Pre_finite.fn (F := Ideal) (argQ m c) (argK m c) (argV m c) (argCum m c)).2.1 = (fun _ => 1#1)
      ∧ (Cert.Pre_finite.fn (F := Ideal) (argQ m c) (argK m c) (argV m c) (argCum m c)).2.2 = (fun _ => 1#1)) :
    (data m 0 c).arrAt 3 (cfgs 0).N = Cert.ReferenceIdeal.Stage.whole (F := Ideal) (argQ m c) (argK m c) (argV m c) (argCum m c) := by
  obtain ⟨hq, hk, hc⟩ := finite_reals _ _ _ _ h
  exact final m c hc fun b h s s' => scoreOf_real _ _ _ b h s s' hq hk hc

/-- The run, with what it leaves in every array. -/
theorem run_arrays (ρ : Dev nD → PrngReg) : θ_run defs (onTc (τ := τ) (main (F := Ideal))) ⟨m, fun _ => 0, ρ⟩ (Pipeline.FramePost cfgs (data m) 0 (V m)) :=
  (θ_run defs _ _).mono (fun _ h => h.1) (run_counters m ρ)

end Cert.KernelIdeal.Fox

end
-- ==== Proof.lean ====
module

public import proofs.«01_k».proof.Proof.FoxInValue
public import proofs.«01_k».proof.Proof.FoxNewValue
public import proofs.«01_k».proof.Defs
public import proofs.«01_k».proof.Proof.Gen.AbIn.Frame
public import proofs.«01_k».proof.Proof.Gen.AbInIdeal.Frame
public import proofs.«01_k».proof.Proof.Gen.AbInRefIdeal.Run
public import proofs.«01_k».proof.Proof.Gen.FoxIn.Frame
public import proofs.«01_k».proof.Proof.Gen.FoxInIdeal.Frame
public import proofs.«01_k».proof.Proof.Gen.FoxInRefIdeal.Run
public import proofs.«01_k».proof.Proof.Gen.FoxNew.Frame
public import proofs.«01_k».proof.Proof.Gen.FoxNewIdeal.Frame
public import proofs.«01_k».proof.Proof.Gen.FoxNewRefIdeal.Run
public import proofs.«01_k».proof.Proof.Gen.Mid.Frame
public import proofs.«01_k».proof.Proof.Gen.MidIdeal.Frame
public import proofs.«01_k».proof.Proof.Gen.MidRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Mlp.Frame
public import proofs.«01_k».proof.Proof.Gen.MlpIdeal.Frame
public import proofs.«01_k».proof.Proof.Gen.MlpRefIdeal.Run
public import proofs.«01_k».proof.Proof.MlpValue
public import proofs.«01_k».proof.Proof.MidValue
public import proofs.«01_k».proof.Proof.ProjValue
public import proofs.«01_k».proof.Proof.AbInValue
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal.Run
public import proofs.«01_k».proof.Proof.FoxBitsFrame
public import proofs.«01_k».proof.Proof.FoxFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem mlp_algebraic : Cert.algebraic_MlpIdeal_MlpRefIdeal := by
  pair_intro
  · run_from Cert.MlpIdeal.Gen.run_main m g
  · run_from Cert.MlpRefIdeal.Value.run m' g'
    refine Eq.trans ?_ (Cert.MlpIdeal.Stage.final m c).symm
    obtain ⟨h0, h1, h2, h3, h4, h5, h6, h7⟩ := hagree c
    unfold Cert.MlpIdeal.Stage.refResid Cert.MlpIdeal.Stage.refHid Cert.MlpIdeal.Stage.refNormed
    rw [← h0, ← h1, ← h2, ← h3, ← h4, ← h5, ← h6, ← h7]
    rfl

theorem mlpRef_frame : Cert.quiescent_MlpRefIdeal := fun m g _ =>
  (θ_run Cert.MlpRefIdeal.defs _ _).mono
    (fun r h => ⟨fun c => (h c).2, sem_eq_zero_of_no_sems (by decide) r.2⟩) (Cert.MlpRefIdeal.Value.run (F := Ideal) m g)

theorem fox_algebraic : Cert.algebraic_KernelIdeal_ReferenceIdeal_pre_finite := by
  pair_intro
  · run_from Cert.KernelIdeal.Fox.run_arrays m g
  · run_from Cert.ReferenceIdeal.Value.run m' g'
    refine Eq.trans ?_ (Cert.KernelIdeal.Fox.final_finite m c (hpre c)).symm
    obtain ⟨h0, h1, h2, h3⟩ := hagree c
    refine (Cert.ReferenceIdeal.Stage.res_eq m' c).trans ?_
    rw [h0, h1, h2, h3]

theorem foxRef_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

theorem mid_algebraic : Cert.algebraic_MidIdeal_MidRefIdeal := by
  pair_intro
  · run_from Cert.MidIdeal.Gen.run_main m g
  · run_from Cert.MidRefIdeal.Value.run m' g'
    refine Eq.trans ?_ (Cert.MidIdeal.Stage.final m c).symm
    obtain ⟨h0, h1, h2, h3, h4, h5, h6, h7⟩ := hagree c
    unfold Cert.MidIdeal.Stage.refResid Cert.MlpIdeal.Stage.hidOf
    rw [← h0, ← h1, ← h2, ← h3, ← h4, ← h5, ← h6]
    rfl

theorem midRef_frame : Cert.quiescent_MidRefIdeal := fun m g _ =>
  (θ_run Cert.MidRefIdeal.defs _ _).mono
    (fun r h => ⟨fun c => (h c).2, sem_eq_zero_of_no_sems (by decide) r.2⟩) (Cert.MidRefIdeal.Value.run (F := Ideal) m g)

theorem proj_algebraic : Cert.algebraic_ProjIdeal_ProjRefIdeal := by
  pair_intro
  · run_from Cert.ProjIdeal.Gen.run_main m g
  · run_from Cert.ProjRefIdeal.Value.run m' g'
    refine Eq.trans ?_ (Cert.ProjIdeal.Stage.final m c).symm
    obtain ⟨h0, h1, h2, h3⟩ := hagree c
    rw [← h0, ← h1, ← h2, ← h3]
    rfl

theorem projRef_frame : Cert.quiescent_ProjRefIdeal := fun m g _ =>
  (θ_run Cert.ProjRefIdeal.defs _ _).mono
    (fun r h => ⟨fun c => (h c).2, sem_eq_zero_of_no_sems (by decide) r.2⟩) (Cert.ProjRefIdeal.Value.run (F := Ideal) m g)

theorem ab_algebraic : Cert.algebraic_AbInIdeal_AbInRefIdeal := by
  pair_intro
  · run_from Cert.AbInIdeal.Stage.run m g
  · refine Idealize.ShloMosaic.θ_run_mono (Cert.AbInRefIdeal.Stage.run m' g') fun r h c => ?_
    obtain ⟨r0, r1, r2, r3, r4, ra⟩ := h c
    obtain ⟨h0, h1, h2, h3, h4, h5, h6⟩ := hagree c
    have e : Cert.AbInRefIdeal.Stage.projOf m' c = Cert.AbInIdeal.Stage.refProj m c := by
      unfold Cert.AbInRefIdeal.Stage.projOf Cert.AbInIdeal.Stage.refProj
      rw [h0, h1, h2, h3, h4]
    refine ⟨r0.trans (congrArg _ e), r1.trans (congrArg _ e), r2.trans (congrArg _ e), r3.trans (congrArg _ e), r4.trans ?_, ra⟩
    rw [e, h5, h6]

theorem abRef_frame : Cert.quiescent_AbInRefIdeal := fun m g _ =>
  (θ_run Cert.AbInRefIdeal.defs _ _).mono
    (fun r h => ⟨fun c => (h c).2.2.2.2.2, sem_eq_zero_of_no_sems (by decide) r.2⟩) (Cert.AbInRefIdeal.Stage.run m g)

theorem foxIn_algebraic : Cert.algebraic_FoxInIdeal_FoxInRefIdeal := by
  pair_intro
  · run_from Cert.FoxInIdeal.Stage.run m g
  · refine Idealize.ShloMosaic.θ_run_mono (Cert.FoxInRefIdeal.Stage.run m' g') fun r h c => ?_
    obtain ⟨r0, r1, r2, ra⟩ := h c
    obtain ⟨h0, h1, h2, h3, h4, h5⟩ := hagree c
    have e : Cert.FoxInRefIdeal.Stage.projOf m' c = Cert.FoxInIdeal.Stage.refProj m c := by
      unfold Cert.FoxInRefIdeal.Stage.projOf Cert.FoxInIdeal.Stage.refProj
      rw [h0, h1, h2, h3, h4]
    refine ⟨r0.trans (congrArg _ e), r1.trans (congrArg _ e), r2.trans ?_, ra⟩
    rw [e, h5]

theorem foxInRef_frame : Cert.quiescent_FoxInRefIdeal := fun m g _ =>
  (θ_run Cert.FoxInRefIdeal.defs _ _).mono
    (fun r h => ⟨fun c => (h c).2.2.2, sem_eq_zero_of_no_sems (by decide) r.2⟩) (Cert.FoxInRefIdeal.Stage.run m g)

theorem foxNew_algebraic : Cert.algebraic_FoxNewIdeal_FoxNewRefIdeal := by
  pair_intro
  · run_from Cert.FoxNewIdeal.Stage.run m g
  · refine Idealize.ShloMosaic.θ_run_mono (Cert.FoxNewRefIdeal.Stage.run m' g') fun r h c => ?_
    obtain ⟨r0, r1, r2, ra⟩ := h c
    obtain ⟨h0, h1, h2, h3, h4, h5⟩ := hagree c
    have e : Cert.FoxNewRefIdeal.Stage.projOf m' c = Cert.FoxNewIdeal.Stage.refProj m c := by
      unfold Cert.FoxNewRefIdeal.Stage.projOf Cert.FoxNewIdeal.Stage.refProj
      rw [h0, h1, h2, h3, h4]
    refine ⟨r0.trans (congrArg _ e), r1.trans (congrArg _ e), r2.trans ?_, ra⟩
    rw [e, h5]

theorem foxNewRef_frame : Cert.quiescent_FoxNewRefIdeal := fun m g _ =>
  (θ_run Cert.FoxNewRefIdeal.defs _ _).mono
    (fun r h => ⟨fun c => (h c).2.2.2, sem_eq_zero_of_no_sems (by decide) r.2⟩) (Cert.FoxNewRefIdeal.Stage.run m g)

theorem claim : Cert.Claim := ⟨Cert.Kernel.Gen.facts, Cert.KernelIdeal.Gen.facts, Cert.ReferenceIdeal.Gen.facts,
  Cert.Mlp.Gen.facts, Cert.MlpIdeal.Gen.facts, Cert.MlpRefIdeal.Gen.facts,
  Cert.Mid.Gen.facts, Cert.MidIdeal.Gen.facts, Cert.MidRefIdeal.Gen.facts, Cert.Proj.Gen.facts, Cert.ProjIdeal.Gen.facts, Cert.ProjRefIdeal.Gen.facts,
  Cert.AbIn.Gen.facts, Cert.AbInIdeal.Gen.facts, Cert.AbInRefIdeal.Gen.facts,
  Cert.FoxIn.Gen.facts, Cert.FoxInIdeal.Gen.facts, Cert.FoxInRefIdeal.Gen.facts,
  Cert.FoxNew.Gen.facts, Cert.FoxNewIdeal.Gen.facts, Cert.FoxNewRefIdeal.Gen.facts,
  Cert.KernelIdeal.Fox.preFacts,
  fun m ρ _ => Cert.Kernel.Fox.frame_counters m ρ, fun m ρ _ => Cert.KernelIdeal.Fox.frame_counters m ρ,
  fun m ρ _ => Cert.KernelIdeal.Fox.frame_counters m ρ, foxRef_frame, fun m ρ _ => foxRef_frame m ρ trivial,
  fun m ρ _ => Cert.Mlp.Gen.frame m ρ, fun m ρ _ => Cert.MlpIdeal.Gen.frame m ρ, mlpRef_frame,
  fun m ρ _ => Cert.Mid.Gen.frame m ρ, fun m ρ _ => Cert.MidIdeal.Gen.frame m ρ, midRef_frame,
  fun m ρ _ => Cert.Proj.Gen.frame m ρ, fun m ρ _ => Cert.ProjIdeal.Gen.frame m ρ, projRef_frame,
  fun m ρ _ => Cert.AbIn.Gen.frame m ρ, fun m ρ _ => Cert.AbInIdeal.Gen.frame m ρ, abRef_frame,
  fun m ρ _ => Cert.FoxIn.Gen.frame m ρ, fun m ρ _ => Cert.FoxInIdeal.Gen.frame m ρ, foxInRef_frame,
  fun m ρ _ => Cert.FoxNew.Gen.frame m ρ, fun m ρ _ => Cert.FoxNewIdeal.Gen.frame m ρ, foxNewRef_frame,
  IdealRules.named_const.statement Cert.KernelIdeal.κ "mask" .f32 0xF149F2CA#32 ⊥ rfl, fox_algebraic, trivial, mlp_algebraic, trivial, mid_algebraic, trivial, proj_algebraic,
  trivial, ab_algebraic, trivial, foxIn_algebraic, trivial, foxNew_algebraic⟩

end Cert.Proof

end
